-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Rg (m : (ℓ : Loc Cert.Rg.nD Cert.Rg.τ Cert.Rg.sig) → Buf (Elt Bits) ℓ) : Prop :=
  True

def Pre_RgIdeal (m : (ℓ : Loc Cert.RgIdeal.nD Cert.RgIdeal.τ Cert.RgIdeal.sig) → Buf (Elt Ideal) ℓ) : Prop :=
  True

def Pre_RgRefIdeal (m : (ℓ : Loc Cert.RgRefIdeal.nD Cert.RgRefIdeal.τ Cert.RgRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Rg [hRg : Cert.Rg.Facts] : Prop :=
  ∀ (m : (ℓ : Loc Cert.Rg.nD Cert.Rg.τ Cert.Rg.sig) → Buf (Elt Bits) ℓ) (g : Dev Cert.Rg.nD → PrngReg), Pre_Rg m →
    θ_run (Cert.Rg.defs (F := Bits)) (onTc (τ := Cert.Rg.τ) (Cert.Rg.main (F := Bits))) ⟨m, fun _ => 0, g⟩ (fun r => (∀ c : Dev Cert.Rg.nD,
      r.2.mem ((c.tc : Thread Cert.Rg.nD Cert.Rg.τ).loc Cert.Rg.main_arg0) = m ((c.tc : Thread Cert.Rg.nD Cert.Rg.τ).loc Cert.Rg.main_arg0)
      ∧ r.2.mem ((c.tc : Thread Cert.Rg.nD Cert.Rg.τ).loc Cert.Rg.main_arg1) = m ((c.tc : Thread Cert.Rg.nD Cert.Rg.τ).loc Cert.Rg.main_arg1)
      ∧ r.2.mem ((c.tc : Thread Cert.Rg.nD Cert.Rg.τ).loc Cert.Rg.main_arg2) = m ((c.tc : Thread Cert.Rg.nD Cert.Rg.τ).loc Cert.Rg.main_arg2)
      ∧ r.2.mem ((c.tc : Thread Cert.Rg.nD Cert.Rg.τ).loc Cert.Rg.main_arg3) = m ((c.tc : Thread Cert.Rg.nD Cert.Rg.τ).loc Cert.Rg.main_arg3)
      ∧ r.2.mem ((c.tc : Thread Cert.Rg.nD Cert.Rg.τ).loc Cert.Rg.main_arg4) = m ((c.tc : Thread Cert.Rg.nD Cert.Rg.τ).loc Cert.Rg.main_arg4)
      ∧ r.2.mem ((c.tc : Thread Cert.Rg.nD Cert.Rg.τ).loc Cert.Rg.main_arg5) = m ((c.tc : Thread Cert.Rg.nD Cert.Rg.τ).loc Cert.Rg.main_arg5)
      ∧ r.2.mem ((c.tc : Thread Cert.Rg.nD Cert.Rg.τ).loc Cert.Rg.main_arg6) = m ((c.tc : Thread Cert.Rg.nD Cert.Rg.τ).loc Cert.Rg.main_arg6)
      ∧ r.2.mem ((c.tc : Thread Cert.Rg.nD Cert.Rg.τ).loc Cert.Rg.main_arg7) = m ((c.tc : Thread Cert.Rg.nD Cert.Rg.τ).loc Cert.Rg.main_arg7)
      ∧ r.2.mem ((c.tc : Thread Cert.Rg.nD Cert.Rg.τ).loc Cert.Rg.main_arg8) = m ((c.tc : Thread Cert.Rg.nD Cert.Rg.τ).loc Cert.Rg.main_arg8)
      ∧ r.2.mem ((c.tc : Thread Cert.Rg.nD Cert.Rg.τ).loc Cert.Rg.main_arg9) = m ((c.tc : Thread Cert.Rg.nD Cert.Rg.τ).loc Cert.Rg.main_arg9)
      ∧ r.2.mem ((c.tc : Thread Cert.Rg.nD Cert.Rg.τ).loc Cert.Rg.main_arg10) = m ((c.tc : Thread Cert.Rg.nD Cert.Rg.τ).loc Cert.Rg.main_arg10)
      ∧ r.2.mem ((c.tc : Thread Cert.Rg.nD Cert.Rg.τ).loc Cert.Rg.main_arg11) = m ((c.tc : Thread Cert.Rg.nD Cert.Rg.τ).loc Cert.Rg.main_arg11)
      ∧ r.2.mem ((c.tc : Thread Cert.Rg.nD Cert.Rg.τ).loc Cert.Rg.main_arg12) = m ((c.tc : Thread Cert.Rg.nD Cert.Rg.τ).loc Cert.Rg.main_arg12))
      ∧ r.2.sem = fun _ => 0)

def quiescent_RgIdeal [hRgIdeal : Cert.RgIdeal.Facts] : Prop :=
  ∀ (m : (ℓ : Loc Cert.RgIdeal.nD Cert.RgIdeal.τ Cert.RgIdeal.sig) → Buf (Elt Ideal) ℓ) (g : Dev Cert.RgIdeal.nD → PrngReg), Pre_RgIdeal m →
    θ_run (Cert.RgIdeal.defs (F := Ideal)) (onTc (τ := Cert.RgIdeal.τ) (Cert.RgIdeal.main (F := Ideal))) ⟨m, fun _ => 0, g⟩ (fun r => (∀ c : Dev Cert.RgIdeal.nD,
      r.2.mem ((c.tc : Thread Cert.RgIdeal.nD Cert.RgIdeal.τ).loc Cert.RgIdeal.main_arg0) = m ((c.tc : Thread Cert.RgIdeal.nD Cert.RgIdeal.τ).loc Cert.RgIdeal.main_arg0)
      ∧ r.2.mem ((c.tc : Thread Cert.RgIdeal.nD Cert.RgIdeal.τ).loc Cert.RgIdeal.main_arg1) = m ((c.tc : Thread Cert.RgIdeal.nD Cert.RgIdeal.τ).loc Cert.RgIdeal.main_arg1)
      ∧ r.2.mem ((c.tc : Thread Cert.RgIdeal.nD Cert.RgIdeal.τ).loc Cert.RgIdeal.main_arg2) = m ((c.tc : Thread Cert.RgIdeal.nD Cert.RgIdeal.τ).loc Cert.RgIdeal.main_arg2)
      ∧ r.2.mem ((c.tc : Thread Cert.RgIdeal.nD Cert.RgIdeal.τ).loc Cert.RgIdeal.main_arg3) = m ((c.tc : Thread Cert.RgIdeal.nD Cert.RgIdeal.τ).loc Cert.RgIdeal.main_arg3)
      ∧ r.2.mem ((c.tc : Thread Cert.RgIdeal.nD Cert.RgIdeal.τ).loc Cert.RgIdeal.main_arg4) = m ((c.tc : Thread Cert.RgIdeal.nD Cert.RgIdeal.τ).loc Cert.RgIdeal.main_arg4)
      ∧ r.2.mem ((c.tc : Thread Cert.RgIdeal.nD Cert.RgIdeal.τ).loc Cert.RgIdeal.main_arg5) = m ((c.tc : Thread Cert.RgIdeal.nD Cert.RgIdeal.τ).loc Cert.RgIdeal.main_arg5)
      ∧ r.2.mem ((c.tc : Thread Cert.RgIdeal.nD Cert.RgIdeal.τ).loc Cert.RgIdeal.main_arg6) = m ((c.tc : Thread Cert.RgIdeal.nD Cert.RgIdeal.τ).loc Cert.RgIdeal.main_arg6)
      ∧ r.2.mem ((c.tc : Thread Cert.RgIdeal.nD Cert.RgIdeal.τ).loc Cert.RgIdeal.main_arg7) = m ((c.tc : Thread Cert.RgIdeal.nD Cert.RgIdeal.τ).loc Cert.RgIdeal.main_arg7)
      ∧ r.2.mem ((c.tc : Thread Cert.RgIdeal.nD Cert.RgIdeal.τ).loc Cert.RgIdeal.main_arg8) = m ((c.tc : Thread Cert.RgIdeal.nD Cert.RgIdeal.τ).loc Cert.RgIdeal.main_arg8)
      ∧ r.2.mem ((c.tc : Thread Cert.RgIdeal.nD Cert.RgIdeal.τ).loc Cert.RgIdeal.main_arg9) = m ((c.tc : Thread Cert.RgIdeal.nD Cert.RgIdeal.τ).loc Cert.RgIdeal.main_arg9)
      ∧ r.2.mem ((c.tc : Thread Cert.RgIdeal.nD Cert.RgIdeal.τ).loc Cert.RgIdeal.main_arg10) = m ((c.tc : Thread Cert.RgIdeal.nD Cert.RgIdeal.τ).loc Cert.RgIdeal.main_arg10)
      ∧ r.2.mem ((c.tc : Thread Cert.RgIdeal.nD Cert.RgIdeal.τ).loc Cert.RgIdeal.main_arg11) = m ((c.tc : Thread Cert.RgIdeal.nD Cert.RgIdeal.τ).loc Cert.RgIdeal.main_arg11)
      ∧ r.2.mem ((c.tc : Thread Cert.RgIdeal.nD Cert.RgIdeal.τ).loc Cert.RgIdeal.main_arg12) = m ((c.tc : Thread Cert.RgIdeal.nD Cert.RgIdeal.τ).loc Cert.RgIdeal.main_arg12))
      ∧ r.2.sem = fun _ => 0)

def quiescent_RgRefIdeal [hRgRefIdeal : Cert.RgRefIdeal.Facts] : Prop :=
  ∀ (m : (ℓ : Loc Cert.RgRefIdeal.nD Cert.RgRefIdeal.τ Cert.RgRefIdeal.sig) → Buf (Elt Ideal) ℓ) (g : Dev Cert.RgRefIdeal.nD → PrngReg), Pre_RgRefIdeal m →
    θ_run (Cert.RgRefIdeal.defs (F := Ideal)) (onTc (τ := Cert.RgRefIdeal.τ) (Cert.RgRefIdeal.main (F := Ideal))) ⟨m, fun _ => 0, g⟩ (fun r => (∀ c : Dev Cert.RgRefIdeal.nD,
      r.2.mem ((c.tc : Thread Cert.RgRefIdeal.nD Cert.RgRefIdeal.τ).loc Cert.RgRefIdeal.main_arg0) = m ((c.tc : Thread Cert.RgRefIdeal.nD Cert.RgRefIdeal.τ).loc Cert.RgRefIdeal.main_arg0)
      ∧ r.2.mem ((c.tc : Thread Cert.RgRefIdeal.nD Cert.RgRefIdeal.τ).loc Cert.RgRefIdeal.main_arg1) = m ((c.tc : Thread Cert.RgRefIdeal.nD Cert.RgRefIdeal.τ).loc Cert.RgRefIdeal.main_arg1)
      ∧ r.2.mem ((c.tc : Thread Cert.RgRefIdeal.nD Cert.RgRefIdeal.τ).loc Cert.RgRefIdeal.main_arg2) = m ((c.tc : Thread Cert.RgRefIdeal.nD Cert.RgRefIdeal.τ).loc Cert.RgRefIdeal.main_arg2)
      ∧ r.2.mem ((c.tc : Thread Cert.RgRefIdeal.nD Cert.RgRefIdeal.τ).loc Cert.RgRefIdeal.main_arg3) = m ((c.tc : Thread Cert.RgRefIdeal.nD Cert.RgRefIdeal.τ).loc Cert.RgRefIdeal.main_arg3)
      ∧ r.2.mem ((c.tc : Thread Cert.RgRefIdeal.nD Cert.RgRefIdeal.τ).loc Cert.RgRefIdeal.main_arg4) = m ((c.tc : Thread Cert.RgRefIdeal.nD Cert.RgRefIdeal.τ).loc Cert.RgRefIdeal.main_arg4)
      ∧ r.2.mem ((c.tc : Thread Cert.RgRefIdeal.nD Cert.RgRefIdeal.τ).loc Cert.RgRefIdeal.main_arg5) = m ((c.tc : Thread Cert.RgRefIdeal.nD Cert.RgRefIdeal.τ).loc Cert.RgRefIdeal.main_arg5)
      ∧ r.2.mem ((c.tc : Thread Cert.RgRefIdeal.nD Cert.RgRefIdeal.τ).loc Cert.RgRefIdeal.main_arg6) = m ((c.tc : Thread Cert.RgRefIdeal.nD Cert.RgRefIdeal.τ).loc Cert.RgRefIdeal.main_arg6)
      ∧ r.2.mem ((c.tc : Thread Cert.RgRefIdeal.nD Cert.RgRefIdeal.τ).loc Cert.RgRefIdeal.main_arg7) = m ((c.tc : Thread Cert.RgRefIdeal.nD Cert.RgRefIdeal.τ).loc Cert.RgRefIdeal.main_arg7)
      ∧ r.2.mem ((c.tc : Thread Cert.RgRefIdeal.nD Cert.RgRefIdeal.τ).loc Cert.RgRefIdeal.main_arg8) = m ((c.tc : Thread Cert.RgRefIdeal.nD Cert.RgRefIdeal.τ).loc Cert.RgRefIdeal.main_arg8)
      ∧ r.2.mem ((c.tc : Thread Cert.RgRefIdeal.nD Cert.RgRefIdeal.τ).loc Cert.RgRefIdeal.main_arg9) = m ((c.tc : Thread Cert.RgRefIdeal.nD Cert.RgRefIdeal.τ).loc Cert.RgRefIdeal.main_arg9)
      ∧ r.2.mem ((c.tc : Thread Cert.RgRefIdeal.nD Cert.RgRefIdeal.τ).loc Cert.RgRefIdeal.main_arg10) = m ((c.tc : Thread Cert.RgRefIdeal.nD Cert.RgRefIdeal.τ).loc Cert.RgRefIdeal.main_arg10)
      ∧ r.2.mem ((c.tc : Thread Cert.RgRefIdeal.nD Cert.RgRefIdeal.τ).loc Cert.RgRefIdeal.main_arg11) = m ((c.tc : Thread Cert.RgRefIdeal.nD Cert.RgRefIdeal.τ).loc Cert.RgRefIdeal.main_arg11)
      ∧ r.2.mem ((c.tc : Thread Cert.RgRefIdeal.nD Cert.RgRefIdeal.τ).loc Cert.RgRefIdeal.main_arg12) = m ((c.tc : Thread Cert.RgRefIdeal.nD Cert.RgRefIdeal.τ).loc Cert.RgRefIdeal.main_arg12))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v30) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v2_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v2_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v27) = v0 c
          ∧ r.2.mem ((c.tc : Thread Cert.QkvRefIdeal.nD Cert.QkvRefIdeal.τ).loc Cert.QkvRefIdeal.main_v29) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Attn_AttnIdeal : Prop :=
  IdealRules.named_const.Statement Cert.AttnIdeal.κ "log2e" .f32 0x3FB8AA3B#32 (((Real.log 2)⁻¹ : ℝ) : EReal)

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v34)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v34) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v25) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Rg_RgIdeal : Prop :=
  True

def algebraic_RgIdeal_RgRefIdeal [hRgIdeal : Cert.RgIdeal.Facts] [hRgRefIdeal : Cert.RgRefIdeal.Facts] : Prop :=
  ∀ (m : (ℓ : Loc Cert.RgIdeal.nD Cert.RgIdeal.τ Cert.RgIdeal.sig) → Buf (Elt Ideal) ℓ) (g : Dev Cert.RgIdeal.nD → PrngReg)
    (m' : (ℓ : Loc Cert.RgRefIdeal.nD Cert.RgRefIdeal.τ Cert.RgRefIdeal.sig) → Buf (Elt Ideal) ℓ) (g' : Dev Cert.RgRefIdeal.nD → PrngReg), Pre_RgIdeal m →
    (∀ c : Dev Cert.RgIdeal.nD,
      m' ((c.tc : Thread Cert.RgRefIdeal.nD Cert.RgRefIdeal.τ).loc Cert.RgRefIdeal.main_arg0) = m ((c.tc : Thread Cert.RgIdeal.nD Cert.RgIdeal.τ).loc Cert.RgIdeal.main_arg0)
      ∧ m' ((c.tc : Thread Cert.RgRefIdeal.nD Cert.RgRefIdeal.τ).loc Cert.RgRefIdeal.main_arg1) = m ((c.tc : Thread Cert.RgIdeal.nD Cert.RgIdeal.τ).loc Cert.RgIdeal.main_arg1)
      ∧ m' ((c.tc : Thread Cert.RgRefIdeal.nD Cert.RgRefIdeal.τ).loc Cert.RgRefIdeal.main_arg2) = m ((c.tc : Thread Cert.RgIdeal.nD Cert.RgIdeal.τ).loc Cert.RgIdeal.main_arg2)
      ∧ m' ((c.tc : Thread Cert.RgRefIdeal.nD Cert.RgRefIdeal.τ).loc Cert.RgRefIdeal.main_arg3) = m ((c.tc : Thread Cert.RgIdeal.nD Cert.RgIdeal.τ).loc Cert.RgIdeal.main_arg3)
      ∧ m' ((c.tc : Thread Cert.RgRefIdeal.nD Cert.RgRefIdeal.τ).loc Cert.RgRefIdeal.main_arg4) = m ((c.tc : Thread Cert.RgIdeal.nD Cert.RgIdeal.τ).loc Cert.RgIdeal.main_arg4)
      ∧ m' ((c.tc : Thread Cert.RgRefIdeal.nD Cert.RgRefIdeal.τ).loc Cert.RgRefIdeal.main_arg5) = m ((c.tc : Thread Cert.RgIdeal.nD Cert.RgIdeal.τ).loc Cert.RgIdeal.main_arg5)
      ∧ m' ((c.tc : Thread Cert.RgRefIdeal.nD Cert.RgRefIdeal.τ).loc Cert.RgRefIdeal.main_arg6) = m ((c.tc : Thread Cert.RgIdeal.nD Cert.RgIdeal.τ).loc Cert.RgIdeal.main_arg6)
      ∧ m' ((c.tc : Thread Cert.RgRefIdeal.nD Cert.RgRefIdeal.τ).loc Cert.RgRefIdeal.main_arg7) = m ((c.tc : Thread Cert.RgIdeal.nD Cert.RgIdeal.τ).loc Cert.RgIdeal.main_arg7)
      ∧ m' ((c.tc : Thread Cert.RgRefIdeal.nD Cert.RgRefIdeal.τ).loc Cert.RgRefIdeal.main_arg8) = m ((c.tc : Thread Cert.RgIdeal.nD Cert.RgIdeal.τ).loc Cert.RgIdeal.main_arg8)
      ∧ m' ((c.tc : Thread Cert.RgRefIdeal.nD Cert.RgRefIdeal.τ).loc Cert.RgRefIdeal.main_arg9) = m ((c.tc : Thread Cert.RgIdeal.nD Cert.RgIdeal.τ).loc Cert.RgIdeal.main_arg9)
      ∧ m' ((c.tc : Thread Cert.RgRefIdeal.nD Cert.RgRefIdeal.τ).loc Cert.RgRefIdeal.main_arg10) = m ((c.tc : Thread Cert.RgIdeal.nD Cert.RgIdeal.τ).loc Cert.RgIdeal.main_arg10)
      ∧ m' ((c.tc : Thread Cert.RgRefIdeal.nD Cert.RgRefIdeal.τ).loc Cert.RgRefIdeal.main_arg11) = m ((c.tc : Thread Cert.RgIdeal.nD Cert.RgIdeal.τ).loc Cert.RgIdeal.main_arg11)
      ∧ m' ((c.tc : Thread Cert.RgRefIdeal.nD Cert.RgRefIdeal.τ).loc Cert.RgRefIdeal.main_arg12) = m ((c.tc : Thread Cert.RgIdeal.nD Cert.RgIdeal.τ).loc Cert.RgIdeal.main_arg12)) →
    ∃ (v0 : (c : Dev Cert.RgIdeal.nD) → Buf (Elt Ideal) ((c.tc : Thread Cert.RgIdeal.nD Cert.RgIdeal.τ).loc Cert.RgIdeal.main_v11_0)) (v1 : (c : Dev Cert.RgIdeal.nD) → Buf (Elt Ideal) ((c.tc : Thread Cert.RgIdeal.nD Cert.RgIdeal.τ).loc Cert.RgIdeal.main_v11_1)) (v2 : (c : Dev Cert.RgIdeal.nD) → Buf (Elt Ideal) ((c.tc : Thread Cert.RgIdeal.nD Cert.RgIdeal.τ).loc Cert.RgIdeal.main_v11_2)),
      θ_run (Cert.RgIdeal.defs (F := Ideal)) (onTc (τ := Cert.RgIdeal.τ) (Cert.RgIdeal.main (F := Ideal))) ⟨m, fun _ => 0, g⟩ (fun r => ∀ c : Dev Cert.RgIdeal.nD,
          r.2.mem ((c.tc : Thread Cert.RgIdeal.nD Cert.RgIdeal.τ).loc Cert.RgIdeal.main_v11_0) = v0 c
          ∧ r.2.mem ((c.tc : Thread Cert.RgIdeal.nD Cert.RgIdeal.τ).loc Cert.RgIdeal.main_v11_1) = v1 c
          ∧ r.2.mem ((c.tc : Thread Cert.RgIdeal.nD Cert.RgIdeal.τ).loc Cert.RgIdeal.main_v11_2) = v2 c
          ∧ r.2.mem ((c.tc : Thread Cert.RgIdeal.nD Cert.RgIdeal.τ).loc Cert.RgIdeal.main_arg0) = m ((c.tc : Thread Cert.RgIdeal.nD Cert.RgIdeal.τ).loc Cert.RgIdeal.main_arg0)
          ∧ r.2.mem ((c.tc : Thread Cert.RgIdeal.nD Cert.RgIdeal.τ).loc Cert.RgIdeal.main_arg1) = m ((c.tc : Thread Cert.RgIdeal.nD Cert.RgIdeal.τ).loc Cert.RgIdeal.main_arg1)
          ∧ r.2.mem ((c.tc : Thread Cert.RgIdeal.nD Cert.RgIdeal.τ).loc Cert.RgIdeal.main_arg2) = m ((c.tc : Thread Cert.RgIdeal.nD Cert.RgIdeal.τ).loc Cert.RgIdeal.main_arg2)
          ∧ r.2.mem ((c.tc : Thread Cert.RgIdeal.nD Cert.RgIdeal.τ).loc Cert.RgIdeal.main_arg3) = m ((c.tc : Thread Cert.RgIdeal.nD Cert.RgIdeal.τ).loc Cert.RgIdeal.main_arg3)
          ∧ r.2.mem ((c.tc : Thread Cert.RgIdeal.nD Cert.RgIdeal.τ).loc Cert.RgIdeal.main_arg4) = m ((c.tc : Thread Cert.RgIdeal.nD Cert.RgIdeal.τ).loc Cert.RgIdeal.main_arg4)
          ∧ r.2.mem ((c.tc : Thread Cert.RgIdeal.nD Cert.RgIdeal.τ).loc Cert.RgIdeal.main_arg5) = m ((c.tc : Thread Cert.RgIdeal.nD Cert.RgIdeal.τ).loc Cert.RgIdeal.main_arg5)
          ∧ r.2.mem ((c.tc : Thread Cert.RgIdeal.nD Cert.RgIdeal.τ).loc Cert.RgIdeal.main_arg6) = m ((c.tc : Thread Cert.RgIdeal.nD Cert.RgIdeal.τ).loc Cert.RgIdeal.main_arg6)
          ∧ r.2.mem ((c.tc : Thread Cert.RgIdeal.nD Cert.RgIdeal.τ).loc Cert.RgIdeal.main_arg7) = m ((c.tc : Thread Cert.RgIdeal.nD Cert.RgIdeal.τ).loc Cert.RgIdeal.main_arg7)
          ∧ r.2.mem ((c.tc : Thread Cert.RgIdeal.nD Cert.RgIdeal.τ).loc Cert.RgIdeal.main_arg8) = m ((c.tc : Thread Cert.RgIdeal.nD Cert.RgIdeal.τ).loc Cert.RgIdeal.main_arg8)
          ∧ r.2.mem ((c.tc : Thread Cert.RgIdeal.nD Cert.RgIdeal.τ).loc Cert.RgIdeal.main_arg9) = m ((c.tc : Thread Cert.RgIdeal.nD Cert.RgIdeal.τ).loc Cert.RgIdeal.main_arg9)
          ∧ r.2.mem ((c.tc : Thread Cert.RgIdeal.nD Cert.RgIdeal.τ).loc Cert.RgIdeal.main_arg10) = m ((c.tc : Thread Cert.RgIdeal.nD Cert.RgIdeal.τ).loc Cert.RgIdeal.main_arg10)
          ∧ r.2.mem ((c.tc : Thread Cert.RgIdeal.nD Cert.RgIdeal.τ).loc Cert.RgIdeal.main_arg11) = m ((c.tc : Thread Cert.RgIdeal.nD Cert.RgIdeal.τ).loc Cert.RgIdeal.main_arg11)
          ∧ r.2.mem ((c.tc : Thread Cert.RgIdeal.nD Cert.RgIdeal.τ).loc Cert.RgIdeal.main_arg12) = m ((c.tc : Thread Cert.RgIdeal.nD Cert.RgIdeal.τ).loc Cert.RgIdeal.main_arg12))
      ∧ θ_run (Cert.RgRefIdeal.defs (F := Ideal)) (onTc (τ := Cert.RgRefIdeal.τ) (Cert.RgRefIdeal.main (F := Ideal))) ⟨m', fun _ => 0, g'⟩ (fun r => ∀ c : Dev Cert.RgRefIdeal.nD,
          r.2.mem ((c.tc : Thread Cert.RgRefIdeal.nD Cert.RgRefIdeal.τ).loc Cert.RgRefIdeal.main_v142) = v0 c
          ∧ r.2.mem ((c.tc : Thread Cert.RgRefIdeal.nD Cert.RgRefIdeal.τ).loc Cert.RgRefIdeal.main_v158) = v1 c
          ∧ r.2.mem ((c.tc : Thread Cert.RgRefIdeal.nD Cert.RgRefIdeal.τ).loc Cert.RgRefIdeal.main_v159) = v2 c
          ∧ r.2.mem ((c.tc : Thread Cert.RgRefIdeal.nD Cert.RgRefIdeal.τ).loc Cert.RgRefIdeal.main_arg0) = m' ((c.tc : Thread Cert.RgRefIdeal.nD Cert.RgRefIdeal.τ).loc Cert.RgRefIdeal.main_arg0)
          ∧ r.2.mem ((c.tc : Thread Cert.RgRefIdeal.nD Cert.RgRefIdeal.τ).loc Cert.RgRefIdeal.main_arg1) = m' ((c.tc : Thread Cert.RgRefIdeal.nD Cert.RgRefIdeal.τ).loc Cert.RgRefIdeal.main_arg1)
          ∧ r.2.mem ((c.tc : Thread Cert.RgRefIdeal.nD Cert.RgRefIdeal.τ).loc Cert.RgRefIdeal.main_arg2) = m' ((c.tc : Thread Cert.RgRefIdeal.nD Cert.RgRefIdeal.τ).loc Cert.RgRefIdeal.main_arg2)
          ∧ r.2.mem ((c.tc : Thread Cert.RgRefIdeal.nD Cert.RgRefIdeal.τ).loc Cert.RgRefIdeal.main_arg3) = m' ((c.tc : Thread Cert.RgRefIdeal.nD Cert.RgRefIdeal.τ).loc Cert.RgRefIdeal.main_arg3)
          ∧ r.2.mem ((c.tc : Thread Cert.RgRefIdeal.nD Cert.RgRefIdeal.τ).loc Cert.RgRefIdeal.main_arg4) = m' ((c.tc : Thread Cert.RgRefIdeal.nD Cert.RgRefIdeal.τ).loc Cert.RgRefIdeal.main_arg4)
          ∧ r.2.mem ((c.tc : Thread Cert.RgRefIdeal.nD Cert.RgRefIdeal.τ).loc Cert.RgRefIdeal.main_arg5) = m' ((c.tc : Thread Cert.RgRefIdeal.nD Cert.RgRefIdeal.τ).loc Cert.RgRefIdeal.main_arg5)
          ∧ r.2.mem ((c.tc : Thread Cert.RgRefIdeal.nD Cert.RgRefIdeal.τ).loc Cert.RgRefIdeal.main_arg6) = m' ((c.tc : Thread Cert.RgRefIdeal.nD Cert.RgRefIdeal.τ).loc Cert.RgRefIdeal.main_arg6)
          ∧ r.2.mem ((c.tc : Thread Cert.RgRefIdeal.nD Cert.RgRefIdeal.τ).loc Cert.RgRefIdeal.main_arg7) = m' ((c.tc : Thread Cert.RgRefIdeal.nD Cert.RgRefIdeal.τ).loc Cert.RgRefIdeal.main_arg7)
          ∧ r.2.mem ((c.tc : Thread Cert.RgRefIdeal.nD Cert.RgRefIdeal.τ).loc Cert.RgRefIdeal.main_arg8) = m' ((c.tc : Thread Cert.RgRefIdeal.nD Cert.RgRefIdeal.τ).loc Cert.RgRefIdeal.main_arg8)
          ∧ r.2.mem ((c.tc : Thread Cert.RgRefIdeal.nD Cert.RgRefIdeal.τ).loc Cert.RgRefIdeal.main_arg9) = m' ((c.tc : Thread Cert.RgRefIdeal.nD Cert.RgRefIdeal.τ).loc Cert.RgRefIdeal.main_arg9)
          ∧ r.2.mem ((c.tc : Thread Cert.RgRefIdeal.nD Cert.RgRefIdeal.τ).loc Cert.RgRefIdeal.main_arg10) = m' ((c.tc : Thread Cert.RgRefIdeal.nD Cert.RgRefIdeal.τ).loc Cert.RgRefIdeal.main_arg10)
          ∧ r.2.mem ((c.tc : Thread Cert.RgRefIdeal.nD Cert.RgRefIdeal.τ).loc Cert.RgRefIdeal.main_arg11) = m' ((c.tc : Thread Cert.RgRefIdeal.nD Cert.RgRefIdeal.τ).loc Cert.RgRefIdeal.main_arg11)
          ∧ r.2.mem ((c.tc : Thread Cert.RgRefIdeal.nD Cert.RgRefIdeal.τ).loc Cert.RgRefIdeal.main_arg12) = m' ((c.tc : Thread Cert.RgRefIdeal.nD Cert.RgRefIdeal.τ).loc Cert.RgRefIdeal.main_arg12))

def Claim : Prop :=
  ∃ (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts) (hQkv : Cert.Qkv.Facts) (hQkvIdeal : Cert.QkvIdeal.Facts) (hQkvRefIdeal : Cert.QkvRefIdeal.Facts) (hAttn : Cert.Attn.Facts) (hAttnIdeal : Cert.AttnIdeal.Facts) (hAttnRefIdeal : Cert.AttnRefIdeal.Facts) (hRg : Cert.Rg.Facts) (hRgIdeal : Cert.RgIdeal.Facts) (hRgRefIdeal : Cert.RgRefIdeal.Facts),
    quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjRefIdeal (hProjRefIdeal := hProjRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Attn (hAttn := hAttn)
    ∧ quiescent_AttnIdeal (hAttnIdeal := hAttnIdeal)
    ∧ quiescent_AttnRefIdeal (hAttnRefIdeal := hAttnRefIdeal)
    ∧ quiescent_Rg (hRg := hRg)
    ∧ quiescent_RgIdeal (hRgIdeal := hRgIdeal)
    ∧ quiescent_RgRefIdeal (hRgRefIdeal := hRgRefIdeal)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal (hProjIdeal := hProjIdeal) (hProjRefIdeal := hProjRefIdeal)
    ∧ preserves_Qkv_QkvIdeal
    ∧ algebraic_QkvIdeal_QkvRefIdeal (hQkvIdeal := hQkvIdeal) (hQkvRefIdeal := hQkvRefIdeal)
    ∧ preserves_Attn_AttnIdeal
    ∧ algebraic_AttnIdeal_AttnRefIdeal (hAttnIdeal := hAttnIdeal) (hAttnRefIdeal := hAttnRefIdeal)
    ∧ preserves_Rg_RgIdeal
    ∧ algebraic_RgIdeal_RgRefIdeal (hRgIdeal := hRgIdeal) (hRgRefIdeal := hRgRefIdeal)
-- ==== Mlp.lean ====
abbrev S17408x1024 : Shape := ⟨2, ![17408, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x4096, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S17408x1024 : Shape := ⟨2, ![17408, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x4096 : Shape := ⟨2, ![17408, 4096]⟩

abbrev nBuf : Space → Nat
  | .hbm => 44
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S17408x1024, .f32⟩
  | .hbm, ⟨6, _⟩ => ⟨S_, .f32⟩
  | .hbm, ⟨7, _⟩ => ⟨S17408, .f32⟩
  | .hbm, ⟨8, _⟩ => ⟨S17408x1, .f32⟩
  | .hbm, ⟨9, _⟩ => ⟨S_, .f32⟩
  | .hbm, ⟨10, _⟩ => ⟨S17408x1, .f32⟩
  | .hbm, ⟨11, _⟩ => ⟨S17408x1, .f32⟩
  | .hbm, ⟨12, _⟩ => ⟨S_, .f32⟩
  | .hbm, ⟨13, _⟩ => ⟨S17408x1, .f32⟩
  | .hbm, ⟨14, _⟩ => ⟨S17408x1, .f32⟩
  | .hbm, ⟨15, _⟩ => ⟨S17408x1, .f32⟩
  | .hbm, ⟨16, _⟩ => ⟨S17408x1024, .f32⟩
  | .hbm, ⟨17, _⟩ => ⟨S17408x1024, .f32⟩
  | .hbm, ⟨18, _⟩ => ⟨S1x1024, .f32⟩
  | .hbm, ⟨19, _⟩ => ⟨S17408x1024, .f32⟩
  | .hbm, ⟨20, _⟩ => ⟨S17408x1024, .f32⟩
  | .hbm, ⟨21, _⟩ => ⟨S17408x4096, .f32⟩
  | .hbm, ⟨22, _⟩ => ⟨S_, .f32⟩
  | .hbm, ⟨23, _⟩ => ⟨S17408x4096, .f32⟩
  | .hbm, ⟨24, _⟩ => ⟨S17408x4096, .f32⟩
  | .hbm, ⟨25, _⟩ => ⟨S17408x4096, .f32⟩
  | .hbm, ⟨26, _⟩ => ⟨S17408x1024, .f32⟩
  | .hbm, ⟨27, _⟩ => ⟨S17408x1024, .f32⟩
  | .hbm, ⟨28, _⟩ => ⟨S_, .f32⟩
  | .hbm, ⟨29, _⟩ => ⟨S17408, .f32⟩
  | .hbm, ⟨30, _⟩ => ⟨S17408x1, .f32⟩
  | .hbm, ⟨31, _⟩ => ⟨S_, .f32⟩
  | .hbm, ⟨32, _⟩ => ⟨S17408x1, .f32⟩
  | .hbm, ⟨33, _⟩ => ⟨S17408x1, .f32⟩
  | .hbm, ⟨34, _⟩ => ⟨S_, .f32⟩
  | .hbm, ⟨35, _⟩ => ⟨S17408x1, .f32⟩
  | .hbm, ⟨36, _⟩ => ⟨S17408x1, .f32⟩
  | .hbm, ⟨37, _⟩ => ⟨S17408x1, .f32⟩
  | .hbm, ⟨38, _⟩ => ⟨S17408x1024, .f32⟩
  | .hbm, ⟨39, _⟩ => ⟨S17408x1024, .f32⟩
  | .hbm, ⟨40, _⟩ => ⟨S1x1024, .f32⟩
  | .hbm, ⟨41, _⟩ => ⟨S17408x1024, .f32⟩
  | .hbm, ⟨42, _⟩ => ⟨S17408x1024, .f32⟩
  | .hbm, ⟨43, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Proj.lean ====
abbrev S17408x1024 : Shape := ⟨2, ![17408, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S1024x1024, .f32⟩
  | .hbm, ⟨3, _⟩ => ⟨S1024, .f32⟩
  | .hbm, ⟨4, _⟩ => ⟨S17408x1024, .bf16⟩
  | .hbm, ⟨5, _⟩ => ⟨S1024x1024, .bf16⟩
  | .hbm, ⟨6, _⟩ => ⟨S1x1024, .f32⟩
  | .hbm, ⟨7, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjRefIdeal.lean ====
abbrev S17408x1024 : Shape := ⟨2, ![17408, 1024]⟩
abbrev S1024x1024 : Shape := ⟨2, ![1024, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S1024x1024, .f32⟩
  | .hbm, ⟨3, _⟩ => ⟨S1024, .f32⟩
  | .hbm, ⟨4, _⟩ => ⟨S17408x1024, .f32⟩
  | .hbm, ⟨5, _⟩ => ⟨S17408x1024, .f32⟩
  | .hbm, ⟨6, _⟩ => ⟨S_, .f32⟩
  | .hbm, ⟨7, _⟩ => ⟨S17408, .f32⟩
  | .hbm, ⟨8, _⟩ => ⟨S17408x1, .f32⟩
  | .hbm, ⟨9, _⟩ => ⟨S_, .f32⟩
  | .hbm, ⟨10, _⟩ => ⟨S17408x1, .f32⟩
  | .hbm, ⟨11, _⟩ => ⟨S17408x1, .f32⟩
  | .hbm, ⟨12, _⟩ => ⟨S_, .f32⟩
  | .hbm, ⟨13, _⟩ => ⟨S17408x1, .f32⟩
  | .hbm, ⟨14, _⟩ => ⟨S17408x1, .f32⟩
  | .hbm, ⟨15, _⟩ => ⟨S17408x1, .f32⟩
  | .hbm, ⟨16, _⟩ => ⟨S17408x1024, .f32⟩
  | .hbm, ⟨17, _⟩ => ⟨S17408x1024, .f32⟩
  | .hbm, ⟨18, _⟩ => ⟨S1x1024, .f32⟩
  | .hbm, ⟨19, _⟩ => ⟨S17408x1024, .f32⟩
  | .hbm, ⟨20, _⟩ => ⟨S17408x1024, .f32⟩
  | .hbm, ⟨21, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Qkv.lean ====
abbrev S17408x1024 : Shape := ⟨2, ![17408, 1024]⟩
abbrev S1024 : Shape := ⟨1, ![1024]⟩
abbrev S1024x3072 : Shape := ⟨2, ![1024, 3072]⟩
abbrev S1x1024 : Shape := ⟨2, ![1, 1024]⟩
abbrev S17408x2048 : Shape := ⟨2, ![17408, 2048]⟩
abbrev S17408x4096 : Shape := ⟨2, ![17408, 4096]⟩
abbrev S512x1024 : Shape := ⟨2, ![512, 1024]⟩
abbrev S512x2048 : Shape := ⟨2, ![512, 2048]⟩
abbrev S512x4096 : Shape := ⟨2, ![512, 4096]⟩
abbrev S512 : Shape := ⟨1, ![512]⟩
abbrev S512x1 : Shape := ⟨2, ![512, 1]⟩
abbrev S512x3072 : Shape := ⟨2, ![512, 3072]⟩

abbrev nBuf : Space → Nat
  | .hbm => 7
  | .vmem => 8
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S17408x2048, .f32⟩
  | .hbm, ⟨6, _⟩ => ⟨S17408x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x2048, .f32⟩
  | .local _ .vmem, ⟨5, _⟩ => ⟨S512x2048, .f32⟩
  | .local _ .vmem, ⟨6, _⟩ => ⟨S512x4096, .bf16⟩
  | .local _ .vmem, ⟨7, _⟩ => ⟨S512x4096, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QkvRefIdeal.lean ====
abbrev S17408x1024 : Shape := ⟨2, ![17408, 1024]⟩
abbrev S1024 : Shape := ⟨1, ![1024]⟩
abbrev S1024x3072 : Shape := ⟨2, ![1024, 3072]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x3072 : Shape := ⟨2, ![17408, 3072]⟩
abbrev S17408x2048 : Shape := ⟨2, ![17408, 2048]⟩
abbrev S17408x4096 : Shape := ⟨2, ![17408, 4096]⟩

abbrev nBuf : Space → Nat
  | .hbm => 47
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x3072, .f32⟩
  | .hbm, ⟨3, _⟩ => ⟨S17408x1024, .f32⟩
  | .hbm, ⟨4, _⟩ => ⟨S_, .f32⟩
  | .hbm, ⟨5, _⟩ => ⟨S17408, .f32⟩
  | .hbm, ⟨6, _⟩ => ⟨S17408x1, .f32⟩
  | .hbm, ⟨7, _⟩ => ⟨S_, .f32⟩
  | .hbm, ⟨8, _⟩ => ⟨S17408x1, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S17408x1, .f32⟩
  | .hbm, ⟨14, _⟩ => ⟨S17408x1024, .f32⟩
  | .hbm, ⟨15, _⟩ => ⟨S17408x1024, .f32⟩
  | .hbm, ⟨16, _⟩ => ⟨S1x1024, .f32⟩
  | .hbm, ⟨17, _⟩ => ⟨S17408x1024, .f32⟩
  | .hbm, ⟨18, _⟩ => ⟨S17408x1024, .f32⟩
  | .hbm, ⟨19, _⟩ => ⟨S17408x3072, .f32⟩
  | .hbm, ⟨20, _⟩ => ⟨S17408x1024, .f32⟩
  | .hbm, ⟨21, _⟩ => ⟨S17408x1024, .f32⟩
  | .hbm, ⟨22, _⟩ => ⟨S17408x1024, .f32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S1x1024, .i1⟩
  | .hbm, ⟨31, _⟩ => ⟨S_, .f32⟩
  | .hbm, ⟨32, _⟩ => ⟨S17408x1024, .f32⟩
  | .hbm, ⟨33, _⟩ => ⟨S17408x1024, .f32⟩
  | .hbm, ⟨34, _⟩ => ⟨S_, .f32⟩
  | .hbm, ⟨35, _⟩ => ⟨S_, .f32⟩
  | .hbm, ⟨36, _⟩ => ⟨S17408x1024, .i1⟩
  | .hbm, ⟨37, _⟩ => ⟨S17408x1024, .f32⟩
  | .hbm, ⟨38, _⟩ => ⟨S17408x1024, .f32⟩
  | .hbm, ⟨39, _⟩ => ⟨S_, .f32⟩
  | .hbm, ⟨40, _⟩ => ⟨S_, .f32⟩
  | .hbm, ⟨41, _⟩ => ⟨S17408x1024, .i1⟩
  | .hbm, ⟨42, _⟩ => ⟨S17408x1024, .f32⟩
  | .hbm, ⟨43, _⟩ => ⟨S17408x1024, .f32⟩
  | .hbm, ⟨44, _⟩ => ⟨S17408x2048, .f32⟩
  | .hbm, ⟨45, _⟩ => ⟨S17408x4096, .f32⟩
  | .hbm, ⟨46, _⟩ => ⟨S17408x4096, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Attn.lean ====
abbrev S4x4352x16x64 : Shape := ⟨4, ![4, 4352, 16, 64]⟩
abbrev S16 : Shape := ⟨1, ![16]⟩
abbrev S17408x1024 : Shape := ⟨2, ![17408, 1024]⟩
abbrev S1024 : Shape := ⟨1, ![1024]⟩
abbrev S_ : Shape := ⟨0, ![]⟩
abbrev S1x1024 : Shape := ⟨2, ![1, 1024]⟩
abbrev S17408x4096 : Shape := ⟨2, ![17408, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S128 : Shape := ⟨1, ![128]⟩
abbrev S256x128 : Shape := ⟨2, ![256, 128]⟩
abbrev S4352x128 : Shape := ⟨2, ![4352, 128]⟩
abbrev S512x256 : Shape := ⟨2, ![512, 256]⟩
abbrev S512x128 : Shape := ⟨2, ![512, 128]⟩
abbrev S512x1 : Shape := ⟨2, ![512, 1]⟩
abbrev S1 : Shape := ⟨1, ![1]⟩
abbrev S512 : Shape := ⟨1, ![512]⟩
abbrev S256x512 : Shape := ⟨2, ![256, 512]⟩

abbrev nBuf : Space → Nat
  | .hbm => 56
  | .vmem => 19
  | .smem => 1
  | _ => 0

abbrev bufTy : (tb : Table) → Fin (tcTables nBuf tb) → BufTy
  | .hbm, ⟨0, _⟩ => ⟨S4x4352x16x64, .f32⟩
  | .hbm, ⟨1, _⟩ => ⟨S4x4352x16x64, .f32⟩
  | .hbm, ⟨2, _⟩ => ⟨S4x4352x16x64, .f32⟩
  | .hbm, ⟨3, _⟩ => ⟨S16, .f32⟩
  | .hbm, ⟨4, _⟩ => ⟨S17408x1024, .f32⟩
  | .hbm, ⟨5, _⟩ => ⟨S17408x1024, .f32⟩
  | .hbm, ⟨6, _⟩ => ⟨S17408x1024, .f32⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S1x1024, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S17408x1024, .f32⟩
  | .hbm, ⟨19, _⟩ => ⟨S17408x1024, .f32⟩
  | .hbm, ⟨20, _⟩ => ⟨S17408x1024, .f32⟩
  | .hbm, ⟨21, _⟩ => ⟨S17408x1024, .f32⟩
  | .hbm, ⟨22, _⟩ => ⟨S_, .f32⟩
  | .hbm, ⟨23, _⟩ => ⟨S_, .f32⟩
  | .hbm, ⟨24, _⟩ => ⟨S17408x1024, .i1⟩
  | .hbm, ⟨25, _⟩ => ⟨S17408x1024, .f32⟩
  | .hbm, ⟨26, _⟩ => ⟨S17408x1024, .f32⟩
  | .hbm, ⟨27, _⟩ => ⟨S_, .f32⟩
  | .hbm, ⟨28, _⟩ => ⟨S_, .f32⟩
  | .hbm, ⟨29, _⟩ => ⟨S17408x1024, .i1⟩
  | .hbm, ⟨30, _⟩ => ⟨S17408x1024, .f32⟩
  | .hbm, ⟨31, _⟩ => ⟨S17408x1024, .f32⟩
  | .hbm, ⟨32, _⟩ => ⟨S17408x4096, .f32⟩
  | .hbm, ⟨33, _⟩ => ⟨S17408x4096, .bf16⟩
  | .hbm, ⟨34, _⟩ => ⟨S16, .f32⟩
  | .hbm, ⟨35, _⟩ => ⟨S16, .f32⟩
  | .hbm, ⟨36, _⟩ => ⟨S256, .i32⟩
  | .hbm, ⟨37, _⟩ => ⟨S256x1, .i32⟩
  | .hbm, ⟨38, _⟩ => ⟨S256, .i32⟩
  | .hbm, ⟨39, _⟩ => ⟨S1x256, .i32⟩
  | .hbm, ⟨40, _⟩ => ⟨S256x256, .i32⟩
  | .hbm, ⟨41, _⟩ => ⟨S256x256, .i32⟩
  | .hbm, ⟨42, _⟩ => ⟨S256x256, .i1⟩
  | .hbm, ⟨43, _⟩ => ⟨S_, .f32⟩
  | .hbm, ⟨44, _⟩ => ⟨S_, .f32⟩
  | .hbm, ⟨45, _⟩ => ⟨S256x256, .f32⟩
  | .hbm, ⟨46, _⟩ => ⟨S256x256, .f32⟩
  | .hbm, ⟨47, _⟩ => ⟨S256x256, .f32⟩
  | .hbm, ⟨48, _⟩ => ⟨S256x256, .bf16⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S128, .bf16⟩
  | .hbm, ⟨54, _⟩ => ⟨S256x128, .bf16⟩
  | .hbm, ⟨55, _⟩ => ⟨S17408x1024, .bf16⟩
  | .local _ .vmem, ⟨0, _⟩ => ⟨S4352x128, .bf16⟩
  | .local _ .vmem, ⟨1, _⟩ => ⟨S4352x128, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S4352x128, .bf16⟩
  | .local _ .vmem, ⟨7, _⟩ => ⟨S4352x128, .bf16⟩
  | .local _ .vmem, ⟨8, _⟩ => ⟨S256x256, .bf16⟩
  | .local _ .vmem, ⟨9, _⟩ => ⟨S256x128, .bf16⟩
  | .local _ .vmem, ⟨10, _⟩ => ⟨S4352x128, .bf16⟩
  | .local _ .vmem, ⟨11, _⟩ => ⟨S4352x128, .bf16⟩
  | .local _ .vmem, ⟨12, _⟩ => ⟨S512x256, .bf16⟩
  | .local _ .vmem, ⟨13, _⟩ => ⟨S512x256, .f32⟩
  | .local _ .vmem, ⟨14, _⟩ => ⟨S512x256, .bf16⟩
  | .local _ .vmem, ⟨15, _⟩ => ⟨S512x128, .f32⟩
  | .local _ .vmem, ⟨16, _⟩ => ⟨S512x256, .bf16⟩
  | .local _ .vmem, ⟨17, _⟩ => ⟨S512x1, .f32⟩
  | .local _ .vmem, ⟨18, _⟩ => ⟨S256x128, .f32⟩
  | .local _ .smem, ⟨0, _⟩ => ⟨S16, .f32⟩
  | _, _ => ⟨S4x4352x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_cst_5 : Ref sig .tc := ⟨.hbm, 44, rfl⟩
abbrev main_call2_v0 : Ref sig .tc := ⟨.hbm, 45, rfl⟩
abbrev main_call2_v1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 8], ![false, false]⟩

def k0_off1 (i : grid0.Coords) : Fin 1 → Nat :=
  let c2_i32 : BitVec 32 := 2#32
  let arg1 : BitVec 32 := BitVec.ofNat 32 (i 1).val
  let v14 : BitVec 32 := Scalar.muli c2_i32 arg1
  let v15 : Index := Scalar.indexCast v14
  ![v15.toNat]
def k0_off2 (i : grid0.Coords) : Fin 1 → Nat :=
  let c2_i32_3 : BitVec 32 := 2#32
  let arg1 : BitVec 32 := BitVec.ofNat 32 (i 1).val
  let v17 : BitVec 32 := Scalar.muli c2_i32_3 arg1
  let c1_i32 : BitVec 32 := 1#32
  let v18 : BitVec 32 := Scalar.addi v17 c1_i32
  let v19 : Index := Scalar.indexCast v18
  ![v19.toNat]
@[reducible] def k0_t1_loop : Scf.Loop 32 :=
  let c0_i32_6 : BitVec 32 := 0#32
  let c17_i32 : BitVec 32 := 17#32
  let v38 : BitVec 32 := Scalar.addi c0_i32_6 c17_i32
  let c1_i32_7 : BitVec 32 := 1#32
  ⟨c0_i32_6, v38, c1_i32_7⟩
def k0_mult1 (k0_t1 : Fin k0_t1_loop.trips) : BitVec 32 :=
  let c0_i32_6 : BitVec 32 := 0#32
  let c1_i32_7 : BitVec 32 := 1#32
  let arg17 : BitVec 32 := Scf.iv c0_i32_6 c1_i32_7 k0_t1
  let c0_i32_9 : BitVec 32 := 0#32
  let v39 : BitVec 32 := Scalar.maxsi arg17 c0_i32_9
  let c256_i32_10 : BitVec 32 := 256#32
  let v40 : BitVec 32 := Scalar.muli v39 c256_i32_10
  v40
def k0_off3 (k0_t1 : Fin k0_t1_loop.trips) : Fin 2 → Nat :=
  let c0_i32_6 : BitVec 32 := 0#32
  let c1_i32_7 : BitVec 32 := 1#32
  let arg17 : BitVec 32 := Scf.iv c0_i32_6 c1_i32_7 k0_t1
  let c0_i32_9 : BitVec 32 := 0#32
  let v39 : BitVec 32 := Scalar.maxsi arg17 c0_i32_9
  let c256_i32_10 : BitVec 32 := 256#32
  let v40 : BitVec 32 := Scalar.muli v39 c256_i32_10
  let v41 : BitVec 32 := v40
  let v42 : Index := Scalar.indexCast v41
  let c0_11 : Index := 0#32
  ![v42.toNat, 0]
def k0_mult2 (k0_t1 : Fin k0_t1_loop.trips) : BitVec 32 :=
  let c0_i32_6 : BitVec 32 := 0#32
  let c1_i32_7 : BitVec 32 := 1#32
  let arg17 : BitVec 32 := Scf.iv c0_i32_6 c1_i32_7 k0_t1
  let c0_i32_23 : BitVec 32 := 0#32
  let v67 : BitVec 32 := Scalar.maxsi arg17 c0_i32_23
  let c256_i32_24 : BitVec 32 := 256#32
  let v68 : BitVec 32 := Scalar.muli v67 c256_i32_24
  v68
def k0_mult3 (k0_t1 : Fin k0_t1_loop.trips) : BitVec 32 :=
  let c0_i32_6 : BitVec 32 := 0#32
  let c1_i32_7 : BitVec 32 := 1#32
  let arg17 : BitVec 32 := Scf.iv c0_i32_6 c1_i32_7 k0_t1
  let c1_i32_55 : BitVec 32 := 1#32
  let v125 : BitVec 32 := Scalar.subi arg17 c1_i32_55
  let c0_i32_56 : BitVec 32 := 0#32
  let v126 : BitVec 32 := Scalar.maxsi v125 c0_i32_56
  let c256_i32_57 : BitVec 32 := 256#32
  let v127 : BitVec 32 := Scalar.muli v126 c256_i32_57
  v127
def k0_off4 (k0_t1 : Fin k0_t1_loop.trips) : Fin 2 → Nat :=
  let c0_i32_6 : BitVec 32 := 0#32
  let c1_i32_7 : BitVec 32 := 1#32
  let arg17 : BitVec 32 := Scf.iv c0_i32_6 c1_i32_7 k0_t1
  let c1_i32_55 : BitVec 32 := 1#32
  let v125 : BitVec 32 := Scalar.subi arg17 c1_i32_55
  let c0_i32_56 : BitVec 32 := 0#32
  let v126 : BitVec 32 := Scalar.maxsi v125 c0_i32_56
  let c256_i32_57 : BitVec 32 := 256#32
  let v127 : BitVec 32 := Scalar.muli v126 c256_i32_57
  let v128 : BitVec 32 := v127
  let v129 : Index := Scalar.indexCast v128
  let c0_58 : Index := 0#32
  ![v129.toNat, 0]
@[reducible] def k0_t2_loop (k0_t1 : Fin k0_t1_loop.trips) : Scf.Loop 32 :=
  let c0_i32_80 : BitVec 32 := 0#32
  let c0_i32_6 : BitVec 32 := 0#32
  let c1_i32_7 : BitVec 32 := 1#32
  let arg17 : BitVec 32 := Scf.iv c0_i32_6 c1_i32_7 k0_t1
  let c1_i32_72 : BitVec 32 := 1#32
  let v161 : BitVec 32 := Scalar.addi arg17 c1_i32_72
  let c0_i32_74 : BitVec 32 := 0#32
  let v163 : BitVec 1 := Scalar.cmpi .sgt v161 c0_i32_74
  let v164 : BitVec 32 := Scalar.extui v163
  let c0_i32_75 : BitVec 32 := 0#32
  let v165 : BitVec 1 := Scalar.cmpi .slt v161 c0_i32_75
  let v166 : BitVec 32 := Scalar.extui v165
  let v167 : BitVec 32 := Scalar.subi v164 v166
  let c2_i32_73 : BitVec 32 := 2#32
  let c0_i32_76 : BitVec 32 := 0#32
  let v168 : BitVec 1 := Scalar.cmpi .sgt c2_i32_73 c0_i32_76
  let v169 : BitVec 32 := Scalar.extui v168
  let c0_i32_77 : BitVec 32 := 0#32
  let v170 : BitVec 1 := Scalar.cmpi .slt c2_i32_73 c0_i32_77
  let v171 : BitVec 32 := Scalar.extui v170
  let v172 : BitVec 32 := Scalar.subi v169 v171
  let v173 : BitVec 1 := Scalar.cmpi .ne v167 v172
  let v174 : BitVec 32 := Scalar.remsi v161 c2_i32_73
  let c0_i32_78 : BitVec 32 := 0#32
  let v175 : BitVec 1 := Scalar.cmpi .ne v174 c0_i32_78
  let v176 : BitVec 1 := Scalar.andi v173 v175
  let v162 : BitVec 32 := Scalar.divsi v161 c2_i32_73
  let c1_i32_79 : BitVec 32 := 1#32
  let v177 : BitVec 32 := Scalar.subi v162 c1_i32_79
  let v178 : BitVec 32 := Scalar.select v176 v177 v162
  let v179 : BitVec 32 := Scalar.subi v178 c0_i32_80
  let c1_i32_82 : BitVec 32 := 1#32
  let v181 : BitVec 32 := Scalar.divsi v179 c1_i32_82
  let v182 : BitVec 32 := Scalar.muli v181 c1_i32_82
  let v183 : BitVec 32 := Scalar.addi c0_i32_80 v182
  let c1_i32_83 : BitVec 32 := 1#32
  ⟨c0_i32_80, v183, c1_i32_83⟩
def k0_mult4 (k0_t1 : Fin k0_t1_loop.trips) (k0_t2 : Fin (k0_t2_loop k0_t1).trips) : BitVec 32 :=
  let c0_i32_6 : BitVec 32 := 0#32
  let c1_i32_7 : BitVec 32 := 1#32
  let arg17 : BitVec 32 := Scf.iv c0_i32_6 c1_i32_7 k0_t1
  let c2_i32_97 : BitVec 32 := 2#32
  let c0_i32_80 : BitVec 32 := 0#32
  let c1_i32_83 : BitVec 32 := 1#32
  let arg18 : BitVec 32 := Scf.iv c0_i32_80 c1_i32_83 k0_t2
  let v205 : BitVec 32 := Scalar.muli c2_i32_97 arg18
  let v206 : BitVec 32 := Scalar.subi arg17 v205
  let c0_i32_101 : BitVec 32 := 0#32
  let v210 : BitVec 32 := Scalar.maxsi v206 c0_i32_101
  let c256_i32_102 : BitVec 32 := 256#32
  let v211 : BitVec 32 := Scalar.muli v210 c256_i32_102
  v211
def k0_off5 (k0_t1 : Fin k0_t1_loop.trips) (k0_t2 : Fin (k0_t2_loop k0_t1).trips) : Fin 2 → Nat :=
  let c0_i32_6 : BitVec 32 := 0#32
  let c1_i32_7 : BitVec 32 := 1#32
  let arg17 : BitVec 32 := Scf.iv c0_i32_6 c1_i32_7 k0_t1
  let c2_i32_97 : BitVec 32 := 2#32
  let c0_i32_80 : BitVec 32 := 0#32
  let c1_i32_83 : BitVec 32 := 1#32
  let arg18 : BitVec 32 := Scf.iv c0_i32_80 c1_i32_83 k0_t2
  let v205 : BitVec 32 := Scalar.muli c2_i32_97 arg18
  let v206 : BitVec 32 := Scalar.subi arg17 v205
  let c0_i32_101 : BitVec 32 := 0#32
  let v210 : BitVec 32 := Scalar.maxsi v206 c0_i32_101
  let c256_i32_102 : BitVec 32 := 256#32
  let v211 : BitVec 32 := Scalar.muli v210 c256_i32_102
  let v212 : BitVec 32 := v211
  let v213 : Index := Scalar.indexCast v212
  let c0_103 : Index := 0#32
  ![v213.toNat, 0]
def k0_mult5 (k0_t1 : Fin k0_t1_loop.trips) (k0_t2 : Fin (k0_t2_loop k0_t1).trips) : BitVec 32 :=
  let c0_i32_6 : BitVec 32 := 0#32
  let c1_i32_7 : BitVec 32 := 1#32
  let arg17 : BitVec 32 := Scf.iv c0_i32_6 c1_i32_7 k0_t1
  let c2_i32_97 : BitVec 32 := 2#32
  let c0_i32_80 : BitVec 32 := 0#32
  let c1_i32_83 : BitVec 32 := 1#32
  let arg18 : BitVec 32 := Scf.iv c0_i32_80 c1_i32_83 k0_t2
  let v205 : BitVec 32 := Scalar.muli c2_i32_97 arg18
  let v206 : BitVec 32 := Scalar.subi arg17 v205
  let c0_i32_104 : BitVec 32 := 0#32
  let v216 : BitVec 32 := Scalar.maxsi v206 c0_i32_104
  let c256_i32_105 : BitVec 32 := 256#32
  let v217 : BitVec 32 := Scalar.muli v216 c256_i32_105
  v217
def k0_mult6 (k0_t1 : Fin k0_t1_loop.trips) (k0_t2 : Fin (k0_t2_loop k0_t1).trips) : BitVec 32 :=
  let c0_i32_6 : BitVec 32 := 0#32
  let c1_i32_7 : BitVec 32 := 1#32
  let arg17 : BitVec 32 := Scf.iv c0_i32_6 c1_i32_7 k0_t1
  let c2_i32_97 : BitVec 32 := 2#32
  let c0_i32_80 : BitVec 32 := 0#32
  let c1_i32_83 : BitVec 32 := 1#32
  let arg18 : BitVec 32 := Scf.iv c0_i32_80 c1_i32_83 k0_t2
  let v205 : BitVec 32 := Scalar.muli c2_i32_97 arg18
  let v206 : BitVec 32 := Scalar.subi arg17 v205
  let c2_i32_126 : BitVec 32 := 2#32
  let v248 : BitVec 32 := Scalar.subi v206 c2_i32_126
  let c0_i32_127 : BitVec 32 := 0#32
  let v249 : BitVec 32 := Scalar.maxsi v248 c0_i32_127
  let c256_i32_128 : BitVec 32 := 256#32
  let v250 : BitVec 32 := Scalar.muli v249 c256_i32_128
  v250
def k0_off6 (k0_t1 : Fin k0_t1_loop.trips) (k0_t2 : Fin (k0_t2_loop k0_t1).trips) (c2_i32_126 : BitVec 32) : Fin 2 → Nat :=
  let c0_i32_6 : BitVec 32 := 0#32
  let c1_i32_7 : BitVec 32 := 1#32
  let arg17 : BitVec 32 := Scf.iv c0_i32_6 c1_i32_7 k0_t1
  let c2_i32_97 : BitVec 32 := 2#32
  let c0_i32_80 : BitVec 32 := 0#32
  let c1_i32_83 : BitVec 32 := 1#32
  let arg18 : BitVec 32 := Scf.iv c0_i32_80 c1_i32_83 k0_t2
  let v205 : BitVec 32 := Scalar.muli c2_i32_97 arg18
  let v206 : BitVec 32 := Scalar.subi arg17 v205
  let v248 : BitVec 32 := Scalar.subi v206 c2_i32_126
  let c0_i32_127 : BitVec 32 := 0#32
  let v249 : BitVec 32 := Scalar.maxsi v248 c0_i32_127
  let c256_i32_128 : BitVec 32 := 256#32
  let v250 : BitVec 32 := Scalar.muli v249 c256_i32_128
  let v251 : BitVec 32 := v250
  let v252 : Index := Scalar.indexCast v251
  let c0_129 : Index := 0#32
  ![v252.toNat, 0]
def k0_mult7 (k0_t1 : Fin k0_t1_loop.trips) (k0_t2 : Fin (k0_t2_loop k0_t1).trips) : BitVec 32 :=
  let c0_i32_6 : BitVec 32 := 0#32
  let c1_i32_7 : BitVec 32 := 1#32
  let arg17 : BitVec 32 := Scf.iv c0_i32_6 c1_i32_7 k0_t1
  let c2_i32_143 : BitVec 32 := 2#32
  let c0_i32_80 : BitVec 32 := 0#32
  let c1_i32_83 : BitVec 32 := 1#32
  let arg18 : BitVec 32 := Scf.iv c0_i32_80 c1_i32_83 k0_t2
  let v284 : BitVec 32 := Scalar.muli c2_i32_143 arg18
  let v285 : BitVec 32 := Scalar.subi arg17 v284
  let c1_i32_144 : BitVec 32 := 1#32
  let v286 : BitVec 32 := Scalar.subi v285 c1_i32_144
  let c0_i32_149 : BitVec 32 := 0#32
  let v290 : BitVec 32 := Scalar.maxsi v286 c0_i32_149
  let c256_i32_150 : BitVec 32 := 256#32
  let v291 : BitVec 32 := Scalar.muli v290 c256_i32_150
  v291
def k0_mult8 (k0_t1 : Fin k0_t1_loop.trips) (k0_t2 : Fin (k0_t2_loop k0_t1).trips) : BitVec 32 :=
  let c0_i32_6 : BitVec 32 := 0#32
  let c1_i32_7 : BitVec 32 := 1#32
  let arg17 : BitVec 32 := Scf.iv c0_i32_6 c1_i32_7 k0_t1
  let c2_i32_143 : BitVec 32 := 2#32
  let c0_i32_80 : BitVec 32 := 0#32
  let c1_i32_83 : BitVec 32 := 1#32
  let arg18 : BitVec 32 := Scf.iv c0_i32_80 c1_i32_83 k0_t2
  let v284 : BitVec 32 := Scalar.muli c2_i32_143 arg18
  let v285 : BitVec 32 := Scalar.subi arg17 v284
  let c1_i32_144 : BitVec 32 := 1#32
  let v286 : BitVec 32 := Scalar.subi v285 c1_i32_144
  let c0_i32_152 : BitVec 32 := 0#32
  let v296 : BitVec 32 := Scalar.maxsi v286 c0_i32_152
  let c256_i32_153 : BitVec 32 := 256#32
  let v297 : BitVec 32 := Scalar.muli v296 c256_i32_153
  v297
def k0_mult9 (k0_t1 : Fin k0_t1_loop.trips) (k0_t2 : Fin (k0_t2_loop k0_t1).trips) : BitVec 32 :=
  let c0_i32_6 : BitVec 32 := 0#32
  let c1_i32_7 : BitVec 32 := 1#32
  let arg17 : BitVec 32 := Scf.iv c0_i32_6 c1_i32_7 k0_t1
  let c2_i32_143 : BitVec 32 := 2#32
  let c0_i32_80 : BitVec 32 := 0#32
  let c1_i32_83 : BitVec 32 := 1#32
  let arg18 : BitVec 32 := Scf.iv c0_i32_80 c1_i32_83 k0_t2
  let v284 : BitVec 32 := Scalar.muli c2_i32_143 arg18
  let v285 : BitVec 32 := Scalar.subi arg17 v284
  let c1_i32_144 : BitVec 32 := 1#32
  let v286 : BitVec 32 := Scalar.subi v285 c1_i32_144
  let c2_i32_174 : BitVec 32 := 2#32
  let v328 : BitVec 32 := Scalar.subi v286 c2_i32_174
  let c0_i32_175 : BitVec 32 := 0#32
  let v329 : BitVec 32 := Scalar.maxsi v328 c0_i32_175
  let c256_i32_176 : BitVec 32 := 256#32
  let v330 : BitVec 32 := Scalar.muli v329 c256_i32_176
  v330
def k0_off7 (k0_t1 : Fin k0_t1_loop.trips) (k0_t2 : Fin (k0_t2_loop k0_t1).trips) : Fin 2 → Nat :=
  let c0_i32_6 : BitVec 32 := 0#32
  let c1_i32_7 : BitVec 32 := 1#32
  let arg17 : BitVec 32 := Scf.iv c0_i32_6 c1_i32_7 k0_t1
  let c2_i32_143 : BitVec 32 := 2#32
  let c0_i32_80 : BitVec 32 := 0#32
  let c1_i32_83 : BitVec 32 := 1#32
  let arg18 : BitVec 32 := Scf.iv c0_i32_80 c1_i32_83 k0_t2
  let v284 : BitVec 32 := Scalar.muli c2_i32_143 arg18
  let v285 : BitVec 32 := Scalar.subi arg17 v284
  let c1_i32_144 : BitVec 32 := 1#32
  let v286 : BitVec 32 := Scalar.subi v285 c1_i32_144
  let c2_i32_174 : BitVec 32 := 2#32
  let v328 : BitVec 32 := Scalar.subi v286 c2_i32_174
  let c0_i32_175 : BitVec 32 := 0#32
  let v329 : BitVec 32 := Scalar.maxsi v328 c0_i32_175
  let c256_i32_176 : BitVec 32 := 256#32
  let v330 : BitVec 32 := Scalar.muli v329 c256_i32_176
  let v331 : BitVec 32 := v330
  let v332 : Index := Scalar.indexCast v331
  let c0_177 : Index := 0#32
  ![v332.toNat, 0]
@[reducible] def k0_t3_loop (k0_t1 : Fin k0_t1_loop.trips) : Scf.Loop 32 :=
  let c0_i32_80 : BitVec 32 := 0#32
  let c0_i32_6 : BitVec 32 := 0#32
  let c1_i32_7 : BitVec 32 := 1#32
  let arg17 : BitVec 32 := Scf.iv c0_i32_6 c1_i32_7 k0_t1
  let c1_i32_72 : BitVec 32 := 1#32
  let v161 : BitVec 32 := Scalar.addi arg17 c1_i32_72
  let c0_i32_74 : BitVec 32 := 0#32
  let v163 : BitVec 1 := Scalar.cmpi .sgt v161 c0_i32_74
  let v164 : BitVec 32 := Scalar.extui v163
  let c0_i32_75 : BitVec 32 := 0#32
  let v165 : BitVec 1 := Scalar.cmpi .slt v161 c0_i32_75
  let v166 : BitVec 32 := Scalar.extui v165
  let v167 : BitVec 32 := Scalar.subi v164 v166
  let c2_i32_73 : BitVec 32 := 2#32
  let c0_i32_76 : BitVec 32 := 0#32
  let v168 : BitVec 1 := Scalar.cmpi .sgt c2_i32_73 c0_i32_76
  let v169 : BitVec 32 := Scalar.extui v168
  let c0_i32_77 : BitVec 32 := 0#32
  let v170 : BitVec 1 := Scalar.cmpi .slt c2_i32_73 c0_i32_77
  let v171 : BitVec 32 := Scalar.extui v170
  let v172 : BitVec 32 := Scalar.subi v169 v171
  let v173 : BitVec 1 := Scalar.cmpi .ne v167 v172
  let v174 : BitVec 32 := Scalar.remsi v161 c2_i32_73
  let c0_i32_78 : BitVec 32 := 0#32
  let v175 : BitVec 1 := Scalar.cmpi .ne v174 c0_i32_78
  let v176 : BitVec 1 := Scalar.andi v173 v175
  let v162 : BitVec 32 := Scalar.divsi v161 c2_i32_73
  let c1_i32_79 : BitVec 32 := 1#32
  let v177 : BitVec 32 := Scalar.subi v162 c1_i32_79
  let v178 : BitVec 32 := Scalar.select v176 v177 v162
  let v179 : BitVec 32 := Scalar.subi v178 c0_i32_80
  let c1_i32_82 : BitVec 32 := 1#32
  let v181 : BitVec 32 := Scalar.divsi v179 c1_i32_82
  let v182 : BitVec 32 := Scalar.muli v181 c1_i32_82
  let v183 : BitVec 32 := Scalar.addi c0_i32_80 v182
  let v180 : BitVec 32 := Scalar.addi c0_i32_80 v179
  let c1_i32_84 : BitVec 32 := 1#32
  ⟨v183, v180, c1_i32_84⟩
def k0_mult10 (k0_t1 : Fin k0_t1_loop.trips) (k0_t3 : Fin (k0_t3_loop k0_t1).trips) : BitVec 32 :=
  let c0_i32_6 : BitVec 32 := 0#32
  let c1_i32_7 : BitVec 32 := 1#32
  let arg17 : BitVec 32 := Scf.iv c0_i32_6 c1_i32_7 k0_t1
  let c2_i32_97 : BitVec 32 := 2#32
  let c0_i32_80 : BitVec 32 := 0#32
  let c1_i32_72 : BitVec 32 := 1#32
  let v161 : BitVec 32 := Scalar.addi arg17 c1_i32_72
  let c0_i32_74 : BitVec 32 := 0#32
  let v163 : BitVec 1 := Scalar.cmpi .sgt v161 c0_i32_74
  let v164 : BitVec 32 := Scalar.extui v163
  let c0_i32_75 : BitVec 32 := 0#32
  let v165 : BitVec 1 := Scalar.cmpi .slt v161 c0_i32_75
  let v166 : BitVec 32 := Scalar.extui v165
  let v167 : BitVec 32 := Scalar.subi v164 v166
  let c2_i32_73 : BitVec 32 := 2#32
  let c0_i32_76 : BitVec 32 := 0#32
  let v168 : BitVec 1 := Scalar.cmpi .sgt c2_i32_73 c0_i32_76
  let v169 : BitVec 32 := Scalar.extui v168
  let c0_i32_77 : BitVec 32 := 0#32
  let v170 : BitVec 1 := Scalar.cmpi .slt c2_i32_73 c0_i32_77
  let v171 : BitVec 32 := Scalar.extui v170
  let v172 : BitVec 32 := Scalar.subi v169 v171
  let v173 : BitVec 1 := Scalar.cmpi .ne v167 v172
  let v174 : BitVec 32 := Scalar.remsi v161 c2_i32_73
  let c0_i32_78 : BitVec 32 := 0#32
  let v175 : BitVec 1 := Scalar.cmpi .ne v174 c0_i32_78
  let v176 : BitVec 1 := Scalar.andi v173 v175
  let v162 : BitVec 32 := Scalar.divsi v161 c2_i32_73
  let c1_i32_79 : BitVec 32 := 1#32
  let v177 : BitVec 32 := Scalar.subi v162 c1_i32_79
  let v178 : BitVec 32 := Scalar.select v176 v177 v162
  let v179 : BitVec 32 := Scalar.subi v178 c0_i32_80
  let c1_i32_82 : BitVec 32 := 1#32
  let v181 : BitVec 32 := Scalar.divsi v179 c1_i32_82
  let v182 : BitVec 32 := Scalar.muli v181 c1_i32_82
  let v183 : BitVec 32 := Scalar.addi c0_i32_80 v182
  let c1_i32_84 : BitVec 32 := 1#32
  let arg18 : BitVec 32 := Scf.iv v183 c1_i32_84 k0_t3
  let v205 : BitVec 32 := Scalar.muli c2_i32_97 arg18
  let v206 : BitVec 32 := Scalar.subi arg17 v205
  let c0_i32_101 : BitVec 32 := 0#32
  let v210 : BitVec 32 := Scalar.maxsi v206 c0_i32_101
  let c256_i32_102 : BitVec 32 := 256#32
  let v211 : BitVec 32 := Scalar.muli v210 c256_i32_102
  v211
def k0_off8 (k0_t1 : Fin k0_t1_loop.trips) (k0_t3 : Fin (k0_t3_loop k0_t1).trips) : Fin 2 → Nat :=
  let c0_i32_6 : BitVec 32 := 0#32
  let c1_i32_7 : BitVec 32 := 1#32
  let arg17 : BitVec 32 := Scf.iv c0_i32_6 c1_i32_7 k0_t1
  let c2_i32_97 : BitVec 32 := 2#32
  let c0_i32_80 : BitVec 32 := 0#32
  let c1_i32_72 : BitVec 32 := 1#32
  let v161 : BitVec 32 := Scalar.addi arg17 c1_i32_72
  let c0_i32_74 : BitVec 32 := 0#32
  let v163 : BitVec 1 := Scalar.cmpi .sgt v161 c0_i32_74
  let v164 : BitVec 32 := Scalar.extui v163
  let c0_i32_75 : BitVec 32 := 0#32
  let v165 : BitVec 1 := Scalar.cmpi .slt v161 c0_i32_75
  let v166 : BitVec 32 := Scalar.extui v165
  let v167 : BitVec 32 := Scalar.subi v164 v166
  let c2_i32_73 : BitVec 32 := 2#32
  let c0_i32_76 : BitVec 32 := 0#32
  let v168 : BitVec 1 := Scalar.cmpi .sgt c2_i32_73 c0_i32_76
  let v169 : BitVec 32 := Scalar.extui v168
  let c0_i32_77 : BitVec 32 := 0#32
  let v170 : BitVec 1 := Scalar.cmpi .slt c2_i32_73 c0_i32_77
  let v171 : BitVec 32 := Scalar.extui v170
  let v172 : BitVec 32 := Scalar.subi v169 v171
  let v173 : BitVec 1 := Scalar.cmpi .ne v167 v172
  let v174 : BitVec 32 := Scalar.remsi v161 c2_i32_73
  let c0_i32_78 : BitVec 32 := 0#32
  let v175 : BitVec 1 := Scalar.cmpi .ne v174 c0_i32_78
  let v176 : BitVec 1 := Scalar.andi v173 v175
  let v162 : BitVec 32 := Scalar.divsi v161 c2_i32_73
  let c1_i32_79 : BitVec 32 := 1#32
  let v177 : BitVec 32 := Scalar.subi v162 c1_i32_79
  let v178 : BitVec 32 := Scalar.select v176 v177 v162
  let v179 : BitVec 32 := Scalar.subi v178 c0_i32_80
  let c1_i32_82 : BitVec 32 := 1#32
  let v181 : BitVec 32 := Scalar.divsi v179 c1_i32_82
  let v182 : BitVec 32 := Scalar.muli v181 c1_i32_82
  let v183 : BitVec 32 := Scalar.addi c0_i32_80 v182
  let c1_i32_84 : BitVec 32 := 1#32
  let arg18 : BitVec 32 := Scf.iv v183 c1_i32_84 k0_t3
  let v205 : BitVec 32 := Scalar.muli c2_i32_97 arg18
  let v206 : BitVec 32 := Scalar.subi arg17 v205
  let c0_i32_101 : BitVec 32 := 0#32
  let v210 : BitVec 32 := Scalar.maxsi v206 c0_i32_101
  let c256_i32_102 : BitVec 32 := 256#32
  let v211 : BitVec 32 := Scalar.muli v210 c256_i32_102
  let v212 : BitVec 32 := v211
  let v213 : Index := Scalar.indexCast v212
  let c0_103 : Index := 0#32
  ![v213.toNat, 0]
def k0_mult11 (k0_t1 : Fin k0_t1_loop.trips) (k0_t3 : Fin (k0_t3_loop k0_t1).trips) : BitVec 32 :=
  let c0_i32_6 : BitVec 32 := 0#32
  let c1_i32_7 : BitVec 32 := 1#32
  let arg17 : BitVec 32 := Scf.iv c0_i32_6 c1_i32_7 k0_t1
  let c2_i32_97 : BitVec 32 := 2#32
  let c0_i32_80 : BitVec 32 := 0#32
  let c1_i32_72 : BitVec 32 := 1#32
  let v161 : BitVec 32 := Scalar.addi arg17 c1_i32_72
  let c0_i32_74 : BitVec 32 := 0#32
  let v163 : BitVec 1 := Scalar.cmpi .sgt v161 c0_i32_74
  let v164 : BitVec 32 := Scalar.extui v163
  let c0_i32_75 : BitVec 32 := 0#32
  let v165 : BitVec 1 := Scalar.cmpi .slt v161 c0_i32_75
  let v166 : BitVec 32 := Scalar.extui v165
  let v167 : BitVec 32 := Scalar.subi v164 v166
  let c2_i32_73 : BitVec 32 := 2#32
  let c0_i32_76 : BitVec 32 := 0#32
  let v168 : BitVec 1 := Scalar.cmpi .sgt c2_i32_73 c0_i32_76
  let v169 : BitVec 32 := Scalar.extui v168
  let c0_i32_77 : BitVec 32 := 0#32
  let v170 : BitVec 1 := Scalar.cmpi .slt c2_i32_73 c0_i32_77
  let v171 : BitVec 32 := Scalar.extui v170
  let v172 : BitVec 32 := Scalar.subi v169 v171
  let v173 : BitVec 1 := Scalar.cmpi .ne v167 v172
  let v174 : BitVec 32 := Scalar.remsi v161 c2_i32_73
  let c0_i32_78 : BitVec 32 := 0#32
  let v175 : BitVec 1 := Scalar.cmpi .ne v174 c0_i32_78
  let v176 : BitVec 1 := Scalar.andi v173 v175
  let v162 : BitVec 32 := Scalar.divsi v161 c2_i32_73
  let c1_i32_79 : BitVec 32 := 1#32
  let v177 : BitVec 32 := Scalar.subi v162 c1_i32_79
  let v178 : BitVec 32 := Scalar.select v176 v177 v162
  let v179 : BitVec 32 := Scalar.subi v178 c0_i32_80
  let c1_i32_82 : BitVec 32 := 1#32
  let v181 : BitVec 32 := Scalar.divsi v179 c1_i32_82
  let v182 : BitVec 32 := Scalar.muli v181 c1_i32_82
  let v183 : BitVec 32 := Scalar.addi c0_i32_80 v182
  let c1_i32_84 : BitVec 32 := 1#32
  let arg18 : BitVec 32 := Scf.iv v183 c1_i32_84 k0_t3
  let v205 : BitVec 32 := Scalar.muli c2_i32_97 arg18
  let v206 : BitVec 32 := Scalar.subi arg17 v205
  let c0_i32_104 : BitVec 32 := 0#32
  let v216 : BitVec 32 := Scalar.maxsi v206 c0_i32_104
  let c256_i32_105 : BitVec 32 := 256#32
  let v217 : BitVec 32 := Scalar.muli v216 c256_i32_105
  v217
def k0_mult12 (k0_t1 : Fin k0_t1_loop.trips) (k0_t3 : Fin (k0_t3_loop k0_t1).trips) : BitVec 32 :=
  let c0_i32_6 : BitVec 32 := 0#32
  let c1_i32_7 : BitVec 32 := 1#32
  let arg17 : BitVec 32 := Scf.iv c0_i32_6 c1_i32_7 k0_t1
  let c2_i32_97 : BitVec 32 := 2#32
  let c0_i32_80 : BitVec 32 := 0#32
  let c1_i32_72 : BitVec 32 := 1#32
  let v161 : BitVec 32 := Scalar.addi arg17 c1_i32_72
  let c0_i32_74 : BitVec 32 := 0#32
  let v163 : BitVec 1 := Scalar.cmpi .sgt v161 c0_i32_74
  let v164 : BitVec 32 := Scalar.extui v163
  let c0_i32_75 : BitVec 32 := 0#32
  let v165 : BitVec 1 := Scalar.cmpi .slt v161 c0_i32_75
  let v166 : BitVec 32 := Scalar.extui v165
  let v167 : BitVec 32 := Scalar.subi v164 v166
  let c2_i32_73 : BitVec 32 := 2#32
  let c0_i32_76 : BitVec 32 := 0#32
  let v168 : BitVec 1 := Scalar.cmpi .sgt c2_i32_73 c0_i32_76
  let v169 : BitVec 32 := Scalar.extui v168
  let c0_i32_77 : BitVec 32 := 0#32
  let v170 : BitVec 1 := Scalar.cmpi .slt c2_i32_73 c0_i32_77
  let v171 : BitVec 32 := Scalar.extui v170
  let v172 : BitVec 32 := Scalar.subi v169 v171
  let v173 : BitVec 1 := Scalar.cmpi .ne v167 v172
  let v174 : BitVec 32 := Scalar.remsi v161 c2_i32_73
  let c0_i32_78 : BitVec 32 := 0#32
  let v175 : BitVec 1 := Scalar.cmpi .ne v174 c0_i32_78
  let v176 : BitVec 1 := Scalar.andi v173 v175
  let v162 : BitVec 32 := Scalar.divsi v161 c2_i32_73
  let c1_i32_79 : BitVec 32 := 1#32
  let v177 : BitVec 32 := Scalar.subi v162 c1_i32_79
  let v178 : BitVec 32 := Scalar.select v176 v177 v162
  let v179 : BitVec 32 := Scalar.subi v178 c0_i32_80
  let c1_i32_82 : BitVec 32 := 1#32
  let v181 : BitVec 32 := Scalar.divsi v179 c1_i32_82
  let v182 : BitVec 32 := Scalar.muli v181 c1_i32_82
  let v183 : BitVec 32 := Scalar.addi c0_i32_80 v182
  let c1_i32_84 : BitVec 32 := 1#32
  let arg18 : BitVec 32 := Scf.iv v183 c1_i32_84 k0_t3
  let v205 : BitVec 32 := Scalar.muli c2_i32_97 arg18
  let v206 : BitVec 32 := Scalar.subi arg17 v205
  let c2_i32_126 : BitVec 32 := 2#32
  let v248 : BitVec 32 := Scalar.subi v206 c2_i32_126
  let c0_i32_127 : BitVec 32 := 0#32
  let v249 : BitVec 32 := Scalar.maxsi v248 c0_i32_127
  let c256_i32_128 : BitVec 32 := 256#32
  let v250 : BitVec 32 := Scalar.muli v249 c256_i32_128
  v250
def k0_off9 (k0_t1 : Fin k0_t1_loop.trips) (k0_t3 : Fin (k0_t3_loop k0_t1).trips) (c2_i32_126 : BitVec 32) : Fin 2 → Nat :=
  let c0_i32_6 : BitVec 32 := 0#32
  let c1_i32_7 : BitVec 32 := 1#32
  let arg17 : BitVec 32 := Scf.iv c0_i32_6 c1_i32_7 k0_t1
  let c2_i32_97 : BitVec 32 := 2#32
  let c0_i32_80 : BitVec 32 := 0#32
  let c1_i32_72 : BitVec 32 := 1#32
  let v161 : BitVec 32 := Scalar.addi arg17 c1_i32_72
  let c0_i32_74 : BitVec 32 := 0#32
  let v163 : BitVec 1 := Scalar.cmpi .sgt v161 c0_i32_74
  let v164 : BitVec 32 := Scalar.extui v163
  let c0_i32_75 : BitVec 32 := 0#32
  let v165 : BitVec 1 := Scalar.cmpi .slt v161 c0_i32_75
  let v166 : BitVec 32 := Scalar.extui v165
  let v167 : BitVec 32 := Scalar.subi v164 v166
  let c2_i32_73 : BitVec 32 := 2#32
  let c0_i32_76 : BitVec 32 := 0#32
  let v168 : BitVec 1 := Scalar.cmpi .sgt c2_i32_73 c0_i32_76
  let v169 : BitVec 32 := Scalar.extui v168
  let c0_i32_77 : BitVec 32 := 0#32
  let v170 : BitVec 1 := Scalar.cmpi .slt c2_i32_73 c0_i32_77
  let v171 : BitVec 32 := Scalar.extui v170
  let v172 : BitVec 32 := Scalar.subi v169 v171
  let v173 : BitVec 1 := Scalar.cmpi .ne v167 v172
  let v174 : BitVec 32 := Scalar.remsi v161 c2_i32_73
  let c0_i32_78 : BitVec 32 := 0#32
  let v175 : BitVec 1 := Scalar.cmpi .ne v174 c0_i32_78
  let v176 : BitVec 1 := Scalar.andi v173 v175
  let v162 : BitVec 32 := Scalar.divsi v161 c2_i32_73
  let c1_i32_79 : BitVec 32 := 1#32
  let v177 : BitVec 32 := Scalar.subi v162 c1_i32_79
  let v178 : BitVec 32 := Scalar.select v176 v177 v162
  let v179 : BitVec 32 := Scalar.subi v178 c0_i32_80
  let c1_i32_82 : BitVec 32 := 1#32
  let v181 : BitVec 32 := Scalar.divsi v179 c1_i32_82
  let v182 : BitVec 32 := Scalar.muli v181 c1_i32_82
  let v183 : BitVec 32 := Scalar.addi c0_i32_80 v182
  let c1_i32_84 : BitVec 32 := 1#32
  let arg18 : BitVec 32 := Scf.iv v183 c1_i32_84 k0_t3
  let v205 : BitVec 32 := Scalar.muli c2_i32_97 arg18
  let v206 : BitVec 32 := Scalar.subi arg17 v205
  let v248 : BitVec 32 := Scalar.subi v206 c2_i32_126
  let c0_i32_127 : BitVec 32 := 0#32
  let v249 : BitVec 32 := Scalar.maxsi v248 c0_i32_127
  let c256_i32_128 : BitVec 32 := 256#32
  let v250 : BitVec 32 := Scalar.muli v249 c256_i32_128
  let v251 : BitVec 32 := v250
  let v252 : Index := Scalar.indexCast v251
  let c0_129 : Index := 0#32
  ![v252.toNat, 0]
def k0_mult13 (k0_t1 : Fin k0_t1_loop.trips) (k0_t3 : Fin (k0_t3_loop k0_t1).trips) : BitVec 32 :=
  let c0_i32_6 : BitVec 32 := 0#32
  let c1_i32_7 : BitVec 32 := 1#32
  let arg17 : BitVec 32 := Scf.iv c0_i32_6 c1_i32_7 k0_t1
  let c2_i32_143 : BitVec 32 := 2#32
  let c0_i32_80 : BitVec 32 := 0#32
  let c1_i32_72 : BitVec 32 := 1#32
  let v161 : BitVec 32 := Scalar.addi arg17 c1_i32_72
  let c0_i32_74 : BitVec 32 := 0#32
  let v163 : BitVec 1 := Scalar.cmpi .sgt v161 c0_i32_74
  let v164 : BitVec 32 := Scalar.extui v163
  let c0_i32_75 : BitVec 32 := 0#32
  let v165 : BitVec 1 := Scalar.cmpi .slt v161 c0_i32_75
  let v166 : BitVec 32 := Scalar.extui v165
  let v167 : BitVec 32 := Scalar.subi v164 v166
  let c2_i32_73 : BitVec 32 := 2#32
  let c0_i32_76 : BitVec 32 := 0#32
  let v168 : BitVec 1 := Scalar.cmpi .sgt c2_i32_73 c0_i32_76
  let v169 : BitVec 32 := Scalar.extui v168
  let c0_i32_77 : BitVec 32 := 0#32
  let v170 : BitVec 1 := Scalar.cmpi .slt c2_i32_73 c0_i32_77
  let v171 : BitVec 32 := Scalar.extui v170
  let v172 : BitVec 32 := Scalar.subi v169 v171
  let v173 : BitVec 1 := Scalar.cmpi .ne v167 v172
  let v174 : BitVec 32 := Scalar.remsi v161 c2_i32_73
  let c0_i32_78 : BitVec 32 := 0#32
  let v175 : BitVec 1 := Scalar.cmpi .ne v174 c0_i32_78
  let v176 : BitVec 1 := Scalar.andi v173 v175
  let v162 : BitVec 32 := Scalar.divsi v161 c2_i32_73
  let c1_i32_79 : BitVec 32 := 1#32
  let v177 : BitVec 32 := Scalar.subi v162 c1_i32_79
  let v178 : BitVec 32 := Scalar.select v176 v177 v162
  let v179 : BitVec 32 := Scalar.subi v178 c0_i32_80
  let c1_i32_82 : BitVec 32 := 1#32
  let v181 : BitVec 32 := Scalar.divsi v179 c1_i32_82
  let v182 : BitVec 32 := Scalar.muli v181 c1_i32_82
  let v183 : BitVec 32 := Scalar.addi c0_i32_80 v182
  let c1_i32_84 : BitVec 32 := 1#32
  let arg18 : BitVec 32 := Scf.iv v183 c1_i32_84 k0_t3
  let v284 : BitVec 32 := Scalar.muli c2_i32_143 arg18
  let v285 : BitVec 32 := Scalar.subi arg17 v284
  let c1_i32_144 : BitVec 32 := 1#32
  let v286 : BitVec 32 := Scalar.subi v285 c1_i32_144
  let c0_i32_149 : BitVec 32 := 0#32
  let v290 : BitVec 32 := Scalar.maxsi v286 c0_i32_149
  let c256_i32_150 : BitVec 32 := 256#32
  let v291 : BitVec 32 := Scalar.muli v290 c256_i32_150
  v291
def k0_mult14 (k0_t1 : Fin k0_t1_loop.trips) (k0_t3 : Fin (k0_t3_loop k0_t1).trips) : BitVec 32 :=
  let c0_i32_6 : BitVec 32 := 0#32
  let c1_i32_7 : BitVec 32 := 1#32
  let arg17 : BitVec 32 := Scf.iv c0_i32_6 c1_i32_7 k0_t1
  let c2_i32_143 : BitVec 32 := 2#32
  let c0_i32_80 : BitVec 32 := 0#32
  let c1_i32_72 : BitVec 32 := 1#32
  let v161 : BitVec 32 := Scalar.addi arg17 c1_i32_72
  let c0_i32_74 : BitVec 32 := 0#32
  let v163 : BitVec 1 := Scalar.cmpi .sgt v161 c0_i32_74
  let v164 : BitVec 32 := Scalar.extui v163
  let c0_i32_75 : BitVec 32 := 0#32
  let v165 : BitVec 1 := Scalar.cmpi .slt v161 c0_i32_75
  let v166 : BitVec 32 := Scalar.extui v165
  let v167 : BitVec 32 := Scalar.subi v164 v166
  let c2_i32_73 : BitVec 32 := 2#32
  let c0_i32_76 : BitVec 32 := 0#32
  let v168 : BitVec 1 := Scalar.cmpi .sgt c2_i32_73 c0_i32_76
  let v169 : BitVec 32 := Scalar.extui v168
  let c0_i32_77 : BitVec 32 := 0#32
  let v170 : BitVec 1 := Scalar.cmpi .slt c2_i32_73 c0_i32_77
  let v171 : BitVec 32 := Scalar.extui v170
  let v172 : BitVec 32 := Scalar.subi v169 v171
  let v173 : BitVec 1 := Scalar.cmpi .ne v167 v172
  let v174 : BitVec 32 := Scalar.remsi v161 c2_i32_73
  let c0_i32_78 : BitVec 32 := 0#32
  let v175 : BitVec 1 := Scalar.cmpi .ne v174 c0_i32_78
  let v176 : BitVec 1 := Scalar.andi v173 v175
  let v162 : BitVec 32 := Scalar.divsi v161 c2_i32_73
  let c1_i32_79 : BitVec 32 := 1#32
  let v177 : BitVec 32 := Scalar.subi v162 c1_i32_79
  let v178 : BitVec 32 := Scalar.select v176 v177 v162
  let v179 : BitVec 32 := Scalar.subi v178 c0_i32_80
  let c1_i32_82 : BitVec 32 := 1#32
  let v181 : BitVec 32 := Scalar.divsi v179 c1_i32_82
  let v182 : BitVec 32 := Scalar.muli v181 c1_i32_82
  let v183 : BitVec 32 := Scalar.addi c0_i32_80 v182
  let c1_i32_84 : BitVec 32 := 1#32
  let arg18 : BitVec 32 := Scf.iv v183 c1_i32_84 k0_t3
  let v284 : BitVec 32 := Scalar.muli c2_i32_143 arg18
  let v285 : BitVec 32 := Scalar.subi arg17 v284
  let c1_i32_144 : BitVec 32 := 1#32
  let v286 : BitVec 32 := Scalar.subi v285 c1_i32_144
  let c0_i32_152 : BitVec 32 := 0#32
  let v296 : BitVec 32 := Scalar.maxsi v286 c0_i32_152
  let c256_i32_153 : BitVec 32 := 256#32
  let v297 : BitVec 32 := Scalar.muli v296 c256_i32_153
  v297
def k0_mult15 (k0_t1 : Fin k0_t1_loop.trips) (k0_t3 : Fin (k0_t3_loop k0_t1).trips) : BitVec 32 :=
  let c0_i32_6 : BitVec 32 := 0#32
  let c1_i32_7 : BitVec 32 := 1#32
  let arg17 : BitVec 32 := Scf.iv c0_i32_6 c1_i32_7 k0_t1
  let c2_i32_143 : BitVec 32 := 2#32
  let c0_i32_80 : BitVec 32 := 0#32
  let c1_i32_72 : BitVec 32 := 1#32
  let v161 : BitVec 32 := Scalar.addi arg17 c1_i32_72
  let c0_i32_74 : BitVec 32 := 0#32
  let v163 : BitVec 1 := Scalar.cmpi .sgt v161 c0_i32_74
  let v164 : BitVec 32 := Scalar.extui v163
  let c0_i32_75 : BitVec 32 := 0#32
  let v165 : BitVec 1 := Scalar.cmpi .slt v161 c0_i32_75
  let v166 : BitVec 32 := Scalar.extui v165
  let v167 : BitVec 32 := Scalar.subi v164 v166
  let c2_i32_73 : BitVec 32 := 2#32
  let c0_i32_76 : BitVec 32 := 0#32
  let v168 : BitVec 1 := Scalar.cmpi .sgt c2_i32_73 c0_i32_76
  let v169 : BitVec 32 := Scalar.extui v168
  let c0_i32_77 : BitVec 32 := 0#32
  let v170 : BitVec 1 := Scalar.cmpi .slt c2_i32_73 c0_i32_77
  let v171 : BitVec 32 := Scalar.extui v170
  let v172 : BitVec 32 := Scalar.subi v169 v171
  let v173 : BitVec 1 := Scalar.cmpi .ne v167 v172
  let v174 : BitVec 32 := Scalar.remsi v161 c2_i32_73
  let c0_i32_78 : BitVec 32 := 0#32
  let v175 : BitVec 1 := Scalar.cmpi .ne v174 c0_i32_78
  let v176 : BitVec 1 := Scalar.andi v173 v175
  let v162 : BitVec 32 := Scalar.divsi v161 c2_i32_73
  let c1_i32_79 : BitVec 32 := 1#32
  let v177 : BitVec 32 := Scalar.subi v162 c1_i32_79
  let v178 : BitVec 32 := Scalar.select v176 v177 v162
  let v179 : BitVec 32 := Scalar.subi v178 c0_i32_80
  let c1_i32_82 : BitVec 32 := 1#32
  let v181 : BitVec 32 := Scalar.divsi v179 c1_i32_82
  let v182 : BitVec 32 := Scalar.muli v181 c1_i32_82
  let v183 : BitVec 32 := Scalar.addi c0_i32_80 v182
  let c1_i32_84 : BitVec 32 := 1#32
  let arg18 : BitVec 32 := Scf.iv v183 c1_i32_84 k0_t3
  let v284 : BitVec 32 := Scalar.muli c2_i32_143 arg18
  let v285 : BitVec 32 := Scalar.subi arg17 v284
  let c1_i32_144 : BitVec 32 := 1#32
  let v286 : BitVec 32 := Scalar.subi v285 c1_i32_144
  let c2_i32_174 : BitVec 32 := 2#32
  let v328 : BitVec 32 := Scalar.subi v286 c2_i32_174
  let c0_i32_175 : BitVec 32 := 0#32
  let v329 : BitVec 32 := Scalar.maxsi v328 c0_i32_175
  let c256_i32_176 : BitVec 32 := 256#32
  let v330 : BitVec 32 := Scalar.muli v329 c256_i32_176
  v330
def k0_off10 (k0_t1 : Fin k0_t1_loop.trips) (k0_t3 : Fin (k0_t3_loop k0_t1).trips) : Fin 2 → Nat :=
  let c0_i32_6 : BitVec 32 := 0#32
  let c1_i32_7 : BitVec 32 := 1#32
  let arg17 : BitVec 32 := Scf.iv c0_i32_6 c1_i32_7 k0_t1
  let c2_i32_143 : BitVec 32 := 2#32
  let c0_i32_80 : BitVec 32 := 0#32
  let c1_i32_72 : BitVec 32 := 1#32
  let v161 : BitVec 32 := Scalar.addi arg17 c1_i32_72
  let c0_i32_74 : BitVec 32 := 0#32
  let v163 : BitVec 1 := Scalar.cmpi .sgt v161 c0_i32_74
  let v164 : BitVec 32 := Scalar.extui v163
  let c0_i32_75 : BitVec 32 := 0#32
  let v165 : BitVec 1 := Scalar.cmpi .slt v161 c0_i32_75
  let v166 : BitVec 32 := Scalar.extui v165
  let v167 : BitVec 32 := Scalar.subi v164 v166
  let c2_i32_73 : BitVec 32 := 2#32
  let c0_i32_76 : BitVec 32 := 0#32
  let v168 : BitVec 1 := Scalar.cmpi .sgt c2_i32_73 c0_i32_76
  let v169 : BitVec 32 := Scalar.extui v168
  let c0_i32_77 : BitVec 32 := 0#32
  let v170 : BitVec 1 := Scalar.cmpi .slt c2_i32_73 c0_i32_77
  let v171 : BitVec 32 := Scalar.extui v170
  let v172 : BitVec 32 := Scalar.subi v169 v171
  let v173 : BitVec 1 := Scalar.cmpi .ne v167 v172
  let v174 : BitVec 32 := Scalar.remsi v161 c2_i32_73
  let c0_i32_78 : BitVec 32 := 0#32
  let v175 : BitVec 1 := Scalar.cmpi .ne v174 c0_i32_78
  let v176 : BitVec 1 := Scalar.andi v173 v175
  let v162 : BitVec 32 := Scalar.divsi v161 c2_i32_73
  let c1_i32_79 : BitVec 32 := 1#32
  let v177 : BitVec 32 := Scalar.subi v162 c1_i32_79
  let v178 : BitVec 32 := Scalar.select v176 v177 v162
  let v179 : BitVec 32 := Scalar.subi v178 c0_i32_80
  let c1_i32_82 : BitVec 32 := 1#32
  let v181 : BitVec 32 := Scalar.divsi v179 c1_i32_82
  let v182 : BitVec 32 := Scalar.muli v181 c1_i32_82
  let v183 : BitVec 32 := Scalar.addi c0_i32_80 v182
  let c1_i32_84 : BitVec 32 := 1#32
  let arg18 : BitVec 32 := Scf.iv v183 c1_i32_84 k0_t3
  let v284 : BitVec 32 := Scalar.muli c2_i32_143 arg18
  let v285 : BitVec 32 := Scalar.subi arg17 v284
  let c1_i32_144 : BitVec 32 := 1#32
  let v286 : BitVec 32 := Scalar.subi v285 c1_i32_144
  let c2_i32_174 : BitVec 32 := 2#32
  let v328 : BitVec 32 := Scalar.subi v286 c2_i32_174
  let c0_i32_175 : BitVec 32 := 0#32
  let v329 : BitVec 32 := Scalar.maxsi v328 c0_i32_175
  let c256_i32_176 : BitVec 32 := 256#32
  let v330 : BitVec 32 := Scalar.muli v329 c256_i32_176
  let v331 : BitVec 32 := v330
  let v332 : Index := Scalar.indexCast v331
  let c0_177 : Index := 0#32
  ![v332.toNat, 0]
def k0_cond1 (k0_t1 : Fin k0_t1_loop.trips) : BitVec 1 :=
  let c0_i32_6 : BitVec 32 := 0#32
  let c1_i32_7 : BitVec 32 := 1#32
  let arg17 : BitVec 32 := Scf.iv c0_i32_6 c1_i32_7 k0_t1
  let c1_i32_72 : BitVec 32 := 1#32
  let v161 : BitVec 32 := Scalar.addi arg17 c1_i32_72
  let c2_i32_85 : BitVec 32 := 2#32
  let c0_i32_86 : BitVec 32 := 0#32
  let v186 : BitVec 1 := Scalar.cmpi .eq c2_i32_85 c0_i32_86
  let c1_i32_87 : BitVec 32 := 1#32
  let v187 : BitVec 32 := Scalar.select v186 c1_i32_87 c2_i32_85
  let v188 : BitVec 32 := Scalar.remsi v161 v187
  let c0_i32_89 : BitVec 32 := 0#32
  let v190 : BitVec 1 := Scalar.cmpi .slt v188 c0_i32_89
  let c0_i32_90 : BitVec 32 := 0#32
  let v191 : BitVec 1 := Scalar.cmpi .slt v187 c0_i32_90
  let v192 : BitVec 1 := Scalar.xori v190 v191
  let c0_i32_88 : BitVec 32 := 0#32
  let v189 : BitVec 1 := Scalar.cmpi .ne v188 c0_i32_88
  let v193 : BitVec 1 := Scalar.andi v192 v189
  let v194 : BitVec 32 := Scalar.addi v188 v187
  let v195 : BitVec 32 := Scalar.select v193 v194 v188
  let c1_i32_91 : BitVec 32 := 1#32
  let v196 : BitVec 1 := Scalar.cmpi .eq v195 c1_i32_91
  let v197 : BitVec 32 := Scalar.extui v196
  let c0_i32_92 : BitVec 32 := 0#32
  let v198 : BitVec 1 := Scalar.cmpi .ne v197 c0_i32_92
  v198

def k0_mult16 : BitVec 32 :=
  let c0_i32_100 : BitVec 32 := 0#32
  let c0_i32_101 : BitVec 32 := 0#32
  let v208 : BitVec 32 := Scalar.maxsi c0_i32_100 c0_i32_101
  let c256_i32_102 : BitVec 32 := 256#32
  let v209 : BitVec 32 := Scalar.muli v208 c256_i32_102
  v209
def k0_off11 (c0_i32_100 : BitVec 32) : Fin 2 → Nat :=
  let c0_i32_101 : BitVec 32 := 0#32
  let v208 : BitVec 32 := Scalar.maxsi c0_i32_100 c0_i32_101
  let c256_i32_102 : BitVec 32 := 256#32
  let v209 : BitVec 32 := Scalar.muli v208 c256_i32_102
  let v210 : BitVec 32 := v209
  let v211 : Index := Scalar.indexCast v210
  let c0_103 : Index := 0#32
  ![v211.toNat, 0]
def k0_mult17 : BitVec 32 :=
  let c0_i32_104 : BitVec 32 := 0#32
  let c0_i32_105 : BitVec 32 := 0#32
  let v214 : BitVec 32 := Scalar.maxsi c0_i32_104 c0_i32_105
  let c256_i32_106 : BitVec 32 := 256#32
  let v215 : BitVec 32 := Scalar.muli v214 c256_i32_106
  v215
def k0_mult18 : BitVec 32 :=
  let c_m2_i32 : BitVec 32 := 4294967294#32
  let c0_i32_127 : BitVec 32 := 0#32
  let v246 : BitVec 32 := Scalar.maxsi c_m2_i32 c0_i32_127
  let c256_i32_128 : BitVec 32 := 256#32
  let v247 : BitVec 32 := Scalar.muli v246 c256_i32_128
  v247
def k0_mult19 (k0_t1 : Fin k0_t1_loop.trips) : BitVec 32 :=
  let c0_i32_6 : BitVec 32 := 0#32
  let c1_i32_7 : BitVec 32 := 1#32
  let arg17 : BitVec 32 := Scf.iv c0_i32_6 c1_i32_7 k0_t1
  let c256_i32_95 : BitVec 32 := 256#32
  let v201 : BitVec 32 := Scalar.muli arg17 c256_i32_95
  v201
def k0_off12 (k0_t1 : Fin k0_t1_loop.trips) : Fin 2 → Nat :=
  let c0_i32_6 : BitVec 32 := 0#32
  let c1_i32_7 : BitVec 32 := 1#32
  let arg17 : BitVec 32 := Scf.iv c0_i32_6 c1_i32_7 k0_t1
  let c256_i32_95 : BitVec 32 := 256#32
  let v201 : BitVec 32 := Scalar.muli arg17 c256_i32_95
  let v202 : BitVec 32 := v201
  let v203 : Index := Scalar.indexCast v202
  let c0_96 : Index := 0#32
  ![v203.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4352x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4352x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnIdeal.lean ====
variable {F : FTy → Type} [FloatOps F] [Named F]
def κ : String → Option EReal := fun
  | "log2e" => some (((Real.log 2)⁻¹ : ℝ) : EReal)
  | _ => none
-- ==== AttnRefIdeal.lean ====
abbrev S4x4352x16x64 : Shape := ⟨4, ![4, 4352, 16, 64]⟩
abbrev S16 : Shape := ⟨1, ![16]⟩
abbrev S4x16x4352x4352 : Shape := ⟨4, ![4, 16, 4352, 4352]⟩
abbrev S_ : Shape := ⟨0, ![]⟩
abbrev S1x16x1x1 : Shape := ⟨4, ![1, 16, 1, 1]⟩
abbrev S4352 : Shape := ⟨1, ![4352]⟩
abbrev S1x4352 : Shape := ⟨2, ![1, 4352]⟩
abbrev S4352x1 : Shape := ⟨2, ![4352, 1]⟩
abbrev S4352x4352 : Shape := ⟨2, ![4352, 4352]⟩
abbrev S1x1x4352x4352 : Shape := ⟨4, ![1, 1, 4352, 4352]⟩
abbrev S4x16x64x4352 : Shape := ⟨4, ![4, 16, 64, 4352]⟩
abbrev S17408x1024 : Shape := ⟨2, ![17408, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4x4352x16x64, .f32⟩
  | .hbm, ⟨1, _⟩ => ⟨S4x4352x16x64, .f32⟩
  | .hbm, ⟨2, _⟩ => ⟨S4x4352x16x64, .f32⟩
  | .hbm, ⟨3, _⟩ => ⟨S16, .f32⟩
  | .hbm, ⟨4, _⟩ => ⟨S4x16x4352x4352, .f32⟩
  | .hbm, ⟨5, _⟩ => ⟨S_, .f32⟩
  | .hbm, ⟨6, _⟩ => ⟨S4x16x4352x4352, .f32⟩
  | .hbm, ⟨7, _⟩ => ⟨S4x16x4352x4352, .f32⟩
  | .hbm, ⟨8, _⟩ => ⟨S1x16x1x1, .f32⟩
  | .hbm, ⟨9, _⟩ => ⟨S4x16x4352x4352, .f32⟩
  | .hbm, ⟨10, _⟩ => ⟨S4x16x4352x4352, .f32⟩
  | .hbm, ⟨11, _⟩ => ⟨S4352, .i32⟩
  | .hbm, ⟨12, _⟩ => ⟨S1x4352, .i32⟩
  | .hbm, ⟨13, _⟩ => ⟨S4352x1, .i32⟩
  | .hbm, ⟨14, _⟩ => ⟨S4352x4352, .i32⟩
  | .hbm, ⟨15, _⟩ => ⟨S4352x4352, .i32⟩
  | .hbm, ⟨16, _⟩ => ⟨S4352x4352, .i1⟩
  | .hbm, ⟨17, _⟩ => ⟨S1x1x4352x4352, .i1⟩
  | .hbm, ⟨18, _⟩ => ⟨S4x16x4352x4352, .f32⟩
  | .hbm, ⟨19, _⟩ => ⟨S4x16x4352x4352, .f32⟩
  | .hbm, ⟨20, _⟩ => ⟨S_, .f32⟩
  | .hbm, ⟨21, _⟩ => ⟨S4x16x4352x4352, .f32⟩
  | .hbm, ⟨22, _⟩ => ⟨S4x16x4352x4352, .f32⟩
  | .hbm, ⟨23, _⟩ => ⟨S4x16x4352x4352, .f32⟩
  | .hbm, ⟨24, _⟩ => ⟨S4x16x4352x4352, .f32⟩
  | .hbm, ⟨25, _⟩ => ⟨S4x16x4352x4352, .i1⟩
  | .hbm, ⟨26, _⟩ => ⟨S4x16x4352x4352, .f32⟩
  | .hbm, ⟨27, _⟩ => ⟨S4x16x4352x4352, .f32⟩
  | .hbm, ⟨28, _⟩ => ⟨S4x16x4352x4352, .f32⟩
  | .hbm, ⟨29, _⟩ => ⟨S4x16x4352x4352, .f32⟩
  | .hbm, ⟨30, _⟩ => ⟨S4x16x4352x4352, .f32⟩
  | .hbm, ⟨31, _⟩ => ⟨S4x16x4352x4352, .f32⟩
  | .hbm, ⟨32, _⟩ => ⟨S4x16x4352x4352, .f32⟩
  | .hbm, ⟨33, _⟩ => ⟨S4x16x4352x4352, .f32⟩
  | .hbm, ⟨34, _⟩ => ⟨S4x16x4352x4352, .f32⟩
  | .hbm, ⟨35, _⟩ => ⟨S_, .f32⟩
  | .hbm, ⟨36, _⟩ => ⟨S_, .f32⟩
  | .hbm, ⟨37, _⟩ => ⟨S4x16x4352x4352, .i1⟩
  | .hbm, ⟨38, _⟩ => ⟨S4x16x4352x4352, .f32⟩
  | .hbm, ⟨39, _⟩ => ⟨S4x16x4352x4352, .f32⟩
  | .hbm, ⟨40, _⟩ => ⟨S_, .f32⟩
  | .hbm, ⟨41, _⟩ => ⟨S_, .f32⟩
  | .hbm, ⟨42, _⟩ => ⟨S4x16x4352x4352, .f32⟩
  | .hbm, ⟨43, _⟩ => ⟨S4x16x4352x4352, .f32⟩
  | .hbm, ⟨44, _⟩ => ⟨S4x16x4352x4352, .f32⟩
  | .hbm, ⟨45, _⟩ => ⟨S_, .f32⟩
  | .hbm, ⟨46, _⟩ => ⟨S4x16x4352x4352, .f32⟩
  | .hbm, ⟨47, _⟩ => ⟨S4x16x4352x4352, .f32⟩
  | .hbm, ⟨48, _⟩ => ⟨S4x16x4352x4352, .f32⟩
  | .hbm, ⟨49, _⟩ => ⟨S4x16x4352x4352, .f32⟩
  | .hbm, ⟨50, _⟩ => ⟨S4x16x4352x4352, .i1⟩
  | .hbm, ⟨51, _⟩ => ⟨S4x16x4352x4352, .f32⟩
  | .hbm, ⟨52, _⟩ => ⟨S4x16x4352x4352, .f32⟩
  | .hbm, ⟨53, _⟩ => ⟨S4x16x4352x4352, .f32⟩
  | .hbm, ⟨54, _⟩ => ⟨S4x16x4352x4352, .f32⟩
  | .hbm, ⟨55, _⟩ => ⟨S4x16x4352x4352, .f32⟩
  | .hbm, ⟨56, _⟩ => ⟨S4x16x4352x4352, .f32⟩
  | .hbm, ⟨57, _⟩ => ⟨S4x16x4352x4352, .f32⟩
  | .hbm, ⟨58, _⟩ => ⟨S4x16x4352x4352, .f32⟩
  | .hbm, ⟨59, _⟩ => ⟨S4x16x4352x4352, .f32⟩
  | .hbm, ⟨60, _⟩ => ⟨S4x16x4352x4352, .f32⟩
  | .hbm, ⟨61, _⟩ => ⟨S4x16x4352x4352, .f32⟩
  | .hbm, ⟨62, _⟩ => ⟨S_, .f32⟩
  | .hbm, ⟨63, _⟩ => ⟨S_, .f32⟩
  | .hbm, ⟨64, _⟩ => ⟨S4x16x4352x4352, .i1⟩
  | .hbm, ⟨65, _⟩ => ⟨S4x16x4352x4352, .f32⟩
  | .hbm, ⟨66, _⟩ => ⟨S4x16x4352x4352, .f32⟩
  | .hbm, ⟨67, _⟩ => ⟨S4x16x64x4352, .f32⟩
  | .hbm, ⟨68, _⟩ => ⟨S4x4352x16x64, .f32⟩
  | .hbm, ⟨69, _⟩ => ⟨S17408x1024, .f32⟩
  | .hbm, ⟨70, _⟩ => ⟨S17408x1024, .bf16⟩
  | _, _ => ⟨S4x4352x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v14 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v15 : Ref sig .tc := ⟨.hbm, 39, rfl⟩
abbrev main_call2_cst : Ref sig .tc := ⟨.hbm, 40, rfl⟩
abbrev main_call2_v0 : Ref sig .tc := ⟨.hbm, 41, rfl⟩
abbrev main_v16 : Ref sig .tc := ⟨.hbm, 42, rfl⟩
abbrev main_v17 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩

abbrev nD : Nat := 1
abbrev τ : Topo := Topo.v7x

variable {F : FTy → Type} [FloatOps F]
-- ==== Rg.lean ====
abbrev S17408x1024 : Shape := ⟨2, ![17408, 1024]⟩
abbrev S1024 : Shape := ⟨1, ![1024]⟩
abbrev S1024x1024 : Shape := ⟨2, ![1024, 1024]⟩
abbrev S4x1024 : Shape := ⟨2, ![4, 1024]⟩
abbrev S4x256x256 : Shape := ⟨3, ![4, 256, 256]⟩
abbrev S4x256 : Shape := ⟨2, ![4, 256]⟩
abbrev S1x1024 : Shape := ⟨2, ![1, 1024]⟩
abbrev S1024x2048 : Shape := ⟨2, ![1024, 2048]⟩
abbrev S4x8x1024 : Shape := ⟨3, ![4, 8, 1024]⟩
abbrev S256x1024 : Shape := ⟨2, ![256, 1024]⟩
abbrev S1x8x1024 : Shape := ⟨3, ![1, 8, 1024]⟩
abbrev S264x1024 : Shape := ⟨2, ![264, 1024]⟩
abbrev S8x1024 : Shape := ⟨2, ![8, 1024]⟩
abbrev S256 : Shape := ⟨1, ![256]⟩
abbrev S256x1 : Shape := ⟨2, ![256, 1]⟩
abbrev S256x2048 : Shape := ⟨2, ![256, 2048]⟩
abbrev S256x256 : Shape := ⟨2, ![256, 256]⟩
abbrev S1x256x256 : Shape := ⟨3, ![1, 256, 256]⟩

abbrev nBuf : Space → Nat
  | .hbm => 27
  | .vmem => 21
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S4x1024, .f32⟩
  | .hbm, ⟨6, _⟩ => ⟨S1024, .f32⟩
  | .hbm, ⟨7, _⟩ => ⟨S4x256x256, .f32⟩
  | .hbm, ⟨8, _⟩ => ⟨S4x256, .f32⟩
  | .hbm, ⟨9, _⟩ => ⟨S4x256x256, .f32⟩
  | .hbm, ⟨10, _⟩ => ⟨S4x256, .f32⟩
  | .hbm, ⟨11, _⟩ => ⟨S1024, .f32⟩
  | .hbm, ⟨12, _⟩ => ⟨S1024x1024, .f32⟩
  | .hbm, ⟨13, _⟩ => ⟨S1x1024, .f32⟩
  | .hbm, ⟨14, _⟩ => ⟨S1x1024, .f32⟩
  | .hbm, ⟨15, _⟩ => ⟨S1024x2048, .f32⟩
  | .hbm, ⟨16, _⟩ => ⟨S1024x2048, .bf16⟩
  | .hbm, ⟨17, _⟩ => ⟨S1x1024, .f32⟩
  | .hbm, ⟨18, _⟩ => ⟨S4x256x256, .bf16⟩
  | .hbm, ⟨19, _⟩ => ⟨S1x1024, .f32⟩
  | .hbm, ⟨20, _⟩ => ⟨S4x256x256, .bf16⟩
  | .hbm, ⟨21, _⟩ => ⟨S1x1024, .f32⟩
  | .hbm, ⟨22, _⟩ => ⟨S1x1024, .f32⟩
  | .hbm, ⟨23, _⟩ => ⟨S1024x1024, .bf16⟩
  | .hbm, ⟨24, _⟩ => ⟨S17408x1024, .f32⟩
  | .hbm, ⟨25, _⟩ => ⟨S4x8x1024, .f32⟩
  | .hbm, ⟨26, _⟩ => ⟨S4x8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S4x1024, .f32⟩
  | .local _ .vmem, ⟨6, _⟩ => ⟨S1x1024, .f32⟩
  | .local _ .vmem, ⟨7, _⟩ => ⟨S4x256x256, .bf16⟩
  | .local _ .vmem, ⟨8, _⟩ => ⟨S1x1024, .f32⟩
  | .local _ .vmem, ⟨9, _⟩ => ⟨S4x256x256, .bf16⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S1x8x1024, .f32⟩
  | .local _ .vmem, ⟨16, _⟩ => ⟨S1x8x1024, .f32⟩
  | .local _ .vmem, ⟨17, _⟩ => ⟨S1x8x1024, .f32⟩
  | .local _ .vmem, ⟨18, _⟩ => ⟨S1x8x1024, .f32⟩
  | .local _ .vmem, ⟨19, _⟩ => ⟨S264x1024, .f32⟩
  | .local _ .vmem, ⟨20, _⟩ => ⟨S1x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg1 : BitVec 32 := BitVec.ofNat 32 (i 1).val
  let c16_i32_121 : BitVec 32 := 16#32
  let v298 : BitVec 1 := Scalar.cmpi .eq arg1 c16_i32_121
  let v299 : BitVec 32 := Scalar.extui v298
  let c0_i32_122 : BitVec 32 := 0#32
  let v300 : BitVec 1 := Scalar.cmpi .ne v299 c0_i32_122
  v300

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== RgRefIdeal.lean ====
abbrev S17408x1024 : Shape := ⟨2, ![17408, 1024]⟩
abbrev S1024 : Shape := ⟨1, ![1024]⟩
abbrev S1024x1024 : Shape := ⟨2, ![1024, 1024]⟩
abbrev S4x1024 : Shape := ⟨2, ![4, 1024]⟩
abbrev S4x256x256 : Shape := ⟨3, ![4, 256, 256]⟩
abbrev S4x256 : Shape := ⟨2, ![4, 256]⟩
abbrev S_ : Shape := ⟨0, ![]⟩
abbrev S4x3x1024 : Shape := ⟨3, ![4, 3, 1024]⟩
abbrev S17408 : Shape := ⟨1, ![17408]⟩
abbrev S17408x1 : Shape := ⟨2, ![17408, 1]⟩
abbrev S1x1024 : Shape := ⟨2, ![1, 1024]⟩
abbrev S4x4352x1024 : Shape := ⟨3, ![4, 4352, 1024]⟩
abbrev S4x4355x1024 : Shape := ⟨3, ![4, 4355, 1024]⟩
abbrev S1x1x1024 : Shape := ⟨3, ![1, 1, 1024]⟩
abbrev S4x4352x4x256 : Shape := ⟨4, ![4, 4352, 4, 256]⟩
abbrev S4x256x4x4352 : Shape := ⟨4, ![4, 256, 4, 4352]⟩
abbrev S1x1x4x256 : Shape := ⟨4, ![1, 1, 4, 256]⟩
abbrev S4352 : Shape := ⟨1, ![4352]⟩
abbrev S1x4352x1 : Shape := ⟨3, ![1, 4352, 1]⟩
abbrev S4352x4x1024 : Shape := ⟨3, ![4352, 4, 1024]⟩
abbrev S1x4x1024 : Shape := ⟨3, ![1, 4, 1024]⟩
abbrev S4x8x1024 : Shape := ⟨3, ![4, 8, 1024]⟩

abbrev nBuf : Space → Nat
  | .hbm => 239
  | .vmem => 0
  | .smem => 0
  | _ => 0

abbrev hbmTy0_0 (i : Nat) : BufTy := match i % 128 with
  | 0 => ⟨S17408x1024, .f32⟩
  | 1 => ⟨S1024, .f32⟩
  | 2 => ⟨S1024, .f32⟩
  | 3 => ⟨S1024x1024, .f32⟩
  | 4 => ⟨S1024x1024, .f32⟩
  | 5 => ⟨S4x1024, .f32⟩
  | 6 => ⟨S1024, .f32⟩
  | 7 => ⟨S4x256x256, .f32⟩
  | 8 => ⟨S4x256, .f32⟩
  | 9 => ⟨S4x256x256, .f32⟩
  | 10 => ⟨S4x256, .f32⟩
  | 11 => ⟨S1024, .f32⟩
  | 12 => ⟨S1024x1024, .f32⟩
  | 13 => ⟨S_, .f32⟩
  | 14 => ⟨S4x3x1024, .f32⟩
  | 15 => ⟨S17408x1024, .f32⟩
  | 16 => ⟨S_, .f32⟩
  | 17 => ⟨S17408, .f32⟩
  | 18 => ⟨S17408x1, .f32⟩
  | 19 => ⟨S_, .f32⟩
  | 20 => ⟨S17408x1, .f32⟩
  | 21 => ⟨S17408x1, .f32⟩
  | 22 => ⟨S_, .f32⟩
  | 23 => ⟨S17408x1, .f32⟩
  | 24 => ⟨S17408x1, .f32⟩
  | 25 => ⟨S17408x1, .f32⟩
  | 26 => ⟨S17408x1024, .f32⟩
  | 27 => ⟨S17408x1024, .f32⟩
  | 28 => ⟨S1x1024, .f32⟩
  | 29 => ⟨S17408x1024, .f32⟩
  | 30 => ⟨S17408x1024, .f32⟩
  | 31 => ⟨S4x4352x1024, .f32⟩
  | 32 => ⟨S4x4352x1024, .f32⟩
  | 33 => ⟨S4x4355x1024, .f32⟩
  | 34 => ⟨S4x4352x1024, .f32⟩
  | 35 => ⟨S1x1024, .f32⟩
  | 36 => ⟨S1024, .f32⟩
  | 37 => ⟨S1x1x1024, .f32⟩
  | 38 => ⟨S4x4352x1024, .f32⟩
  | 39 => ⟨S4x4352x1024, .f32⟩
  | 40 => ⟨S1x1x1024, .f32⟩
  | 41 => ⟨S4x4352x1024, .f32⟩
  | 42 => ⟨S4x4352x1024, .f32⟩
  | 43 => ⟨S4x4352x1024, .f32⟩
  | 44 => ⟨S1x1024, .f32⟩
  | 45 => ⟨S1024, .f32⟩
  | 46 => ⟨S1x1x1024, .f32⟩
  | 47 => ⟨S4x4352x1024, .f32⟩
  | 48 => ⟨S4x4352x1024, .f32⟩
  | 49 => ⟨S4x4352x1024, .f32⟩
  | 50 => ⟨S4x4352x1024, .f32⟩
  | 51 => ⟨S1x1024, .f32⟩
  | 52 => ⟨S1024, .f32⟩
  | 53 => ⟨S1x1x1024, .f32⟩
  | 54 => ⟨S4x4352x1024, .f32⟩
  | 55 => ⟨S4x4352x1024, .f32⟩
  | 56 => ⟨S4x4352x1024, .f32⟩
  | 57 => ⟨S4x4352x1024, .f32⟩
  | 58 => ⟨S1x1024, .f32⟩
  | 59 => ⟨S1024, .f32⟩
  | 60 => ⟨S1x1x1024, .f32⟩
  | 61 => ⟨S4x4352x1024, .f32⟩
  | 62 => ⟨S4x4352x1024, .f32⟩
  | 63 => ⟨S4x4352x1024, .f32⟩
  | 64 => ⟨S4x4352x4x256, .f32⟩
  | 65 => ⟨S4x256x4x4352, .f32⟩
  | 66 => ⟨S4x4352x4x256, .f32⟩
  | 67 => ⟨S1x1x4x256, .f32⟩
  | 68 => ⟨S4x4352x4x256, .f32⟩
  | 69 => ⟨S4x4352x4x256, .f32⟩
  | 70 => ⟨S4x4352x4x256, .f32⟩
  | 71 => ⟨S4x4352x4x256, .f32⟩
  | 72 => ⟨S_, .f32⟩
  | 73 => ⟨S4x4352x4x256, .f32⟩
  | 74 => ⟨S4x4352x4x256, .f32⟩
  | 75 => ⟨S_, .f32⟩
  | 76 => ⟨S4x4352x4x256, .f32⟩
  | 77 => ⟨S4x4352x4x256, .f32⟩
  | 78 => ⟨S4x4352x1024, .f32⟩
  | 79 => ⟨S4x256x4x4352, .f32⟩
  | 80 => ⟨S4x4352x4x256, .f32⟩
  | 81 => ⟨S1x1x4x256, .f32⟩
  | 82 => ⟨S4x4352x4x256, .f32⟩
  | 83 => ⟨S4x4352x4x256, .f32⟩
  | 84 => ⟨S4x4352x4x256, .f32⟩
  | 85 => ⟨S4x4352x4x256, .f32⟩
  | 86 => ⟨S_, .f32⟩
  | 87 => ⟨S4x4352x4x256, .f32⟩
  | 88 => ⟨S4x4352x4x256, .f32⟩
  | 89 => ⟨S_, .f32⟩
  | 90 => ⟨S4x4352x4x256, .f32⟩
  | 91 => ⟨S4x4352x4x256, .f32⟩
  | 92 => ⟨S4x4352x1024, .f32⟩
  | 93 => ⟨S_, .f32⟩
  | 94 => ⟨S4x4352x1024, .f32⟩
  | 95 => ⟨S4x4352x1024, .f32⟩
  | 96 => ⟨S1024, .f32⟩
  | 97 => ⟨S_, .f32⟩
  | 98 => ⟨S1024, .f32⟩
  | 99 => ⟨S1024, .f32⟩
  | 100 => ⟨S1024, .f32⟩
  | 101 => ⟨S1024, .f32⟩
  | 102 => ⟨S1024, .i1⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S1024, .f32⟩
  | 110 => ⟨S1024, .f32⟩
  | 111 => ⟨S1x1x1024, .f32⟩
  | 112 => ⟨S4x4352x1024, .f32⟩
  | 113 => ⟨S4x4352x1024, .f32⟩
  | 114 => ⟨S4x4352x1024, .f32⟩
  | 115 => ⟨S_, .f32⟩
  | 116 => ⟨S4x4352x1024, .f32⟩
  | 117 => ⟨S4x4352x1024, .f32⟩
  | 118 => ⟨S4x4352x1024, .f32⟩
  | 119 => ⟨S4x4352x1024, .f32⟩
  | 120 => ⟨S4x4352x1024, .f32⟩
  | 121 => ⟨S4352, .i32⟩
  | 122 => ⟨S_, .i32⟩
  | 123 => ⟨S4352, .i32⟩
  | 124 => ⟨S4352, .i1⟩
  | 125 => ⟨S1x4352x1, .i1⟩
  | 126 => ⟨S_, .f32⟩
  | 127 => ⟨S_, .f32⟩
  | _ => ⟨S17408x1024, .f32⟩

abbrev hbmTy0_1 (i : Nat) : BufTy := match i % 128 with
  | 0 => ⟨S4x4352x1024, .i1⟩
  | 1 => ⟨S4x4352x1024, .f32⟩
  | 2 => ⟨S4x4352x1024, .f32⟩
  | 3 => ⟨S4x4352x1024, .f32⟩
  | 4 => ⟨S4x4352x1024, .f32⟩
  | 5 => ⟨S_, .f32⟩
  | 6 => ⟨S4x1024, .f32⟩
  | 7 => ⟨S4352x4x1024, .f32⟩
  | 8 => ⟨S4352x4x1024, .f32⟩
  | 9 => ⟨S_, .f32⟩
  | 10 => ⟨S4352x4x1024, .f32⟩
  | 11 => ⟨S_, .i32⟩
  | 12 => ⟨S4352x4x1024, .f32⟩
  | 13 => ⟨S4352x4x1024, .f32⟩
  | 14 => ⟨S_, .i32⟩
  | 15 => ⟨S4x1024, .f32⟩
  | 16 => ⟨S4352x4x1024, .f32⟩
  | 17 => ⟨S_, .i32⟩
  | 18 => ⟨S_, .i1⟩
  | 19 => ⟨S_, .i32⟩
  | 20 => ⟨S_, .i32⟩
  | 21 => ⟨S1x4x1024, .f32⟩
  | 22 => ⟨S4x1024, .f32⟩
  | 23 => ⟨S_, .i32⟩
  | 24 => ⟨S_, .i32⟩
  | 25 => ⟨S1x4x1024, .f32⟩
  | 26 => ⟨S4x1024, .f32⟩
  | 27 => ⟨S4x1024, .f32⟩
  | 28 => ⟨S4x1024, .f32⟩
  | 29 => ⟨S1x4x1024, .f32⟩
  | 30 => ⟨S_, .i32⟩
  | 31 => ⟨S_, .i32⟩
  | 32 => ⟨S4352x4x1024, .f32⟩
  | 33 => ⟨S_, .i32⟩
  | 34 => ⟨S_, .i32⟩
  | 35 => ⟨S4x4352x1024, .f32⟩
  | 36 => ⟨S17408x1024, .f32⟩
  | 37 => ⟨S_, .f32⟩
  | 38 => ⟨S17408, .f32⟩
  | 39 => ⟨S17408x1, .f32⟩
  | 40 => ⟨S_, .f32⟩
  | 41 => ⟨S17408x1, .f32⟩
  | 42 => ⟨S17408x1, .f32⟩
  | 43 => ⟨S_, .f32⟩
  | 44 => ⟨S17408x1, .f32⟩
  | 45 => ⟨S17408x1, .f32⟩
  | 46 => ⟨S17408x1, .f32⟩
  | 47 => ⟨S17408x1024, .f32⟩
  | 48 => ⟨S17408x1024, .f32⟩
  | 49 => ⟨S1x1024, .f32⟩
  | 50 => ⟨S17408x1024, .f32⟩
  | 51 => ⟨S17408x1024, .f32⟩
  | 52 => ⟨S4x4352x1024, .f32⟩
  | 53 => ⟨S4x4352x1024, .f32⟩
  | 54 => ⟨S4x4352x1024, .f32⟩
  | 55 => ⟨S4x4352x1024, .f32⟩
  | 56 => ⟨S_, .f32⟩
  | 57 => ⟨S4x4352x1024, .f32⟩
  | 58 => ⟨S4x4352x1024, .f32⟩
  | 59 => ⟨S4x4352x1024, .f32⟩
  | 60 => ⟨S_, .f32⟩
  | 61 => ⟨S4x4352x1024, .f32⟩
  | 62 => ⟨S4x4352x1024, .f32⟩
  | 63 => ⟨S4x4352x1024, .f32⟩
  | 64 => ⟨S_, .f32⟩
  | 65 => ⟨S4x4352x1024, .f32⟩
  | 66 => ⟨S4x4352x1024, .f32⟩
  | 67 => ⟨S_, .f32⟩
  | 68 => ⟨S4x4352x1024, .f32⟩
  | 69 => ⟨S4x4352x1024, .f32⟩
  | 70 => ⟨S4x4352x1024, .f32⟩
  | 71 => ⟨S4x4352x1024, .f32⟩
  | 72 => ⟨S4x4352x1024, .f32⟩
  | 73 => ⟨S17408x1024, .f32⟩
  | 74 => ⟨S17408x1024, .f32⟩
  | 75 => ⟨S_, .f32⟩
  | 76 => ⟨S17408, .f32⟩
  | 77 => ⟨S17408x1, .f32⟩
  | 78 => ⟨S_, .f32⟩
  | 79 => ⟨S17408x1, .f32⟩
  | 80 => ⟨S17408x1, .f32⟩
  | 81 => ⟨S_, .f32⟩
  | 82 => ⟨S17408x1, .f32⟩
  | 83 => ⟨S17408x1, .f32⟩
  | 84 => ⟨S17408x1, .f32⟩
  | 85 => ⟨S17408x1024, .f32⟩
  | 86 => ⟨S17408x1024, .f32⟩
  | 87 => ⟨S1x1024, .f32⟩
  | 88 => ⟨S17408x1024, .f32⟩
  | 89 => ⟨S17408x1024, .f32⟩
  | 90 => ⟨S17408x1024, .f32⟩
  | 91 => ⟨S17408x1024, .f32⟩
  | 92 => ⟨S_, .f32⟩
  | 93 => ⟨S17408, .f32⟩
  | 94 => ⟨S17408x1, .f32⟩
  | 95 => ⟨S_, .f32⟩
  | 96 => ⟨S17408x1, .f32⟩
  | 97 => ⟨S17408x1, .f32⟩
  | 98 => ⟨S_, .f32⟩
  | 99 => ⟨S17408x1, .f32⟩
  | 100 => ⟨S17408x1, .f32⟩
  | 101 => ⟨S17408x1, .f32⟩
  | 102 => ⟨S17408x1024, .f32⟩
  | 103 => ⟨S17408x1024, .f32⟩
  | 104 => ⟨S1x1024, .f32⟩
  | 105 => ⟨S17408x1024, .f32⟩
  | 106 => ⟨S17408x1024, .f32⟩
  | 107 => ⟨S4x4352x1024, .f32⟩
  | 108 => ⟨S4x4352x1024, .f32⟩
  | 109 => ⟨S4x8x1024, .f32⟩
  | 110 => ⟨S4x8x1024, .f32⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_3 : Ref sig .tc := ⟨.hbm, 72, rfl⟩
abbrev main_v55 : Ref sig .tc := ⟨.hbm, 73, rfl⟩
abbrev main_v56 : Ref sig .tc := ⟨.hbm, 74, rfl⟩
abbrev main_cst_4 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_5 : Ref sig .tc := ⟨.hbm, 86, rfl⟩
abbrev main_v67 : Ref sig .tc := ⟨.hbm, 87, rfl⟩
abbrev main_v68 : Ref sig .tc := ⟨.hbm, 88, rfl⟩
abbrev main_cst_6 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_7 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call0_cst : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_v7 : Ref sig .tc := ⟨.hbm, 105, rfl⟩
abbrev main_call0_v8 : Ref sig .tc := ⟨.hbm, 106, rfl⟩
abbrev main_call0_v9 : Ref sig .tc := ⟨.hbm, 107, rfl⟩
abbrev main_call0_v10 : Ref sig .tc := ⟨.hbm, 108, rfl⟩
abbrev main_call0_v11 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_8 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_9 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_10 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_11 : Ref sig .tc := ⟨.hbm, 137, rfl⟩
abbrev main_v95 : Ref sig .tc := ⟨.hbm, 138, rfl⟩
abbrev main_c_12 : Ref sig .tc := ⟨.hbm, 139, rfl⟩
abbrev main_v96_0 : Ref sig .tc := ⟨.hbm, 140, rfl⟩
abbrev main_v96_1 : Ref sig .tc := ⟨.hbm, 141, rfl⟩
abbrev main_v96_2 : Ref sig .tc := ⟨.hbm, 142, rfl⟩
abbrev main_v96_3 : Ref sig .tc := ⟨.hbm, 143, rfl⟩
abbrev main_v96_4 : Ref sig .tc := ⟨.hbm, 144, rfl⟩
abbrev main_while0c_c_30 : Ref sig .tc := ⟨.hbm, 145, rfl⟩
abbrev main_while0c_v160 : Ref sig .tc := ⟨.hbm, 146, rfl⟩
abbrev main_while0b_call2_c : Ref sig .tc := ⟨.hbm, 147, rfl⟩
abbrev main_while0b_call2_c_0 : Ref sig .tc := ⟨.hbm, 148, rfl⟩
abbrev main_while0b_call2_v0 : Ref sig .tc := ⟨.hbm, 149, rfl⟩
abbrev main_while0b_v160 : Ref sig .tc := ⟨.hbm, 150, rfl⟩
abbrev main_while0b_call3_c : Ref sig .tc := ⟨.hbm, 151, rfl⟩
abbrev main_while0b_call3_c_0 : Ref sig .tc := ⟨.hbm, 152, rfl⟩
abbrev main_while0b_call3_v0 : Ref sig .tc := ⟨.hbm, 153, rfl⟩
abbrev main_while0b_v161 : Ref sig .tc := ⟨.hbm, 154, rfl⟩
abbrev main_while0b_v162 : Ref sig .tc := ⟨.hbm, 155, rfl⟩
abbrev main_while0b_v163 : Ref sig .tc := ⟨.hbm, 156, rfl⟩
abbrev main_while0b_call4_v0 : Ref sig .tc := ⟨.hbm, 157, rfl⟩
abbrev main_while0b_call4_c : Ref sig .tc := ⟨.hbm, 158, rfl⟩
abbrev main_while0b_call4_c_0 : Ref sig .tc := ⟨.hbm, 159, rfl⟩
abbrev main_while0b_v164 : Ref sig .tc := ⟨.hbm, 160, rfl⟩
abbrev main_while0b_c_30 : Ref sig .tc := ⟨.hbm, 161, rfl⟩
abbrev main_while0b_v165 : Ref sig .tc := ⟨.hbm, 162, rfl⟩
abbrev main_v97 : Ref sig .tc := ⟨.hbm, 163, rfl⟩
abbrev main_v98 : Ref sig .tc := ⟨.hbm, 164, rfl⟩
abbrev main_cst_13 : Ref sig .tc := ⟨.hbm, 165, rfl⟩
abbrev main_v99 : Ref sig .tc := ⟨.hbm, 166, rfl⟩
abbrev main_v100 : Ref sig .tc := ⟨.hbm, 167, rfl⟩
abbrev main_cst_14 : Ref sig .tc := ⟨.hbm, 168, rfl⟩
abbrev main_v101 : Ref sig .tc := ⟨.hbm, 169, rfl⟩
abbrev main_v102 : Ref sig .tc := ⟨.hbm, 170, rfl⟩
abbrev main_cst_15 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_cst_16 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_cst_17 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_cst_18 : Ref sig .tc := ⟨.hbm, 192, rfl⟩
abbrev main_v121 : Ref sig .tc := ⟨.hbm, 193, rfl⟩
abbrev main_v122 : Ref sig .tc := ⟨.hbm, 194, rfl⟩
abbrev main_cst_19 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_cst_20 : Ref sig .tc := ⟨.hbm, 203, rfl⟩
abbrev main_v130 : Ref sig .tc := ⟨.hbm, 204, rfl⟩
abbrev main_v131 : Ref sig .tc := ⟨.hbm, 205, rfl⟩
abbrev main_cst_21 : Ref sig .tc := ⟨.hbm, 206, rfl⟩
abbrev main_v132 : Ref sig .tc := ⟨.hbm, 207, rfl⟩
abbrev main_v133 : Ref sig .tc := ⟨.hbm, 208, rfl⟩
abbrev main_cst_22 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_cst_23 : Ref sig .tc := ⟨.hbm, 220, rfl⟩
abbrev main_v144 : Ref sig .tc := ⟨.hbm, 221, rfl⟩
abbrev main_v145 : Ref sig .tc := ⟨.hbm, 222, rfl⟩
abbrev main_cst_24 : Ref sig .tc := ⟨.hbm, 223, rfl⟩
abbrev main_v146 : Ref sig .tc := ⟨.hbm, 224, rfl⟩
abbrev main_v147 : Ref sig .tc := ⟨.hbm, 225, rfl⟩
abbrev main_cst_25 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩

abbrev nD : Nat := 1
abbrev τ : Topo := Topo.v7x

variable {F : FTy → Type} [FloatOps F]

abbrev main_while0_count : Scf.Loop 32 := ⟨0#32, 4352#32, 1#32⟩
-- ==== Proof.Rows.lean ====
module
public import Idealize.ShloMosaic.Lib.Pointwise
@[expose] public section

/-!
What the layer does to one row of 1024 features, over the extended reals: the root-mean-square norm, the rectified
hiddenRow activations of the feed-forward network, and its second product.
-/

noncomputable section
namespace Cert.Rows
open Idealize.ShloMosaic

/-- The factor by which a row is normalised: the reciprocal square root of its mean square plus a small constant. -/
def scaleOf (f : Fin 1024 → EReal) : EReal :=
  Ideal.rsqrt (Ideal.div (∑ k, f k * f k) (Ideal.ofBits .f32 0x44800000#32) + Ideal.ofBits .f32 0x358637BD#32)

/-- A row under the root-mean-square norm with gain `g`. -/
def rms (f g : Fin 1024 → EReal) (k : Fin 1024) : EReal := f k * scaleOf f * g k

/-- Column `j` of a row times a matrix. -/
def dot {n K : Nat} (u : Fin K → EReal) (w : Fin K → Fin n → EReal) (j : Fin n) : EReal := ∑ k, u k * w k j

/-- A row of hidden activations: the rectified product, squared. -/
def hiddenRow (u : Fin 1024 → EReal) (w : Fin 1024 → Fin 4096 → EReal) (j : Fin 4096) : EReal :=
  max (dot u w j) 0 * max (dot u w j) 0

/-- The feed-forward block on one row: the row plus the normed result of the two products. -/
def mlpRow (x g₁ g₂ : Fin 1024 → EReal) (wu : Fin 1024 → Fin 4096 → EReal) (wd : Fin 4096 → Fin 1024 → EReal)
    (d : Fin 1024) : EReal :=
  x d + rms (dot (hiddenRow (rms x g₁) wu) wd) g₂ d

/-- The attention's output projection on one row: the row plus its normed product. -/
def projRow (x o : Fin 1024 → EReal) (w : Fin 1024 → Fin 1024 → EReal) (g : Fin 1024 → EReal) (d : Fin 1024) : EReal :=
  x d + rms (dot o w) g d

/-- Whether feature `j` belongs to a head of even number: bit 6 of `j` is clear. -/
def evenHead (j : Nat) : BitVec 1 := IntOp.cmpi .eq (IntOp.andi (BitVec.ofNat 32 j) 64#32) 0#32

/-- One row of queries, keys and values as the attention reads it: the queries scaled, the keys, the values of the even
heads with zeros between, and the values of the odd heads with zeros between. -/
def packed (y : Fin 3072 → EReal) (j : Fin 4096) : EReal :=
  if h : j.val < 1024 then y ⟨j.val, by omega⟩ * Ideal.ofBits .f32 0x3E38AA3B#32
  else if h : j.val < 2048 then y ⟨j.val, by omega⟩
  else if h : j.val < 3072 then Scalar.select (evenHead (j.val - 2048)) (y ⟨j.val, by omega⟩) 0
  else Scalar.select (evenHead (j.val - 3072)) 0 (y ⟨j.val - 1024, by omega⟩)

theorem packed_query (y : Fin 3072 → EReal) {j : Fin 4096} {x : Fin 1024} (h : j.val = x.val) :
    packed y j = y ⟨x.val, by omega⟩ * Ideal.ofBits .f32 0x3E38AA3B#32 := by
  have h' : j.val < 1024 := by omega
  rw [packed, dif_pos h']
  simp only [h]

theorem packed_key (y : Fin 3072 → EReal) {j : Fin 4096} {x : Fin 1024} (h : j.val = 1024 + x.val) :
    packed y j = y ⟨1024 + x.val, by omega⟩ := by
  have h₁ : ¬ j.val < 1024 := by omega
  have h₂ : j.val < 2048 := by omega
  rw [packed, dif_neg h₁, dif_pos h₂]
  simp only [h]

theorem packed_even (y : Fin 3072 → EReal) {j : Fin 4096} {x : Fin 1024} (h : j.val = 2048 + x.val) :
    packed y j = Scalar.select (evenHead x.val) (y ⟨2048 + x.val, by omega⟩) 0 := by
  have h₁ : ¬ j.val < 1024 := by omega
  have h₂ : ¬ j.val < 2048 := by omega
  have h₃ : j.val < 3072 := by omega
  have h₄ : 2048 + x.val - 2048 = x.val := by omega
  rw [packed, dif_neg h₁, dif_neg h₂, dif_pos h₃]
  simp only [h, h₄]

theorem packed_odd (y : Fin 3072 → EReal) {j : Fin 4096} {x : Fin 1024} (h : j.val = 3072 + x.val) :
    packed y j = Scalar.select (evenHead x.val) 0 (y ⟨2048 + x.val, by omega⟩) := by
  have h₁ : ¬ j.val < 1024 := by omega
  have h₂ : ¬ j.val < 2048 := by omega
  have h₃ : ¬ j.val < 3072 := by omega
  have h₄ : 3072 + x.val - 3072 = x.val := by omega
  have h₅ : 3072 + x.val - 1024 = 2048 + x.val := by omega
  rw [packed, dif_neg h₁, dif_neg h₂, dif_neg h₃]
  simp only [h, h₄, h₅]

/-- A sum over 4096 positions, cut into its four runs of 1024. -/
theorem sum_four (g : Fin 4096 → EReal) :
    ∑ j, g j = (∑ x : Fin 1024, g ⟨x.val, by omega⟩) + (∑ x : Fin 1024, g ⟨1024 + x.val, by omega⟩)
      + (∑ x : Fin 1024, g ⟨2048 + x.val, by omega⟩) + ∑ x : Fin 1024, g ⟨3072 + x.val, by omega⟩ := by
  rw [Fin.sum_univ_two_halves 3072 1024 rfl g, Fin.sum_univ_two_halves 2048 1024 rfl,
    Fin.sum_univ_two_halves 1024 1024 rfl]

/-- The second product of the feed-forward network, its hidden positions taken in four runs of 1024. -/
theorem dot_four (a : Fin 4096 → EReal) (w : Fin 4096 → Fin 1024 → EReal) (d : Fin 1024) :
    dot a w d = (∑ x : Fin 1024, a ⟨x.val, by omega⟩ * w ⟨x.val, by omega⟩ d)
      + (∑ x : Fin 1024, a ⟨1024 + x.val, by omega⟩ * w ⟨1024 + x.val, by omega⟩ d)
      + (∑ x : Fin 1024, a ⟨2048 + x.val, by omega⟩ * w ⟨2048 + x.val, by omega⟩ d)
      + ∑ x : Fin 1024, a ⟨3072 + x.val, by omega⟩ * w ⟨3072 + x.val, by omega⟩ d :=
  sum_four fun j => a j * w j d

end Cert.Rows
end
-- ==== Proof.MlpBlock.lean ====
module
public import proofs.«01_k».proof.Proof.Gen.MlpIdeal.Value
public import proofs.«01_k».proof.Proof.Rows
public import Idealize.ShloMosaic.Lib.Pipeline.ValueKit
@[expose] public section

/-! The feed-forward kernel: what one grid point writes, and the array after the run. -/

set_option maxRecDepth 16384
noncomputable section
namespace Cert.MlpIdeal.Block
open Cert.MlpIdeal Cert.MlpIdeal.Gen Idealize.ShloMosaic Idealize.ShloMosaic.TcCoe Idealize.SL.Sem Cert.Rows

/-- The normed row that both products start from. -/
theorem pay1_apply (v0 : Vec Ideal S512x1024 .f32) (v1 : Vec Ideal S1x1024 .f32) (r : Fin 512) (k : Fin 1024) :
    k0_pay1 v0 v1 (ix2 r k) = rms (fun k => v0 (ix2 r k)) (fun k => v1 (ix2 0 k)) k := by
  pointwise [k0_pay1]
  rfl

/-- One grid point leaves the feed-forward block of each of its rows. -/
theorem out_apply (x0 : Vec Ideal S512x1024 .f32) (x1 x2 : Vec Ideal S1x1024 .f32) (x3 : Vec Ideal S1024x4096 .bf16)
    (x4 : Vec Ideal S4096x1024 .bf16) (r : Fin 512) (d : Fin 1024) :
    out0_5 x0 x1 x2 x3 x4 (ix2 r d)
      = mlpRow (fun k => x0 (ix2 r k)) (fun k => x1 (ix2 0 k)) (fun k => x2 (ix2 0 k)) (fun k j => x3 (ix2 k j))
          (fun j d => x4 (ix2 j d)) d := by
  frame_out
  pointwise [k0_pay5, k0_pay4, k0_pay3, k0_pay2, pay1_apply]
  rw [mlpRow, rms, scaleOf]
  simp only [dot_four]
  simp only [hiddenRow, dot]

/-- The block indices: row blocks move with the grid point, the weights and gains stand still. -/
theorem idx (t : Fin cfg0.N) : win0_0.index t = ![(grid0.coords t 0).val, 0] ∧ win0_1.index t = ![0, 0]
    ∧ win0_2.index t = ![0, 0] ∧ win0_3.index t = ![0, 0] ∧ win0_4.index t = ![0, 0]
    ∧ win0_5.index t = ![(grid0.coords t 0).val, 0] :=
  (by decide +kernel : ∀ t : Fin grid0.N, win0_0.index t = ![(grid0.coords t 0).val, 0] ∧ win0_1.index t = ![0, 0]
    ∧ win0_2.index t = ![0, 0] ∧ win0_3.index t = ![0, 0] ∧ win0_4.index t = ![0, 0]
    ∧ win0_5.index t = ![(grid0.coords t 0).val, 0]) t

variable (m : (ℓ : Loc nD τ sig) → Buf (Elt Ideal) ℓ) (c : Dev nD)

/-- The result array: every row of the residual stream through the feed-forward block. -/
def result : Vec Ideal S17408x1024 .f32 := fun i =>
  mlpRow (fun k => m ((c : Thread nD τ).loc main_arg0) (ix2 (i 0) k)) (fun k => m ((c : Thread nD τ).loc main_arg1) (ix1 k))
    (fun k => m ((c : Thread nD τ).loc main_arg2) (ix1 k)) (fun k j => m ((c : Thread nD τ).loc main_arg3) (ix2 k j))
    (fun j d => m ((c : Thread nD τ).loc main_arg4) (ix2 j d)) (i 1)

theorem arr_eq : (dats m 0 c).arrAt 5 cfg0.N = result m c := by
  refine (dats m 0 c).arrAt_eq_of_covers 5 _ (by decide +kernel) fun t hf y => ?_
  blk_simp
  rw [after0_5]
  idx_vars y
  rw [out_apply]
  unfold result
  blk_point [iblk, V, idx t]

end Cert.MlpIdeal.Block
end
-- ==== Proof.MlpRef.lean ====
module
public import proofs.«01_k».proof.Proof.Gen.MlpRefIdeal.Read
public import proofs.«01_k».proof.Proof.Rows
@[expose] public section

/-! The feed-forward reference, read at one row and one feature. -/

set_option maxRecDepth 16384
noncomputable section
namespace Cert.MlpRefIdeal.AtIndex
open Cert.MlpRefIdeal Cert.MlpRefIdeal.Read Idealize.ShloMosaic Cert.Rows

variable (x0 : Vec Ideal S17408x1024 .f32) (x1 x2 : Vec Ideal S1024 .f32) (x3 : Vec Ideal S1024x4096 .f32)
  (x4 : Vec Ideal S4096x1024 .f32)

/-- The normed input row. -/
theorem normed_apply (i : Fin 17408) (k : Fin 1024) :
    val_main_v12 x0 x1 (ix2 i k) = rms (fun k => x0 (ix2 i k)) (fun k => x1 (ix1 k)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The hidden activations. -/
theorem hidden_apply (i : Fin 17408) (j : Fin 4096) :
    val_main_v15 x0 x1 x3 (ix2 i j)
      = hiddenRow (rms (fun k => x0 (ix2 i k)) (fun k => x1 (ix1 k))) (fun k j => x3 (ix2 k j)) j := by
  pointwise [val_main_v15, val_main_v14, val_main_v13, val_main_call0_v0, val_main_call0_cst, normed_apply]
  rfl

/-- The network's output before its norm. -/
theorem down_apply (i : Fin 17408) (d : Fin 1024) :
    val_main_v16 x0 x1 x3 x4 (ix2 i d)
      = dot (hiddenRow (rms (fun k => x0 (ix2 i k)) (fun k => x1 (ix1 k))) (fun k j => x3 (ix2 k j)))
          (fun j d => x4 (ix2 j d)) d := by
  pointwise [val_main_v16, hidden_apply]
  rfl

/-- The reference's result: the feed-forward block of the row. -/
theorem result_apply (i : Fin 17408) (d : Fin 1024) :
    val_main_v30 x0 x1 x2 x3 x4 (ix2 i d)
      = mlpRow (fun k => x0 (ix2 i k)) (fun k => x1 (ix1 k)) (fun k => x2 (ix1 k)) (fun k j => x3 (ix2 k j))
          (fun j d => x4 (ix2 j d)) d := by
  pointwise [val_main_v30, val_main_v29, val_main_v28, val_main_v27, val_main_v26, val_main_v25, val_main_v24, val_main_v23,
    val_main_v22, val_main_v21, val_main_v20, val_main_v19, val_main_v18, val_main_v17, val_main_cst_2, val_main_cst_3,
    val_main_cst_4, down_apply]
  rfl

end Cert.MlpRefIdeal.AtIndex
end
-- ==== Proof.MlpClaim.lean ====
module
public import proofs.«01_k».proof.Defs
public import proofs.«01_k».proof.Proof.MlpBlock
public import proofs.«01_k».proof.Proof.MlpRef
@[expose] public section

/-! The feed-forward kernel and its reference leave the same array. -/

noncomputable section
namespace Cert.Proof
open Idealize.ShloMosaic Idealize.ShloMosaic.TcCoe Idealize.SL.Sem

/-- Over the extended reals, the feed-forward kernel computes the feed-forward block. -/
theorem mlp_algebraic : algebraic_MlpIdeal_MlpRefIdeal (hMlpIdeal := Cert.MlpIdeal.Gen.facts)
    (hMlpRefIdeal := Cert.MlpRefIdeal.Gen.facts) := by
  intro m g m' g' _ hagree
  refine ⟨fun c => Cert.MlpIdeal.Block.result m c, ?_, ?_⟩
  · exact (θ_run _ _ _).mono (fun r h c => ⟨(h c).1.trans (Cert.MlpIdeal.Block.arr_eq m c), (h c).2⟩)
      (Cert.MlpIdeal.Value.run_blocks m g)
  · refine (θ_run _ _ _).mono (fun r h c => ⟨(h c).1.trans ?_, (h c).2⟩) (Cert.MlpRefIdeal.Value.run m' g')
    obtain ⟨h0, h1, h2, h3, h4⟩ := hagree c
    rw [Cert.MlpRefIdeal.Read.val_main_v30_eq, h0, h1, h2, h3, h4]
    funext i
    rw [eq_ix2 i]
    exact Cert.MlpRefIdeal.AtIndex.result_apply _ _ _ _ _ _ _

end Cert.Proof
end
-- ==== Proof.ProjBlock.lean ====
module
public import proofs.«01_k».proof.Proof.Gen.ProjIdeal.Value
public import proofs.«01_k».proof.Proof.Rows
public import Idealize.ShloMosaic.Lib.Pipeline.ValueKit
@[expose] public section

/-! The attention's output projection: what one grid point writes, and the array after the run. -/

set_option maxRecDepth 16384
noncomputable section
namespace Cert.ProjIdeal.Block
open Cert.ProjIdeal Cert.ProjIdeal.Gen Idealize.ShloMosaic Idealize.ShloMosaic.TcCoe Idealize.SL.Sem Cert.Rows

/-- One grid point leaves the projected, normed and added rows. -/
theorem out_apply (x0 : Vec Ideal S512x1024 .f32) (x1 : Vec Ideal S512x1024 .bf16) (x2 : Vec Ideal S1024x1024 .bf16)
    (x3 : Vec Ideal S1x1024 .f32) (r : Fin 512) (d : Fin 1024) :
    out0_4 x0 x1 x2 x3 (ix2 r d)
      = projRow (fun k => x0 (ix2 r k)) (fun k => x1 (ix2 r k)) (fun k j => x2 (ix2 k j)) (fun k => x3 (ix2 0 k)) d := by
  frame_out
  unfold_payloads
  pointwise
  rw [projRow, rms, scaleOf]
  simp only [dot]

/-- The block indices: row blocks move with the grid point, the weights and the gain stand still. -/
theorem idx (t : Fin cfg0.N) : win0_0.index t = ![(grid0.coords t 0).val, 0] ∧ win0_1.index t = ![(grid0.coords t 0).val, 0]
    ∧ win0_2.index t = ![0, 0] ∧ win0_3.index t = ![0, 0] ∧ win0_4.index t = ![(grid0.coords t 0).val, 0] :=
  (by decide +kernel : ∀ t : Fin grid0.N, win0_0.index t = ![(grid0.coords t 0).val, 0]
    ∧ win0_1.index t = ![(grid0.coords t 0).val, 0]
    ∧ win0_2.index t = ![0, 0] ∧ win0_3.index t = ![0, 0] ∧ win0_4.index t = ![(grid0.coords t 0).val, 0]) t

variable (m : (ℓ : Loc nD τ sig) → Buf (Elt Ideal) ℓ) (c : Dev nD)

/-- The result array: every row of the residual stream plus its normed projected attention output. -/
def result : Vec Ideal S17408x1024 .f32 := fun i =>
  projRow (fun k => m ((c : Thread nD τ).loc main_arg0) (ix2 (i 0) k)) (fun k => m ((c : Thread nD τ).loc main_arg1) (ix2 (i 0) k))
    (fun k j => m ((c : Thread nD τ).loc main_arg2) (ix2 k j)) (fun k => m ((c : Thread nD τ).loc main_arg3) (ix1 k)) (i 1)

theorem arr_eq : (dats m 0 c).arrAt 4 cfg0.N = result m c := by
  refine (dats m 0 c).arrAt_eq_of_covers 4 _ (by decide +kernel) fun t hf y => ?_
  blk_simp
  rw [after0_4]
  idx_vars y
  rw [out_apply]
  unfold result
  blk_point [iblk, V, idx t]

end Cert.ProjIdeal.Block
end
-- ==== Proof.ProjRef.lean ====
module
public import proofs.«01_k».proof.Proof.Gen.ProjRefIdeal.Read
public import proofs.«01_k».proof.Proof.Rows
@[expose] public section

/-! The output projection's reference, read at one row and one feature. -/

set_option maxRecDepth 16384
noncomputable section
namespace Cert.ProjRefIdeal.AtIndex
open Cert.ProjRefIdeal Cert.ProjRefIdeal.Read Idealize.ShloMosaic Cert.Rows

variable (x0 x1 : Vec Ideal S17408x1024 .f32) (x2 : Vec Ideal S1024x1024 .f32) (x3 : Vec Ideal S1024 .f32)

/-- The projected row. -/
theorem product_apply (i : Fin 17408) (d : Fin 1024) :
    val_main_v0 x1 x2 (ix2 i d) = dot (fun k => x1 (ix2 i k)) (fun k j => x2 (ix2 k j)) d := by
  pointwise [val_main_v0]
  rfl

/-- The reference's result: the row plus its normed projection. -/
theorem result_apply (i : Fin 17408) (d : Fin 1024) :
    val_main_v14 x0 x1 x2 x3 (ix2 i d)
      = projRow (fun k => x0 (ix2 i k)) (fun k => x1 (ix2 i k)) (fun k j => x2 (ix2 k j)) (fun k => x3 (ix1 k)) d := by
  pointwise [val_main_v14, val_main_v13, val_main_v12, val_main_v11, val_main_v10, val_main_v9, val_main_v8, val_main_v7,
    val_main_v6, val_main_v5, val_main_v4, val_main_v3, val_main_v2, val_main_v1, val_main_cst, val_main_cst_0,
    val_main_cst_1, product_apply]
  rfl

end Cert.ProjRefIdeal.AtIndex
end
-- ==== Proof.ProjClaim.lean ====
module
public import proofs.«01_k».proof.Defs
public import proofs.«01_k».proof.Proof.ProjBlock
public import proofs.«01_k».proof.Proof.ProjRef
@[expose] public section

/-! The output projection and its reference leave the same array. -/

noncomputable section
namespace Cert.Proof
open Idealize.ShloMosaic Idealize.ShloMosaic.TcCoe Idealize.SL.Sem

/-- Over the extended reals, the output projection computes the output projection, the norm and the residual sum. -/
theorem proj_algebraic : algebraic_ProjIdeal_ProjRefIdeal (hProjIdeal := Cert.ProjIdeal.Gen.facts)
    (hProjRefIdeal := Cert.ProjRefIdeal.Gen.facts) := by
  intro m g m' g' _ hagree
  refine ⟨fun c => Cert.ProjIdeal.Block.result m c, ?_, ?_⟩
  · exact (θ_run _ _ _).mono (fun r h c => ⟨(h c).1.trans (Cert.ProjIdeal.Block.arr_eq m c), (h c).2⟩)
      (Cert.ProjIdeal.Value.run_blocks m g)
  · refine (θ_run _ _ _).mono (fun r h c => ⟨(h c).1.trans ?_, (h c).2⟩) (Cert.ProjRefIdeal.Value.run m' g')
    obtain ⟨h0, h1, h2, h3⟩ := hagree c
    rw [Cert.ProjRefIdeal.Read.val_main_v14_eq, h0, h1, h2, h3]
    funext i
    rw [eq_ix2 i]
    exact Cert.ProjRefIdeal.AtIndex.result_apply _ _ _ _ _ _

end Cert.Proof
end
-- ==== Proof.QkvBlock.lean ====
module
public import proofs.«01_k».proof.Proof.Gen.QkvIdeal.Value
public import proofs.«01_k».proof.Proof.Rows
public import Idealize.ShloMosaic.Lib.Pipeline.ValueKit
@[expose] public section

/-! The projection to queries, keys and values: what one grid point writes, and the two arrays after the run. -/

set_option maxRecDepth 16384
noncomputable section
namespace Cert.QkvIdeal.Block
open Cert.QkvIdeal Cert.QkvIdeal.Gen Idealize.ShloMosaic Idealize.ShloMosaic.TcCoe Idealize.SL.Sem Cert.Rows

/-- The product of the normed rows with the weights. -/
theorem pay3_apply (v0 : Vec Ideal S512x1024 .f32) (v1 : Vec Ideal S1x1024 .f32) (w : Vec Ideal S1024x3072 .bf16)
    (r : Fin 512) (j : Fin 3072) :
    k0_pay3 v0 v1 w (ix2 r j) = dot (rms (fun k => v0 (ix2 r k)) (fun k => v1 (ix2 0 k))) (fun k j => w (ix2 k j)) j := by
  pointwise [k0_pay3]
  rfl

/-- The keys and values one grid point writes. -/
theorem out3_apply (x0 : Vec Ideal S512x1024 .f32) (x1 : Vec Ideal S1x1024 .f32) (x2 : Vec Ideal S1024x3072 .bf16)
    (r : Fin 512) (j : Fin 2048) :
    out0_3 x0 x1 x2 (ix2 r j)
      = dot (rms (fun k => x0 (ix2 r k)) (fun k => x1 (ix2 0 k))) (fun k j => x2 (ix2 k j)) ⟨1024 + j.val, by omega⟩ := by
  frame_out
  pointwise [k0_pay4, pay3_apply]

/-- The packed rows one grid point writes. -/
theorem out4_apply (x0 : Vec Ideal S512x1024 .f32) (x1 : Vec Ideal S1x1024 .f32) (x2 : Vec Ideal S1024x3072 .bf16)
    (r : Fin 512) (j : Fin 4096) :
    out0_4 x0 x1 x2 (ix2 r j)
      = packed (dot (rms (fun k => x0 (ix2 r k)) (fun k => x1 (ix2 0 k))) (fun k j => x2 (ix2 k j))) j := by
  frame_out
  canon_tiles x h
  all_goals
    idx_vars x
    obtain rfl : r = x0 := Fin.ext h0
    pointwise [k0_pay2, k0_pay1, k0_pay5, k0_pay6, k0_pay7, k0_pay8, k0_pay9, k0_pay10, k0_pay11, pay3_apply]
  · exact (packed_odd _ h1).symm
  · exact (packed_even _ h1).symm
  · exact (packed_key _ h1).symm
  · exact (packed_query _ h1).symm

/-- The block indices: row blocks move with the grid point, the weights and the gain stand still. -/
theorem idx (t : Fin cfg0.N) : win0_0.index t = ![(grid0.coords t 0).val, 0] ∧ win0_1.index t = ![0, 0]
    ∧ win0_2.index t = ![0, 0] ∧ win0_3.index t = ![(grid0.coords t 0).val, 0]
    ∧ win0_4.index t = ![(grid0.coords t 0).val, 0] :=
  (by decide +kernel : ∀ t : Fin grid0.N, win0_0.index t = ![(grid0.coords t 0).val, 0] ∧ win0_1.index t = ![0, 0]
    ∧ win0_2.index t = ![0, 0] ∧ win0_3.index t = ![(grid0.coords t 0).val, 0]
    ∧ win0_4.index t = ![(grid0.coords t 0).val, 0]) t

variable (m : (ℓ : Loc nD τ sig) → Buf (Elt Ideal) ℓ) (c : Dev nD)

/-- Row `i` of queries, keys and values, side by side. -/
def row (i : Fin 17408) : Fin 3072 → EReal :=
  dot (rms (fun k => m ((c : Thread nD τ).loc main_arg0) (ix2 i k)) (fun k => m ((c : Thread nD τ).loc main_arg1) (ix1 k)))
    (fun k j => m ((c : Thread nD τ).loc main_arg2) (ix2 k j))

/-- The keys and values of every row. -/
def keysValues : Vec Ideal S17408x2048 .f32 := fun i => row m c (i 0) ⟨1024 + (i 1).val, Nat.add_lt_add_left (i 1).isLt 1024⟩

/-- The packed rows. -/
def packedRows : Vec Ideal S17408x4096 .bf16 := fun i => packed (row m c (i 0)) (i 1)

theorem keysValues_eq : (dats m 0 c).arrAt 3 cfg0.N = keysValues m c := by
  refine (dats m 0 c).arrAt_eq_of_covers 3 _ (by decide +kernel) fun t hf y => ?_
  blk_simp
  rw [after0_3]
  idx_vars y
  rw [out3_apply]
  unfold keysValues row
  blk_point [iblk, V, idx t]

theorem packedRows_eq : (dats m 0 c).arrAt 4 cfg0.N = packedRows m c := by
  refine (dats m 0 c).arrAt_eq_of_covers 4 _ (by decide +kernel) fun t hf y => ?_
  blk_simp
  rw [after0_4]
  idx_vars y
  rw [out4_apply]
  unfold packedRows row
  refine congrArg₂ packed ?_ (Fin.ext ?_)
  · blk_point [iblk, V, idx t]
  · blk_simp [idx t]

end Cert.QkvIdeal.Block
end
-- ==== Proof.QkvRef.lean ====
module
public import proofs.«01_k».proof.Proof.Gen.QkvRefIdeal.Read
public import proofs.«01_k».proof.Proof.Rows
@[expose] public section

/-! The reference for queries, keys and values, read at one row and one feature. -/

set_option maxRecDepth 16384
noncomputable section
namespace Cert.QkvRefIdeal.AtIndex
open Cert.QkvRefIdeal Cert.QkvRefIdeal.Read Idealize.ShloMosaic Cert.Rows

variable (x0 : Vec Ideal S17408x1024 .f32) (x1 : Vec Ideal S1024 .f32) (x2 : Vec Ideal S1024x3072 .f32)

/-- The product of the normed row with the weights. -/
theorem product_apply (i : Fin 17408) (j : Fin 3072) :
    val_main_v13 x0 x1 x2 (ix2 i j)
      = dot (rms (fun k => x0 (ix2 i k)) (fun k => x1 (ix1 k))) (fun k j => x2 (ix2 k j)) j := by
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1]
  rfl

/-- The keys and values. -/
theorem keysValues_apply (i : Fin 17408) (j : Fin 2048) :
    val_main_v27 x0 x1 x2 (ix2 i j)
      = dot (rms (fun k => x0 (ix2 i k)) (fun k => x1 (ix1 k))) (fun k j => x2 (ix2 k j)) ⟨1024 + j.val, by omega⟩ := by
  pointwise [val_main_v27, product_apply]

theorem zero_eq : (FloatOps.ofBits .f32 0#32 : Ideal .f32) = 0 := Ideal.ofBits_zero .f32

/-- The packed row. -/
theorem packed_apply (i : Fin 17408) (j : Fin 4096) :
    val_main_v29 x0 x1 x2 (ix2 i j)
      = packed (dot (rms (fun k => x0 (ix2 i k)) (fun k => x1 (ix1 k))) (fun k j => x2 (ix2 k j))) j := by
  pointwise [val_main_v29, val_main_v28, val_main_v26, val_main_v25, val_main_v24, val_main_v23, val_main_v22,
    val_main_v21, val_main_v20, val_main_v19, val_main_v18, val_main_v17, val_main_v16, val_main_v15, val_main_v14,
    val_main_c, val_main_c_2, val_main_cst_3, val_main_cst_4, val_main_cst_5, val_main_call0_v0, val_main_call0_v1,
    val_main_call0_v2, val_main_call1_v0, val_main_call1_v1, val_main_call1_v2, product_apply]
  by_cases a : j.val < 1024
  · rw [dif_pos a]
    exact (packed_query _ (x := ⟨j.val, a⟩) rfl).symm
  rw [dif_neg a]
  by_cases b : j.val - 1024 < 1024
  · rw [dif_pos b]
    exact (packed_key _ (x := ⟨j.val - 1024, b⟩) (by simp only; omega)).symm
  rw [dif_neg b]
  by_cases d : j.val - 1024 - 1024 < 1024
  · rw [dif_pos d]
    refine (Eq.trans (packed_even _ (x := ⟨j.val - 1024 - 1024, d⟩) (by simp only; omega)) ?_).symm
    simp only [id, constant, zero_eq]
    rfl
  · rw [dif_neg d]
    refine (Eq.trans (packed_odd _ (x := ⟨j.val - 1024 - 1024 - 1024, by omega⟩) (by simp only; omega)) ?_).symm
    simp only [id, constant, zero_eq]
    rfl

end Cert.QkvRefIdeal.AtIndex
end
-- ==== Proof.QkvClaim.lean ====
module
public import proofs.«01_k».proof.Defs
public import proofs.«01_k».proof.Proof.QkvBlock
public import proofs.«01_k».proof.Proof.QkvRef
@[expose] public section

/-! The projection to queries, keys and values leaves the arrays its reference leaves. -/

noncomputable section
namespace Cert.Proof
open Idealize.ShloMosaic Idealize.ShloMosaic.TcCoe Idealize.SL.Sem

/-- Over the extended reals, the kernel computes the normed product, its keys and values, and the packed rows. -/
theorem qkv_algebraic : algebraic_QkvIdeal_QkvRefIdeal (hQkvIdeal := Cert.QkvIdeal.Gen.facts)
    (hQkvRefIdeal := Cert.QkvRefIdeal.Gen.facts) := by
  intro m g m' g' _ hagree
  refine ⟨fun c => Cert.QkvIdeal.Block.keysValues m c, fun c => Cert.QkvIdeal.Block.packedRows m c, ?_, ?_⟩
  · exact (θ_run _ _ _).mono (fun r h c => ⟨(h c).1.trans (Cert.QkvIdeal.Block.keysValues_eq m c),
      (h c).2.1.trans (Cert.QkvIdeal.Block.packedRows_eq m c), (h c).2.2⟩)
      (Cert.QkvIdeal.Value.run_blocks m g)
  · refine (θ_run _ _ _).mono (fun r h c => ⟨(h c).1.trans ?_, (h c).2.1.trans ?_, (h c).2.2⟩)
      (Cert.QkvRefIdeal.Value.run m' g')
    · obtain ⟨h0, h1, h2⟩ := hagree c
      rw [Cert.QkvRefIdeal.Read.val_main_v27_eq, h0, h1, h2]
      funext i
      rw [eq_ix2 i]
      exact Cert.QkvRefIdeal.AtIndex.keysValues_apply _ _ _ _ _
    · obtain ⟨h0, h1, h2⟩ := hagree c
      rw [Cert.QkvRefIdeal.Read.val_main_v29_eq, h0, h1, h2]
      funext i
      rw [eq_ix2 i]
      exact Cert.QkvRefIdeal.AtIndex.packed_apply _ _ _ _ _

end Cert.Proof
end
-- ==== Proof.AttnLoop.lean ====
module

public import proofs.«01_k».proof.Proof.Gen.AttnIdeal.Frame
public import proofs.«01_k».proof.Proof.Gen.AttnIdeal.Loops
public import Idealize.ShloMosaic.Lib.LoopRemainder
public import Idealize.ShloMosaic.Lib.VecWindow
public import Idealize.ShloMosaic.Lib.Pointwise

@[expose] public section

set_option maxRecDepth 16384

noncomputable section

namespace Cert.AttnLoop

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The rectangle of rows `256 n … 256 n + 255` of a `4352 × 128` block. -/
def chunkOff (n : ℕ) : Fin 2 → ℕ := ![256 * (n % 17), 0]

theorem chunkOff_inb (n : ℕ) : ∀ a, chunkOff n a + S256x128.size a ≤ S4352x128.size a := by
  have := Nat.mod_lt n (show 0 < 17 by decide)
  intro a; fin_cases a
  · show 256 * (n % 17) + 256 ≤ 4352; omega
  · show 0 + 128 ≤ 128; omega

/-- Rows `256 n … 256 n + 255` of a `4352 × 128` block. -/
def chunk (x : Vec F S4352x128 .bf16) (n : ℕ) : Vec F S256x128 .bf16 :=
  View.ld x (Rect.unit (s := S4352x128) (chunkOff n) S256x128.size (chunkOff_inb n))

/-- What the six scratch buffers hold between two key chunks. -/
structure St (F : FTy → Type) [FloatOps F] where
  lb : Vec F S512x256 .f32
  sp : Vec F S512x256 .bf16
  tot : Vec F S512x128 .f32
  w : Vec F S512x256 .bf16
  ca : Vec F S512x1 .f32
  acc : Vec F S256x128 .f32

/-- The upper and the lower half of the stored weights. -/
def top (w : Vec F S512x256 .bf16) : Vec F S256x256 .bf16 :=
  View.ld w (Rect.unit (s := S512x256) ![0, 0] S256x256.size inb_S512x256_S256x256_0_0)
def bot (w : Vec F S512x256 .bf16) : Vec F S256x256 .bf16 :=
  View.ld w (Rect.unit (s := S512x256) ![256, 0] S256x256.size inb_S512x256_S256x256_256_0)

/-- One key chunk `kb`: its weighted values added, the weights of the next, the logits of the one after. -/
def trip (wn : FVec F S256x256 .bf16) (on : FVec F S256x128 .bf16) (k v0 v1 : Vec F S4352x128 .bf16) (q2 : Vec F S512x256 .bf16)
    (kb : ℕ) (s : St F) : St F where
  acc := k0_pay1 (top s.w) (bot s.w) (chunk v0 kb) (chunk v1 kb) s.acc
  w := k0_pay3 (k0_pay2 wn s.ca s.lb s.sp)
  ca := k0_pay4 s.ca s.tot
  lb := k0_pay7 on (chunk k (kb - 2)) q2
  sp := k0_pay9 (k0_pay8 on (chunk k (kb - 2)) q2)
  tot := k0_pay10 (k0_pay6 on (chunk k (kb - 2)) q2)

/-- Trip `j` of the pairs of query block `n` reads these chunks. -/
theorem off5_eq : ∀ (n : Fin k0_t1_loop.trips) (j : Fin (k0_t2_loop n).trips), k0_off5 n j = chunkOff (n.val - 2 * j.val) := by
  decide +kernel
theorem off6a_eq : ∀ (n : Fin k0_t1_loop.trips) (j : Fin (k0_t2_loop n).trips), k0_off6 n j 2#32 = chunkOff (n.val - 2 * j.val - 2) := by
  decide +kernel
theorem off6b_eq : ∀ (n : Fin k0_t1_loop.trips) (j : Fin (k0_t2_loop n).trips), k0_off6 n j 1#32 = chunkOff (n.val - 2 * j.val - 1) := by
  decide +kernel
theorem off7_eq : ∀ (n : Fin k0_t1_loop.trips) (j : Fin (k0_t2_loop n).trips), k0_off7 n j = chunkOff (n.val - 2 * j.val - 1 - 2) := by
  decide +kernel
theorem off3_eq : ∀ (n : Fin k0_t1_loop.trips), k0_off3 n = chunkOff n.val := by decide +kernel
theorem off4_eq : ∀ (n : Fin k0_t1_loop.trips), k0_off4 n = chunkOff (n.val - 1) := by decide +kernel
theorem off12_eq : ∀ (n : Fin k0_t1_loop.trips), k0_off12 n = chunkOff n.val := by decide +kernel
theorem off11a_eq : k0_off11 0#32 = chunkOff 0 := by decide +kernel
theorem off11b_eq : k0_off11 4294967294#32 = chunkOff 0 := by decide +kernel

theorem trips1 : k0_t1_loop.trips = 17 := by decide +kernel
theorem trips2 : ∀ n : Fin k0_t1_loop.trips, (k0_t2_loop n).trips = (n.val + 1) / 2 := by decide +kernel
theorem cond1_iff : ∀ n : Fin k0_t1_loop.trips, k0_cond1 n = 1#1 ↔ (n.val + 1) % 2 = 1 := by decide +kernel

/-- A load of a chunk at offsets equal to the chunk's. -/
theorem ld_chunk (x : Vec F S4352x128 .bf16) {off : Fin 2 → ℕ} {n : ℕ} (h : off = chunkOff n) (i) :
    View.ld x (Rect.unit (s := S4352x128) off (no_index S256x128.size) i) = chunk x n := by
  subst h; rfl

/-! The second chunk of a pair and the last chunk compute the same values as the first of a pair. -/

theorem pay_lb (on : FVec F S256x128 .bf16) (x : Vec F S256x128 .bf16) (q : Vec F S512x256 .bf16) :
    k0_pay61 (k0_pay14 on x q) (k0_pay15 on x q) (k0_pay16 on x q) = k0_pay7 on x q := rfl
theorem pay_sp (on : FVec F S256x128 .bf16) (x : Vec F S256x128 .bf16) (q : Vec F S512x256 .bf16) :
    k0_pay62 (k0_pay15 on x q) (k0_pay16 on x q) = k0_pay9 (k0_pay8 on x q) := rfl
theorem pay_tot (on : FVec F S256x128 .bf16) (x : Vec F S256x128 .bf16) (q : Vec F S512x256 .bf16) :
    k0_pay63 (k0_pay15 on x q) (k0_pay16 on x q) = k0_pay10 (k0_pay6 on x q) := rfl
theorem pay_w (wn : FVec F S256x256 .bf16) (ca : Vec F S512x1 .f32) (lb : Vec F S512x256 .f32) (sp : Vec F S512x256 .bf16) :
    k0_pay12 wn ca lb sp = k0_pay3 (k0_pay2 wn ca lb sp) := rfl
theorem pay_ca (ca : Vec F S512x1 .f32) (tot : Vec F S512x128 .f32) : k0_pay13 ca tot = k0_pay4 ca tot := rfl
theorem pay_acc (w w' : Vec F S256x256 .bf16) (v v' : Vec F S256x128 .bf16) (a : Vec F S256x128 .f32) :
    k0_pay11 w w' v v' a = k0_pay1 w w' v v' a := rfl
theorem pay_lb' (on : FVec F S256x128 .bf16) (x : Vec F S256x128 .bf16) (q : Vec F S512x256 .bf16) :
    k0_pay39 on x q = k0_pay7 on x q := rfl
theorem pay_sp' (on : FVec F S256x128 .bf16) (x : Vec F S256x128 .bf16) (q : Vec F S512x256 .bf16) :
    k0_pay40 on x q = k0_pay9 (k0_pay8 on x q) := rfl
theorem pay_tot' (on : FVec F S256x128 .bf16) (x : Vec F S256x128 .bf16) (q : Vec F S512x256 .bf16) :
    k0_pay72 (k0_pay38 on x q) = k0_pay10 (k0_pay6 on x q) := rfl
theorem pay_w' (wn : FVec F S256x256 .bf16) (ca : Vec F S512x1 .f32) (lb : Vec F S512x256 .f32) (sp : Vec F S512x256 .bf16) :
    k0_pay35 (k0_pay34 wn ca lb sp) = k0_pay3 (k0_pay2 wn ca lb sp) := rfl
theorem pay_ca' (ca : Vec F S512x1 .f32) (tot : Vec F S512x128 .f32) : k0_pay36 ca tot = k0_pay4 ca tot := rfl
theorem pay_acc' (w w' : Vec F S256x256 .bf16) (v v' : Vec F S256x128 .bf16) (a : Vec F S256x128 .f32) :
    k0_pay33 w w' v v' a = k0_pay1 w w' v v' a := rfl

/-- A load of a whole buffer reads its contents. -/
theorem ld_whole {S : Shape} {e : EltTy} {off : Fin S.rank → ℕ} (inb : ∀ a, off a + S.size a ≤ S.size a) (X : S.Idx → Elt F e) :
    View.ld X (Rect.unit off (no_index S.size) inb) = X := by
  funext y
  exact congrArg X (funext fun a => Fin.ext (by
    show off a + 1 * (y a).val = (y a).val
    have := inb a; omega))

/-- A load of part of a buffer just stored whole reads that part of what was stored. -/
theorem readCov_part {sig : RefSig} {κ : Kind} {sp : Space} {S : Shape} {e : EltTy} (v : View sig κ sp S e) {off : Fin S.rank → ℕ}
    (inb : ∀ a, off a + S.size a ≤ S.size a) (w : S.Idx → Elt F e) (L : List (View.Piece (Elt F) S e)) (r : Rect S) :
    v.readCov ((⟨Rect.unit off (no_index S.size) inb, w⟩ : View.Piece (Elt F) S e) :: L) r.toLoadRect = View.ld w r := by
  show View.ld (v.read (Elt F) (v.writes (Elt F) v.junk _)) r = _
  rw [View.read_writes_full]

/-- What is left in a buffer whose last store was whole. -/
theorem own_full (c : Dev nD) {sp : Space} {S : Shape} {e : EltTy} (v : Memref sig .tc sp S e) (f : v.view.ty.Contents (Elt F))
    {off : Fin S.rank → ℕ} (inb : ∀ a, off a + S.size a ≤ S.size a) (w : S.Idx → Elt F e) (L : List (View.Piece (Elt F) S e))
    (X : S.Idx → Elt F e) (h : w = X) :
    (v.view.loc (c : Thread nD τ) ↦[v.view.set]{fullShare} v.view.writes (Elt F) f (⟨Rect.unit off S.size inb, w⟩ :: L))
      ⊢ (owns (c : Thread nD τ) v fullShare X : sProp 𝕄) := by
  unfold owns
  iintro H
  iexists _; isplitr
  swap; · iexact H
  ipureintro
  exact (View.read_writes_full _ _ _ _ _).trans h

/-- A buffer at contents which read as `X`. -/
theorem own_read (c : Dev nD) {sp : Space} {S : Shape} {e : EltTy} (v : Memref sig .tc sp S e) (f : v.view.ty.Contents (Elt F))
    (X : S.Idx → Elt F e) (h : v.view.read (Elt F) f = X) :
    (v.view.loc (c : Thread nD τ) ↦[v.view.set]{fullShare} f) ⊢ (owns (c : Thread nD τ) v fullShare X : sProp 𝕄) := by
  unfold owns
  iintro H
  iexists _; isplitr
  swap; · iexact H
  ipureintro
  exact h

/-- The chunks `n, n - 1, …` in turn, `j` of them. -/
def run (wn : FVec F S256x256 .bf16) (on : FVec F S256x128 .bf16) (k v0 v1 : Vec F S4352x128 .bf16) (q2 : Vec F S512x256 .bf16)
    (n : ℕ) : ℕ → St F → St F
  | 0, s => s
  | j + 1, s => trip wn on k v0 v1 q2 (n - j) (run wn on k v0 v1 q2 n j s)

theorem off0_eq : (![0, 0] : Fin 2 → ℕ) = chunkOff 0 := rfl

/-- The stacked queries of a query block beside the two bias columns. -/
def q2of (a b : Vec F S512x128 .bf16) : Vec F S512x256 .bf16 := fun y =>
  if h : (y 1).val < 128 then a (ix2 (y 0) ⟨(y 1).val, h⟩)
  else b (ix2 (y 0) ⟨(y 1).val - 128, by have := (y 1).isLt; change _ < 256 at this; omega⟩)

/-- The state a query block starts its chunks from: the weights of its own chunk, under the causal mask, and the
    logits of the chunk before. -/
def start (wn : FVec F S256x256 .bf16) (on : FVec F S256x128 .bf16) (k : Vec F S4352x128 .bf16) (q2 : Vec F S512x256 .bf16) (n : ℕ) : St F where
  w := k0_pay52 k0_pay68 (k0_pay51 wn k0_pay42 (k0_pay48 (k0_pay44 on (chunk k n)) q2) (k0_pay49 k0_pay68 (k0_pay44 on (chunk k n)) q2)) (Scalar.ofBits .f32 0x00000000#32)
  ca := k0_pay53 k0_pay42 (k0_pay50 k0_pay68 (k0_pay44 on (chunk k n)) q2)
  acc := k0_pay43
  lb := k0_pay57 (k0_pay56 on (chunk k (n - 1)) q2)
  sp := k0_pay58 (k0_pay55 on (chunk k (n - 1)) q2)
  tot := k0_pay59 (k0_pay55 on (chunk k (n - 1)) q2)

/-- The state after a query block's last chunk. -/
def final (v0i : IVec S256x128 32) (wn : FVec F S256x256 .bf16) (on : FVec F S256x128 .bf16) (bc : Vec F S512x128 .bf16)
    (q k v0 v1 : Vec F S4352x128 .bf16) (n : ℕ) : St F :=
  run wn on k v0 v1 (q2of (k0_pay41 v0i (chunk q n)) bc) n (n + 1) (start wn on k (q2of (k0_pay41 v0i (chunk q n)) bc) n)

/-- The output block with the rows of query block `n` replaced. -/
def putRows (d : Vec F S4352x128 .bf16) (n : ℕ) (w : Vec F S256x128 .bf16) : Vec F S4352x128 .bf16 :=
  VecWindow.put d (chunkOff n) S256x128.size w

/-- Storing the left half of the stacked queries leaves the bias columns. -/
theorem put_q2of (a a' b : Vec F S512x128 .bf16) :
    VecWindow.put (q2of a b) ![0, 0] S512x128.size a' = q2of a' b := by
  funext y
  have hy := (y 0).isLt
  change _ < 512 at hy
  unfold VecWindow.put q2of
  by_cases h : (y 1).val < 128
  · rw [dif_pos, dif_pos h]
    swap
    · intro e
      fin_cases e
      · exact ⟨Nat.zero_le _, by simpa using hy⟩
      · exact ⟨Nat.zero_le _, by simpa using h⟩
    refine congrArg a' (funext fun e => Fin.ext ?_)
    fin_cases e <;> rfl
  · rw [dif_neg h, dif_neg, dif_neg h]
    intro hh
    exact h (by simpa using (hh 1).2)

/-- Storing the bias columns leaves the left half. -/
theorem put_bias (x : Vec F S512x256 .bf16) (b : Vec F S512x128 .bf16) :
    VecWindow.put x ![0, 128] S512x128.size b = q2of (fun y => x (ix2 (y 0) ⟨(y 1).val, by have := (y 1).isLt; change _ < 128 at this; omega⟩)) b := by
  funext y
  have hy := (y 0).isLt
  change _ < 512 at hy
  have hy1 := (y 1).isLt
  change _ < 256 at hy1
  unfold VecWindow.put q2of
  by_cases h : (y 1).val < 128
  · rw [dif_pos h, dif_neg]
    swap
    · intro hh
      exact absurd (hh 1).1 (by show ¬ 128 ≤ (y 1).val; omega)
    refine congrArg x (funext fun e => Fin.ext ?_)
    fin_cases e <;> rfl
  · rw [dif_neg h, dif_pos]
    swap
    · intro e
      fin_cases e
      · exact ⟨Nat.zero_le _, by simpa using hy⟩
      · exact ⟨by show 128 ≤ (y 1).val; omega, by show (y 1).val < 128 + 128; omega⟩
    refine congrArg b (funext fun e => Fin.ext ?_)
    fin_cases e <;> rfl

/-- The output block after the first query blocks. -/
def outUpto (f : ℕ → Vec F S256x128 .bf16) (d : Vec F S4352x128 .bf16) : ℕ → Vec F S4352x128 .bf16
  | 0 => d
  | n + 1 => putRows (outUpto f d n) n (f n)

/-- Rows of the query blocks done hold their results. -/
theorem outUpto_apply (f : ℕ → Vec F S256x128 .bf16) (d : Vec F S4352x128 .bf16) (n : ℕ) (hn : n ≤ 17) (y : S4352x128.Idx)
    (hy : (y 0).val < 256 * n) :
    outUpto f d n y = f ((y 0).val / 256) (ix2 ⟨(y 0).val % 256, Nat.mod_lt _ (by decide)⟩ (y 1)) := by
  induction n with
  | zero => omega
  | succ n ih =>
    have h1 := (y 1).isLt
    change _ < 128 at h1
    have hm : n % 17 = n := Nat.mod_eq_of_lt (by omega)
    unfold outUpto putRows VecWindow.put
    by_cases h : (y 0).val < 256 * n
    · rw [dif_neg]
      · exact ih (by omega) h
      · intro hh
        have := (hh 0).1
        change 256 * (n % 17) ≤ (y 0).val at this
        omega
    · have e : (y 0).val / 256 = n := by omega
      rw [dif_pos]
      swap
      · intro e
        fin_cases e
        · exact ⟨by show 256 * (n % 17) ≤ (y 0).val; omega, by show (y 0).val < 256 * (n % 17) + 256; omega⟩
        · exact ⟨Nat.zero_le _, by show (y 1).val < 0 + 128; omega⟩
      rw [e]
      refine congrArg (f n) (funext fun e => Fin.ext ?_)
      fin_cases e
      · show (y 0).val - 256 * (n % 17) = (y 0).val % 256
        omega
      · rfl

theorem trips2' (n : Fin k0_t1_loop.trips) : Scf.trips (k0_t2_loop n).lb (k0_t2_loop n).ub (k0_t2_loop n).st = (n.val + 1) / 2 := trips2 n

/-- With an odd number of chunks, one is left after the pairs: the first. -/
theorem final_odd (v0i : IVec S256x128 32) (wn : FVec F S256x256 .bf16) (on : FVec F S256x128 .bf16) (bc : Vec F S512x128 .bf16)
    (q k v0 v1 : Vec F S4352x128 .bf16) (n : Fin k0_t1_loop.trips) (hc : k0_cond1 n = 1#1) :
    final v0i wn on bc q k v0 v1 n.val = trip wn on k v0 v1 (q2of (k0_pay41 v0i (chunk q n.val)) bc) 0
      (run wn on k v0 v1 (q2of (k0_pay41 v0i (chunk q n.val)) bc) n.val (2 * Scf.trips (k0_t2_loop n).lb (k0_t2_loop n).ub (k0_t2_loop n).st)
        (start wn on k (q2of (k0_pay41 v0i (chunk q n.val)) bc) n.val)) := by
  have h := (cond1_iff n).mp hc
  have h2 : n.val = 2 * ((n.val + 1) / 2) := by omega
  rw [trips2', ← h2]
  show trip _ _ _ _ _ _ (n.val - n.val) _ = _
  rw [Nat.sub_self]

/-- With an even number of chunks the pairs are all of them. -/
theorem final_even (v0i : IVec S256x128 32) (wn : FVec F S256x256 .bf16) (on : FVec F S256x128 .bf16) (bc : Vec F S512x128 .bf16)
    (q k v0 v1 : Vec F S4352x128 .bf16) (n : Fin k0_t1_loop.trips) (hc : ¬ k0_cond1 n = 1#1) :
    final v0i wn on bc q k v0 v1 n.val =
      (run wn on k v0 v1 (q2of (k0_pay41 v0i (chunk q n.val)) bc) n.val (2 * Scf.trips (k0_t2_loop n).lb (k0_t2_loop n).ub (k0_t2_loop n).st)
        (start wn on k (q2of (k0_pay41 v0i (chunk q n.val)) bc) n.val)) := by
  have h : ¬ (n.val + 1) % 2 = 1 := fun h => hc ((cond1_iff n).mpr h)
  have h2 : n.val + 1 = 2 * ((n.val + 1) / 2) := by omega
  rw [trips2', ← h2]
  rfl

section Body

variable (c : Dev nD) (i : grid0.Coords)
  (arg2 : Memref sig .tc .smem S16 .f32) (harg2 : arg2.IsWhole) (arg3 : Memref sig .tc .vmem S4352x128 .bf16) (harg3 : arg3.IsWhole)
  (arg4 : Memref sig .tc .vmem S4352x128 .bf16) (harg4 : arg4.IsWhole) (arg5 : Memref sig .tc .vmem S4352x128 .bf16) (harg5 : arg5.IsWhole)
  (arg6 : Memref sig .tc .vmem S4352x128 .bf16) (harg6 : arg6.IsWhole) (arg7 : Memref sig .tc .vmem S256x256 .bf16) (harg7 : arg7.IsWhole)
  (arg8 : Memref sig .tc .vmem S256x128 .bf16) (harg8 : arg8.IsWhole) (arg9 : Memref sig .tc .vmem S4352x128 .bf16) (harg9 : arg9.IsWhole)
  (arg10 : Memref sig .tc .vmem S512x256 .bf16) (harg10 : arg10.IsWhole) (arg11 : Memref sig .tc .vmem S512x256 .f32) (harg11 : arg11.IsWhole)
  (arg12 : Memref sig .tc .vmem S512x256 .bf16) (harg12 : arg12.IsWhole) (arg13 : Memref sig .tc .vmem S512x128 .f32) (harg13 : arg13.IsWhole)
  (arg14 : Memref sig .tc .vmem S512x256 .bf16) (harg14 : arg14.IsWhole) (arg15 : Memref sig .tc .vmem S512x1 .f32) (harg15 : arg15.IsWhole)
  (arg16 : Memref sig .tc .vmem S256x128 .f32) (harg16 : arg16.IsWhole)

/-- The six scratch buffers hold the state. -/
def scr (s : St F) : sProp 𝕄 :=
  iprop(owns (c : Thread nD τ) arg11 fullShare s.lb ∗ owns (c : Thread nD τ) arg12 fullShare s.sp
    ∗ owns (c : Thread nD τ) arg13 fullShare s.tot ∗ owns (c : Thread nD τ) arg14 fullShare s.w
    ∗ owns (c : Thread nD τ) arg15 fullShare s.ca ∗ owns (c : Thread nD τ) arg16 fullShare s.acc)

/-- The keys, the two value blocks and the stacked queries, which a chunk only reads. -/
def ro (k v0 v1 : Vec F S4352x128 .bf16) (q2 : Vec F S512x256 .bf16) : sProp 𝕄 :=
  iprop(owns (c : Thread nD τ) arg4 fullShare k ∗ owns (c : Thread nD τ) arg5 fullShare v0
    ∗ owns (c : Thread nD τ) arg6 fullShare v1 ∗ owns (c : Thread nD τ) arg10 fullShare q2)

set_option maxHeartbeats 400000 in
theorem pair_wp (n : Fin k0_t1_loop.trips) (j : Fin (k0_t2_loop n).trips) (arg17 : BitVec 32)
    (v146 v147 : FVec F S512x256 .f32) (wn : FVec F S256x256 .bf16) (on : FVec F S256x128 .bf16)
    (k v0 v1 : Vec F S4352x128 .bf16) (q2 : Vec F S512x256 .bf16) (s : St F) (a : BitVec 32) :
    iprop(scr c arg11 arg12 arg13 arg14 arg15 arg16 s ∗ ro c arg4 arg5 arg6 arg10 k v0 v1 q2)
      ⊢ wp frame (wpE (defs₀ (F := F)) Variants.none (c : Thread nD τ) none) Set.univ
        (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 wn on n arg17 v146 v147 j a)
        (fun _ => iprop(scr c arg11 arg12 arg13 arg14 arg15 arg16
            (trip wn on k v0 v1 q2 (n.val - 2 * j.val - 1) (trip wn on k v0 v1 q2 (n.val - 2 * j.val) s))
          ∗ ro c arg4 arg5 arg6 arg10 k v0 v1 q2)) := by
  obtain ⟨lb, sp, tot, w, ca, acc⟩ := s
  conv_lhs => unfold scr ro owns
  unfold k0_t2_body
  simp only [k0_part1_eq_skeleton, k0_part2_eq_skeleton, k0_part3_eq_skeleton, k0_part4_eq_skeleton]
  iintro ⟨⟨⟨%f11, %h11, H11⟩, ⟨%f12, %h12, H12⟩, ⟨%f13, %h13, H13⟩, ⟨%f14, %h14, H14⟩, ⟨%f15, %h15, H15⟩, ⟨%f16, %h16, H16⟩⟩, ⟨%f4, %h4, H4⟩, ⟨%f5, %h5, H5⟩, ⟨%f6, %h6, H6⟩, ⟨%f10, %h10, H10⟩⟩
  sl_exec
  sl_step
  unfold scr ro
  isplitl [H11 H12 H13 H14 H15 H16]
  · isplitl [H11]
    · iapply (own_full c arg11 _ _ _ _ _ ?_)
      rotate_left
      · iexact H11
      sl_unfold_run_names
      simp only [View.readAt_eq_ld, ld_whole, readCov_part, h4, h5, h6, h10, h11, h12, h13, h14, h15, h16, ld_chunk _ (off5_eq n j), ld_chunk _ (off6a_eq n j), ld_chunk _ (off6b_eq n j), ld_chunk _ (off7_eq n j), pay_lb, pay_sp, pay_tot, pay_w, pay_ca, pay_acc, trip, top, bot]
    isplitl [H12]
    · iapply (own_full c arg12 _ _ _ _ _ ?_)
      rotate_left
      · iexact H12
      sl_unfold_run_names
      simp only [View.readAt_eq_ld, ld_whole, readCov_part, h4, h5, h6, h10, h11, h12, h13, h14, h15, h16, ld_chunk _ (off5_eq n j), ld_chunk _ (off6a_eq n j), ld_chunk _ (off6b_eq n j), ld_chunk _ (off7_eq n j), pay_lb, pay_sp, pay_tot, pay_w, pay_ca, pay_acc, trip, top, bot]
    isplitl [H13]
    · iapply (own_full c arg13 _ _ _ _ _ ?_)
      rotate_left
      · iexact H13
      sl_unfold_run_names
      simp only [View.readAt_eq_ld, ld_whole, readCov_part, h4, h5, h6, h10, h11, h12, h13, h14, h15, h16, ld_chunk _ (off5_eq n j), ld_chunk _ (off6a_eq n j), ld_chunk _ (off6b_eq n j), ld_chunk _ (off7_eq n j), pay_lb, pay_sp, pay_tot, pay_w, pay_ca, pay_acc, trip, top, bot]
    isplitl [H14]
    · iapply (own_full c arg14 _ _ _ _ _ ?_)
      rotate_left
      · iexact H14
      sl_unfold_run_names
      simp only [View.readAt_eq_ld, ld_whole, readCov_part, h4, h5, h6, h10, h11, h12, h13, h14, h15, h16, ld_chunk _ (off5_eq n j), ld_chunk _ (off6a_eq n j), ld_chunk _ (off6b_eq n j), ld_chunk _ (off7_eq n j), pay_lb, pay_sp, pay_tot, pay_w, pay_ca, pay_acc, trip, top, bot]
    isplitl [H15]
    · iapply (own_full c arg15 _ _ _ _ _ ?_)
      rotate_left
      · iexact H15
      sl_unfold_run_names
      simp only [View.readAt_eq_ld, ld_whole, readCov_part, h4, h5, h6, h10, h11, h12, h13, h14, h15, h16, ld_chunk _ (off5_eq n j), ld_chunk _ (off6a_eq n j), ld_chunk _ (off6b_eq n j), ld_chunk _ (off7_eq n j), pay_lb, pay_sp, pay_tot, pay_w, pay_ca, pay_acc, trip, top, bot]
    iapply (own_full c arg16 _ _ _ _ _ ?_)
    rotate_left
    · iexact H16
    sl_unfold_run_names
    simp only [View.readAt_eq_ld, ld_whole, readCov_part, h4, h5, h6, h10, h11, h12, h13, h14, h15, h16, ld_chunk _ (off5_eq n j), ld_chunk _ (off6a_eq n j), ld_chunk _ (off6b_eq n j), ld_chunk _ (off7_eq n j), pay_lb, pay_sp, pay_tot, pay_w, pay_ca, pay_acc, trip, top, bot]
  isplitl [H4]
  · iapply (own_read c arg4 _ _ h4); iexact H4
  isplitl [H5]
  · iapply (own_read c arg5 _ _ h5); iexact H5
  isplitl [H6]
  · iapply (own_read c arg6 _ _ h6); iexact H6
  iapply (own_read c arg10 _ _ h10); iexact H10

/-- What a query block finds and leaves: the state and the query columns of the stacked queries are anything. -/
def blk (bc : Vec F S512x128 .bf16) (q k v0 v1 : Vec F S4352x128 .bf16) (d : Vec F S4352x128 .bf16) : sProp 𝕄 :=
  iprop((∃ s, scr c arg11 arg12 arg13 arg14 arg15 arg16 s) ∗ (∃ a, ro c arg4 arg5 arg6 arg10 k v0 v1 (q2of a bc))
    ∗ owns (c : Thread nD τ) arg3 fullShare q ∗ owns (c : Thread nD τ) arg9 fullShare d)

set_option maxHeartbeats 1000000 in
theorem block_wp (n : Fin k0_t1_loop.trips) (v0i : IVec S256x128 32) (v6 : Vec F S256x256 .bf16) (v8 : Vec F S256x128 .bf16)
    (bc : Vec F S512x128 .bf16) (q k v0 v1 d : Vec F S4352x128 .bf16) (u : Unit) :
    blk c arg3 arg4 arg5 arg6 arg9 arg10 arg11 arg12 arg13 arg14 arg15 arg16 bc q k v0 v1 d
      ⊢ wp frame (wpE (defs₀ (F := F)) Variants.none (c : Thread nD τ) none) Set.univ
        (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 v0i v6 v8 n u)
        (fun _ => blk c arg3 arg4 arg5 arg6 arg9 arg10 arg11 arg12 arg13 arg14 arg15 arg16 bc q k v0 v1
          (putRows d n.val (k0_pay73 (final v0i (k0_pay69 v6) (k0_pay70 v8) bc q k v0 v1 n.val).acc))) := by
  conv_lhs => unfold blk scr ro owns
  unfold k0_t1_body
  simp only [k0_part11_eq_skeleton, k0_part12_eq_skeleton, k0_part13_eq_skeleton, k0_part14_eq_skeleton, k0_part9_eq_skeleton, k0_part10_eq_skeleton]
  iintro ⟨⟨%s, ⟨%f11, %h11, H11⟩, ⟨%f12, %h12, H12⟩, ⟨%f13, %h13, H13⟩, ⟨%f14, %h14, H14⟩, ⟨%f15, %h15, H15⟩, ⟨%f16, %h16, H16⟩⟩, ⟨%a, ⟨%f4, %h4, H4⟩, ⟨%f5, %h5, H5⟩, ⟨%f6, %h6, H6⟩, ⟨%f10, %h10, H10⟩⟩, ⟨%f3, %h3, H3⟩, ⟨%f9, %h9, H9⟩⟩
  sl_exec
  sl_for (fun j _ => iprop(scr c arg11 arg12 arg13 arg14 arg15 arg16
      (run (k0_pay69 v6) (k0_pay70 v8) k v0 v1 (q2of (k0_pay41 v0i (chunk q n.val)) bc) n.val (2 * j) (start (k0_pay69 v6) (k0_pay70 v8) k (q2of (k0_pay41 v0i (chunk q n.val)) bc) n.val))
      ∗ ro c arg4 arg5 arg6 arg10 k v0 v1 (q2of (k0_pay41 v0i (chunk q n.val)) bc))) $$ [H11 H12 H13 H14 H15 H16 H4 H5 H6 H10]
  case region =>
    intro j a
    exact (pair_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 n j _ _ _ _ _ k v0 v1 _ _ a)
  · unfold scr ro
    isplitl [H11 H12 H13 H14 H15 H16]
    · isplitl [H11]
      · iapply (own_full c arg11 _ _ _ _ _ ?_)
        rotate_left
        · iexact H11
        sl_unfold_run_names
        simp only [View.readAt_eq_ld, ld_whole, readCov_part, h3, h4, h10, View.read_writes_cons_put, View.writes_nil, put_q2of a _ bc, ld_chunk _ (off3_eq n), ld_chunk _ (off4_eq n), run, start]
      isplitl [H12]
      · iapply (own_full c arg12 _ _ _ _ _ ?_)
        rotate_left
        · iexact H12
        sl_unfold_run_names
        simp only [View.readAt_eq_ld, ld_whole, readCov_part, h3, h4, h10, View.read_writes_cons_put, View.writes_nil, put_q2of a _ bc, ld_chunk _ (off3_eq n), ld_chunk _ (off4_eq n), run, start]
      isplitl [H13]
      · iapply (own_full c arg13 _ _ _ _ _ ?_)
        rotate_left
        · iexact H13
        sl_unfold_run_names
        simp only [View.readAt_eq_ld, ld_whole, readCov_part, h3, h4, h10, View.read_writes_cons_put, View.writes_nil, put_q2of a _ bc, ld_chunk _ (off3_eq n), ld_chunk _ (off4_eq n), run, start]
      isplitl [H14]
      · iapply (own_full c arg14 _ _ _ _ _ ?_)
        rotate_left
        · iexact H14
        sl_unfold_run_names
        simp only [View.readAt_eq_ld, ld_whole, readCov_part, h3, h4, h10, View.read_writes_cons_put, View.writes_nil, put_q2of a _ bc, ld_chunk _ (off3_eq n), ld_chunk _ (off4_eq n), run, start]
      isplitl [H15]
      · iapply (own_full c arg15 _ _ _ _ _ ?_)
        rotate_left
        · iexact H15
        sl_unfold_run_names
        simp only [View.readAt_eq_ld, ld_whole, readCov_part, h3, h4, h10, View.read_writes_cons_put, View.writes_nil, put_q2of a _ bc, ld_chunk _ (off3_eq n), ld_chunk _ (off4_eq n), run, start]
      iapply (own_full c arg16 _ _ _ _ _ ?_)
      rotate_left
      · iexact H16
      sl_unfold_run_names
      simp only [View.readAt_eq_ld, ld_whole, readCov_part, h3, h4, h10, View.read_writes_cons_put, View.writes_nil, put_q2of a _ bc, ld_chunk _ (off3_eq n), ld_chunk _ (off4_eq n), run, start]
    isplitl [H4]
    · iapply (own_read c arg4 _ _ h4); iexact H4
    isplitl [H5]
    · iapply (own_read c arg5 _ _ h5); iexact H5
    isplitl [H6]
    · iapply (own_read c arg6 _ _ h6); iexact H6
    iapply (own_read c arg10 _ _ ?_)
    rotate_left
    · iexact H10
    sl_unfold_run_names
    simp only [View.readAt_eq_ld, ld_whole, readCov_part, h3, h4, h10, View.read_writes_cons_put, View.writes_nil, put_q2of a _ bc, ld_chunk _ (off3_eq n)]
  iintro %w HI
  by_cases hc : k0_cond1 n = 1#1
  · rw [final_odd v0i _ _ bc q k v0 v1 n hc]
    generalize run (k0_pay69 v6) (k0_pay70 v8) k v0 v1 (q2of (k0_pay41 v0i (chunk q n.val)) bc) n.val _ _ = S
    obtain ⟨lb, sp, tot, w, ca, acc⟩ := S
    conv_lhs => unfold scr ro owns
    icases HI with ⟨⟨⟨%g11, %g11, H11⟩, ⟨%f12, %g12, H12⟩, ⟨%f13, %g13, H13⟩, ⟨%f14, %g14, H14⟩, ⟨%f15, %g15, H15⟩, ⟨%f16, %g16, H16⟩⟩, ⟨%f4, %g4, G4⟩, ⟨%f5, %g5, G5⟩, ⟨%f6, %g6, G6⟩, ⟨%f10, %g10, G10⟩⟩
    sl_exec
    sl_step
    unfold blk scr ro
    isplitl [H11 H12 H13 H14 H15 H16]
    · iexists (trip (k0_pay69 v6) (k0_pay70 v8) k v0 v1 (q2of (k0_pay41 v0i (chunk q n.val)) bc) 0 ⟨lb, sp, tot, w, ca, acc⟩)
      isplitl [H11]
      · iapply (own_full c arg11 _ _ _ _ _ ?_)
        rotate_left
        · iexact H11
        sl_unfold_run_names
        simp only [View.readAt_eq_ld, ld_whole, readCov_part, g4, g5, g6, g10, g11, g12, g13, g14, g15, g16, ld_chunk _ off11a_eq, ld_chunk _ off11b_eq, ld_chunk _ off0_eq, pay_lb', pay_sp', pay_tot', pay_w', pay_ca', pay_acc', trip, top, bot]
        rfl
      isplitl [H12]
      · iapply (own_full c arg12 _ _ _ _ _ ?_)
        rotate_left
        · iexact H12
        sl_unfold_run_names
        simp only [View.readAt_eq_ld, ld_whole, readCov_part, g4, g5, g6, g10, g11, g12, g13, g14, g15, g16, ld_chunk _ off11a_eq, ld_chunk _ off11b_eq, ld_chunk _ off0_eq, pay_lb', pay_sp', pay_tot', pay_w', pay_ca', pay_acc', trip, top, bot]
        rfl
      isplitl [H13]
      · iapply (own_full c arg13 _ _ _ _ _ ?_)
        rotate_left
        · iexact H13
        sl_unfold_run_names
        simp only [View.readAt_eq_ld, ld_whole, readCov_part, g4, g5, g6, g10, g11, g12, g13, g14, g15, g16, ld_chunk _ off11a_eq, ld_chunk _ off11b_eq, ld_chunk _ off0_eq, pay_lb', pay_sp', pay_tot', pay_w', pay_ca', pay_acc', trip, top, bot]
        rfl
      isplitl [H14]
      · iapply (own_full c arg14 _ _ _ _ _ ?_)
        rotate_left
        · iexact H14
        sl_unfold_run_names
        simp only [View.readAt_eq_ld, ld_whole, readCov_part, g4, g5, g6, g10, g11, g12, g13, g14, g15, g16, ld_chunk _ off11a_eq, ld_chunk _ off11b_eq, ld_chunk _ off0_eq, pay_lb', pay_sp', pay_tot', pay_w', pay_ca', pay_acc', trip, top, bot]
      isplitl [H15]
      · iapply (own_full c arg15 _ _ _ _ _ ?_)
        rotate_left
        · iexact H15
        sl_unfold_run_names
        simp only [View.readAt_eq_ld, ld_whole, readCov_part, g4, g5, g6, g10, g11, g12, g13, g14, g15, g16, ld_chunk _ off11a_eq, ld_chunk _ off11b_eq, ld_chunk _ off0_eq, pay_lb', pay_sp', pay_tot', pay_w', pay_ca', pay_acc', trip, top, bot]
      iapply (own_full c arg16 _ _ _ _ _ ?_)
      rotate_left
      · iexact H16
      sl_unfold_run_names
      simp only [View.readAt_eq_ld, ld_whole, readCov_part, g4, g5, g6, g10, g11, g12, g13, g14, g15, g16, ld_chunk _ off11a_eq, ld_chunk _ off11b_eq, ld_chunk _ off0_eq, pay_lb', pay_sp', pay_tot', pay_w', pay_ca', pay_acc', trip, top, bot]
      rfl
    isplitl [G4 G5 G6 G10]
    · iexists _
      isplitl [G4]
      · iapply (own_read c arg4 _ _ g4); iexact G4
      isplitl [G5]
      · iapply (own_read c arg5 _ _ g5); iexact G5
      isplitl [G6]
      · iapply (own_read c arg6 _ _ g6); iexact G6
      iapply (own_read c arg10 _ _ g10); iexact G10
    isplitl [H3]
    · iapply (own_read c arg3 _ _ h3); iexact H3
    iapply (own_read c arg9 _ _ ?_)
    rotate_left
    · iexact H9
    sl_unfold_run_names
    rw [View.read_writes_cons_put _ _ _ _ _ (off12_eq n)]
    simp only [View.readAt_eq_ld, ld_whole, readCov_part, g4, g5, g6, g10, g14, g16, ld_chunk _ off11b_eq, ld_chunk _ off0_eq, View.writes_nil, h9, pay_acc', trip, top, bot]
    rfl
  · rw [final_even v0i _ _ bc q k v0 v1 n hc]
    generalize run (k0_pay69 v6) (k0_pay70 v8) k v0 v1 (q2of (k0_pay41 v0i (chunk q n.val)) bc) n.val _ _ = S
    conv_lhs => unfold scr ro owns
    icases HI with ⟨⟨⟨%g11, %g11, H11⟩, ⟨%f12, %g12, H12⟩, ⟨%f13, %g13, H13⟩, ⟨%f14, %g14, H14⟩, ⟨%f15, %g15, H15⟩, ⟨%f16, %g16, H16⟩⟩, ⟨%f4, %g4, G4⟩, ⟨%f5, %g5, G5⟩, ⟨%f6, %g6, G6⟩, ⟨%f10, %g10, G10⟩⟩
    sl_exec
    sl_step
    unfold blk scr ro
    isplitl [H11 H12 H13 H14 H15 H16]
    · iexists S
      isplitl [H11]
      · iapply (own_read c arg11 _ _ g11); iexact H11
      isplitl [H12]
      · iapply (own_read c arg12 _ _ g12); iexact H12
      isplitl [H13]
      · iapply (own_read c arg13 _ _ g13); iexact H13
      isplitl [H14]
      · iapply (own_read c arg14 _ _ g14); iexact H14
      isplitl [H15]
      · iapply (own_read c arg15 _ _ g15); iexact H15
      iapply (own_read c arg16 _ _ g16); iexact H16
    isplitl [G4 G5 G6 G10]
    · iexists _
      isplitl [G4]
      · iapply (own_read c arg4 _ _ g4); iexact G4
      isplitl [G5]
      · iapply (own_read c arg5 _ _ g5); iexact G5
      isplitl [G6]
      · iapply (own_read c arg6 _ _ g6); iexact G6
      iapply (own_read c arg10 _ _ g10); iexact G10
    isplitl [H3]
    · iapply (own_read c arg3 _ _ h3); iexact H3
    iapply (own_read c arg9 _ _ ?_)
    rotate_left
    · iexact H9
    sl_unfold_run_names
    rw [View.read_writes_cons_put _ _ _ _ _ (off12_eq n)]
    simp only [View.readAt_eq_ld, ld_whole, g16, View.writes_nil, h9]
    rfl

end Body

end Cert.AttnLoop
-- ==== Proof.AttnMath.lean ====
module
public import Idealize.ShloMosaic.Lib.Pointwise
@[expose] public section

/-!
The stick-breaking weights over the extended reals: the reference's, in natural exponentials, and the kernel's, in
powers of two, are one number.
-/

noncomputable section
namespace Cert.AttnMath
open Idealize.ShloMosaic Finset

/-- The factor from natural to binary exponents. -/
abbrev c2 : EReal := (((Real.log 2)⁻¹ : ℝ) : EReal)

theorem c2_pos : (0 : ℝ) < (Real.log 2)⁻¹ := inv_pos.mpr (Real.log_pos (by norm_num))

/-- The softplus as the reference computes it. -/
def sp (x : EReal) : EReal := max x 0 + Ideal.log (1 + Ideal.exp (-(max x (-x))))

/-- The softplus in binary exponents as the kernel computes it. -/
def sp2 (x : EReal) : EReal := max x 0 + Ideal.log (1 + Ideal.exp2 (0 - max x (-x))) * c2

theorem exp2_mul (x : EReal) : Ideal.exp2 (x * c2) = Ideal.exp x := by
  induction x with
  | bot => rw [EReal.bot_mul_coe_of_pos c2_pos]; rfl
  | top => rw [EReal.top_mul_coe_of_pos c2_pos]; rfl
  | coe r =>
    rw [← EReal.coe_mul, Ideal.exp2_coe, Ideal.exp_coe]
    refine congrArg _ ?_
    show (2 : ℝ) ^ (r * (Real.log 2)⁻¹) = _
    rw [Real.rpow_def_of_pos (by norm_num)]
    have h : Real.log 2 ≠ 0 := (Real.log_pos (by norm_num)).ne'
    congr 1
    field_simp

theorem neg_mul_c2 (x : EReal) : -(x * c2) = -x * c2 := (EReal.neg_mul x c2).symm

theorem max_mul_c2 (x y : EReal) : max (x * c2) (y * c2) = max x y * c2 := by
  have hm : Monotone fun t : EReal => t * c2 := fun a b h =>
    mul_le_mul_of_nonneg_right h (EReal.coe_nonneg.mpr c2_pos.le)
  exact (hm.map_max (a := x) (b := y)).symm

theorem add_mul_c2 (x y : EReal) : (x + y) * c2 = x * c2 + y * c2 :=
  EReal.right_distrib_of_nonneg_of_ne_top (EReal.coe_nonneg.mpr c2_pos.le) (EReal.coe_ne_top _) x y

theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top _) _ _

theorem sp2_mul (x : EReal) : sp2 (x * c2) = sp x * c2 := by
  unfold sp2 sp
  have h0 : max (x * c2) 0 = max x 0 * c2 := by
    have := max_mul_c2 x 0
    rwa [zero_mul] at this
  rw [h0, neg_mul_c2, max_mul_c2, zero_sub, neg_mul_c2, exp2_mul, ← add_mul_c2]

theorem log_one : Ideal.log 1 = 0 := by
  rw [← EReal.coe_one, Ideal.log_coe]; norm_num

theorem sp_top : sp ⊤ = ⊤ := by
  unfold sp
  simp [log_one]

theorem sp_bot : sp ⊥ = 0 := by
  unfold sp
  simp [log_one]

theorem sp_coe (r : ℝ) : ∃ x : ℝ, sp r = x ∧ 0 ≤ x := by
  unfold sp
  refine ⟨max r 0 + Real.log (1 + Real.exp (-(max r (-r)))), ?_, ?_⟩
  · have hp : (0 : ℝ) < 1 + Real.exp (-(max r (-r))) := by positivity
    have h1 : (1 : EReal) + Ideal.exp (-(max (r : EReal) (-(r : EReal)))) = ((1 + Real.exp (-(max r (-r))) : ℝ) : EReal) := by
      rw [← EReal.coe_neg, ← EReal.coe_strictMono.monotone.map_max, ← EReal.coe_neg, Ideal.exp_coe, ← EReal.coe_one, ← EReal.coe_add]
    rw [h1, Ideal.log_coe, if_neg (not_le.mpr hp), ← EReal.coe_zero, ← EReal.coe_strictMono.monotone.map_max, ← EReal.coe_add]
  · have : 0 ≤ Real.log (1 + Real.exp (-(max r (-r)))) := Real.log_nonneg (by have := Real.exp_pos (-(max r (-r))); linarith)
    have := le_max_right r 0
    linarith

theorem sp_nonneg (x : EReal) : 0 ≤ sp x := by
  induction x with
  | bot => rw [sp_bot]
  | top => rw [sp_top]; exact le_top
  | coe r => obtain ⟨x, h, hx⟩ := sp_coe r; rw [h]; exact EReal.coe_nonneg.mpr hx

theorem sp2_nonneg (x : EReal) : 0 ≤ sp2 x := by
  have h : x * c2⁻¹ * c2 = x := by
    rw [mul_assoc, ← EReal.coe_inv, ← EReal.coe_mul, inv_mul_cancel₀ c2_pos.ne', EReal.coe_one, mul_one]
  rw [← h, sp2_mul]
  exact mul_nonneg (sp_nonneg _) (EReal.coe_nonneg.mpr c2_pos.le)

theorem sp_sub_swap (r : ℝ) : ∃ a b : ℝ, sp r = a ∧ sp (-(r : EReal)) = b ∧ r - a = -b := by
  have hm : max (-r) (- -r) = max r (-r) := by rw [neg_neg, max_comm]
  have key : ∀ r : ℝ, sp r = ((max r 0 + Real.log (1 + Real.exp (-(max r (-r)))) : ℝ) : EReal) := fun r => by
    unfold sp
    have hp : (0 : ℝ) < 1 + Real.exp (-(max r (-r))) := by positivity
    have h1 : (1 : EReal) + Ideal.exp (-(max (r : EReal) (-(r : EReal)))) = ((1 + Real.exp (-(max r (-r))) : ℝ) : EReal) := by
      rw [← EReal.coe_neg, ← EReal.coe_strictMono.monotone.map_max, ← EReal.coe_neg, Ideal.exp_coe, ← EReal.coe_one, ← EReal.coe_add]
    rw [h1, Ideal.log_coe, if_neg (not_le.mpr hp), ← EReal.coe_zero, ← EReal.coe_strictMono.monotone.map_max, ← EReal.coe_add]
  refine ⟨_, _, key r, by rw [← EReal.coe_neg]; exact key (-r), ?_⟩
  rw [hm]
  rcases le_total r 0 with h | h
  · rw [max_eq_right h, max_eq_left (neg_nonneg.mpr h)]; ring
  · rw [max_eq_left h, max_eq_right (neg_nonpos.mpr h)]; ring

theorem neg_sum {ι : Type} (s : Finset ι) (f : ι → EReal) (h : ∀ i ∈ s, 0 ≤ f i) : ∑ i ∈ s, -f i = -∑ i ∈ s, f i := by
  classical
  induction s using Finset.induction_on with
  | empty => simp
  | insert a s ha ih =>
    have hs : 0 ≤ ∑ i ∈ s, f i := Finset.sum_nonneg fun i hi => h i (Finset.mem_insert_of_mem hi)
    have hf : 0 ≤ f a := h a (Finset.mem_insert_self _ _)
    rw [Finset.sum_insert ha, Finset.sum_insert ha, ih fun i hi => h i (Finset.mem_insert_of_mem hi),
      EReal.neg_add (.inl (ne_of_gt (lt_of_lt_of_le EReal.bot_lt_zero hf))) (.inr (ne_of_gt (lt_of_lt_of_le EReal.bot_lt_zero hs)))]
    rfl

theorem neg_add_neg {a b : EReal} (ha : 0 ≤ a) (hb : 0 ≤ b) : -a + -b = -(a + b) := by
  rw [EReal.neg_add (.inl (ne_of_gt (lt_of_lt_of_le EReal.bot_lt_zero ha))) (.inr (ne_of_gt (lt_of_lt_of_le EReal.bot_lt_zero hb)))]
  rfl

/-- How the kernel's binary logits are those of the reference: all scaled by one factor, or all void, where the
reference's are infinite. -/
def Scaled (z z2 : Nat → EReal) : Prop :=
  (∀ j, z2 j = z j * c2) ∨ ∀ j, z2 j = ⊥ ∧ (z j = ⊤ ∨ z j = ⊥)

/-- The reference's logarithm of what a key leaves: nothing taken by keys not before `t`. -/
def keep (z : Nat → EReal) (t j : Nat) : EReal := if j < t then -sp (z j) else 0

/-- The reference's weight of key `s` for query `t`, among `N` keys. -/
def weight (z : Nat → EReal) (N t s : Nat) : EReal :=
  if s < t then Ideal.exp (-sp (-z s) + ((∑ j ∈ Ico s N, keep z t j) - keep z t s)) else 0

/-- What the kernel takes away for key `j`. -/
def taken (z2 : Nat → EReal) (t j : Nat) : EReal := if j < t then sp2 (z2 j) else 0

/-- The kernel's weight of key `s` for query `t`, among the keys before `M`. -/
def weight2 (z2 : Nat → EReal) (M t s : Nat) : EReal :=
  if s < t then Ideal.exp2 (z2 s - sp2 (z2 s) + -∑ j ∈ Ico (s + 1) M, taken z2 t j) else 0

theorem taken_nonneg (z2 : Nat → EReal) (t j : Nat) : 0 ≤ taken z2 t j := by
  unfold taken; split
  · exact sp2_nonneg _
  · exact le_refl _

theorem sum_Ico_stop {f : Nat → EReal} {t : Nat} (hf : ∀ j, t ≤ j → f j = 0) {a M : Nat} (h : t ≤ M) :
    ∑ j ∈ Ico a M, f j = ∑ j ∈ Ico a t, f j := by
  symm
  refine Finset.sum_subset (Finset.Ico_subset_Ico (le_refl _) h) fun j hj hn => hf j ?_
  simp only [Finset.mem_Ico] at hj hn
  omega

theorem weight2_eq {z z2 : Nat → EReal} (hz : Scaled z z2) {N M t s : Nat} (hM : t ≤ M) (hN : t ≤ N) :
    weight2 z2 M t s = weight z N t s := by
  unfold weight2 weight
  by_cases hst : s < t
  swap
  · rw [if_neg hst, if_neg hst]
  rw [if_pos hst, if_pos hst]
  rw [sum_Ico_stop (f := taken z2 t) (fun j hj => if_neg (by omega)) hM,
    sum_Ico_stop (f := keep z t) (fun j hj => if_neg (by omega)) hN]
  have e1 : ∀ a, ∑ j ∈ Ico a t, keep z t j = -∑ j ∈ Ico a t, sp (z j) := fun a => by
    rw [← neg_sum _ _ fun _ _ => sp_nonneg _]
    refine Finset.sum_congr rfl fun j hj => if_pos (Finset.mem_Ico.mp hj).2
  have e2 : ∑ j ∈ Ico s t, sp (z j) = sp (z s) + ∑ j ∈ Ico (s + 1) t, sp (z j) := Finset.sum_eq_sum_Ico_succ_bot hst _
  have e3 : ∑ j ∈ Ico (s + 1) t, taken z2 t j = ∑ j ∈ Ico (s + 1) t, sp2 (z2 j) :=
    Finset.sum_congr rfl fun j hj => if_pos (Finset.mem_Ico.mp hj).2
  have hA : 0 ≤ ∑ j ∈ Ico (s + 1) t, sp (z j) := Finset.sum_nonneg fun _ _ => sp_nonneg _
  have hk : keep z t s = -sp (z s) := if_pos hst
  rw [e1, e2, e3, hk]
  have htop : z s = ⊤ ∨ z s = ⊥ → Ideal.exp (-sp (-z s) + (-(sp (z s) + ∑ j ∈ Ico (s + 1) t, sp (z j)) - -sp (z s))) = 0 := by
    rintro (h | h)
    · have : (⊤ : EReal) + ∑ j ∈ Ico (s + 1) t, sp (z j) = ⊤ :=
        EReal.top_add_of_ne_bot (ne_of_gt (lt_of_lt_of_le EReal.bot_lt_zero hA))
      rw [h, sp_top, this]
      simp [sub_eq_add_neg]
    · rw [h]
      simp [sp_top]
  have htop2 : z2 s = ⊤ ∨ z2 s = ⊥ → Ideal.exp2 (z2 s - sp2 (z2 s) + -∑ j ∈ Ico (s + 1) t, sp2 (z2 j)) = 0 := by
    have hs : sp2 ⊤ = ⊤ := by
      have := sp2_mul ⊤
      rwa [sp_top, EReal.top_mul_coe_of_pos c2_pos] at this
    rintro (h | h)
    · rw [h, hs]; simp [sub_eq_add_neg]
    · rw [h]; simp [sub_eq_add_neg]
  rcases hz with hz | hz
  · have hsum : ∑ j ∈ Ico (s + 1) t, sp2 (z2 j) = (∑ j ∈ Ico (s + 1) t, sp (z j)) * c2 := by
      rw [sum_mul_coe _ _ c2_pos.le]
      exact Finset.sum_congr rfl fun j _ => by rw [hz j, sp2_mul]
    have hcase : z s = ⊥ ∨ (∃ r : ℝ, z s = r) ∨ z s = ⊤ := by
      induction z s using EReal.rec with
      | bot => exact .inl rfl
      | coe r => exact .inr (.inl ⟨r, rfl⟩)
      | top => exact .inr (.inr rfl)
    rcases hcase with h | ⟨r, h⟩ | h
    · rw [htop (.inr h)]
      exact htop2 (.inr (by rw [hz s, h, EReal.bot_mul_coe_of_pos c2_pos]))
    · obtain ⟨a, b, ha, hb, hab⟩ := sp_sub_swap r
      rw [hsum, hz s, sp2_mul, h, ha, hb, sub_eq_add_neg, neg_mul_c2, ← add_mul_c2, neg_mul_c2, ← add_mul_c2, exp2_mul]
      refine congrArg _ ?_
      have e : (r : EReal) + -(a : EReal) = -(b : EReal) := by
        rw [← EReal.coe_neg, ← EReal.coe_neg, ← EReal.coe_add, ← hab, sub_eq_add_neg]
      rw [e, EReal.neg_add (.inl (EReal.coe_ne_bot a)) (.inl (EReal.coe_ne_top a))]
      generalize ∑ j ∈ Ico (s + 1) t, sp (z j) = A
      refine congrArg _ ?_
      rw [sub_eq_add_neg, sub_eq_add_neg, neg_neg, add_right_comm, ← EReal.coe_neg, ← EReal.coe_add]
      simp
    · rw [htop (.inl h)]
      exact htop2 (.inl (by rw [hz s, h, EReal.top_mul_coe_of_pos c2_pos]))
  · rw [htop (hz s).2]
    exact htop2 (.inr (hz s).1)

end Cert.AttnMath
-- ==== Proof.AttnPay.lean ====
module
public import proofs.«01_k».proof.Proof.AttnLoop
public import proofs.«01_k».proof.Proof.AttnMath
@[expose] public section

/-! The attention kernel's payloads, read at an index over the extended reals. -/

set_option maxRecDepth 16384
noncomputable section
namespace Cert.AttnPay
open Cert.AttnIdeal Cert.AttnIdeal.Gen Idealize.ShloMosaic Cert.AttnMath

/-- The binary logit of query row `r` against key row `j` of a chunk: the product of the features plus the bias columns'. -/
def logit (on x : Vec Ideal S256x128 .bf16) (q2 : Vec Ideal S512x256 .bf16) (r : Fin 512) (j : Fin 256) : EReal :=
  ∑ l : Fin 128, q2 (ix2 r ⟨l.val, by omega⟩) * x (ix2 j l) + ∑ l : Fin 128, q2 (ix2 r ⟨128 + l.val, by omega⟩) * on (ix2 j l)

theorem pay5_apply (on x : Vec Ideal S256x128 .bf16) (q2 : Vec Ideal S512x256 .bf16) (r : Fin 512) (j : Fin 256) :
    k0_pay5 on x q2 (ix2 r j) = logit on x q2 r j := by
  pointwise [k0_pay5]
  rfl

theorem pay6_apply (on x : Vec Ideal S256x128 .bf16) (q2 : Vec Ideal S512x256 .bf16) (r : Fin 512) (j : Fin 256) :
    k0_pay6 on x q2 (ix2 r j) = sp2 (logit on x q2 r j) := by
  pointwise [k0_pay6, pay5_apply]
  rfl

theorem pay7_apply (on x : Vec Ideal S256x128 .bf16) (q2 : Vec Ideal S512x256 .bf16) (r : Fin 512) (j : Fin 256) :
    k0_pay7 on x q2 (ix2 r j) = logit on x q2 r j - sp2 (logit on x q2 r j) := by
  pointwise [k0_pay7, pay5_apply, pay6_apply]

theorem pay9_apply (on x : Vec Ideal S256x128 .bf16) (q2 : Vec Ideal S512x256 .bf16) (r : Fin 512) (j : Fin 256) :
    k0_pay9 (k0_pay8 on x q2) (ix2 r j) = sp2 (logit on x q2 r j) := by
  pointwise [k0_pay9, k0_pay8, pay6_apply]

theorem pay10_apply (on x : Vec Ideal S256x128 .bf16) (q2 : Vec Ideal S512x256 .bf16) (r : Fin 512) (l : Fin 128) :
    k0_pay10 (k0_pay6 on x q2) (ix2 r l)
      = sp2 (logit on x q2 r ⟨l.val, by omega⟩) + sp2 (logit on x q2 r ⟨128 + l.val, by omega⟩) := by
  pointwise [k0_pay10, pay6_apply]

theorem pay4_apply (ca : Vec Ideal S512x1 .f32) (tot : Vec Ideal S512x128 .f32) (r : Fin 512) :
    k0_pay4 ca tot (ix2 r 0) = ca (ix2 r 0) - ∑ l : Fin 128, tot (ix2 r l) := by
  pointwise [k0_pay4]

theorem pay3_apply (wn : Vec Ideal S256x256 .bf16) (ca : Vec Ideal S512x1 .f32) (lb : Vec Ideal S512x256 .f32) (sp : Vec Ideal S512x256 .bf16)
    (r : Fin 512) (j : Fin 256) :
    k0_pay3 (k0_pay2 wn ca lb sp) (ix2 r j)
      = Ideal.exp2 (lb (ix2 r j) + (∑ i : Fin 256, sp (ix2 r i) * wn (ix2 i j)) + ca (ix2 r 0)) := by
  pointwise [k0_pay3, k0_pay2]
  rfl

theorem pay1_apply (w w' : Vec Ideal S256x256 .bf16) (v v' : Vec Ideal S256x128 .bf16) (a : Vec Ideal S256x128 .f32)
    (i : Fin 256) (d : Fin 128) :
    k0_pay1 w w' v v' a (ix2 i d)
      = a (ix2 i d) + (∑ j : Fin 256, w (ix2 i j) * v (ix2 j d) + ∑ j : Fin 256, w' (ix2 i j) * v' (ix2 j d)) := by
  pointwise [k0_pay1]

theorem and_255 : ∀ r : Fin 512, IntOp.andi (BitVec.ofNat 32 r.val) 255#32 = BitVec.ofNat 32 (r.val % 256) := by decide +kernel

theorem slt_small {a b : Nat} (ha : a < 2 ^ 20) (hb : b < 2 ^ 20) :
    IntOp.cmpi .slt (BitVec.ofNat 32 a) (BitVec.ofNat 32 b) = if a < b then 1#1 else 0#1 := by
  have ha' : (BitVec.ofNat 32 a).toInt = a := by
    rw [BitVec.toInt_eq_toNat_of_lt (by rw [BitVec.toNat_ofNat]; omega), BitVec.toNat_ofNat]; congr 1; omega
  have hb' : (BitVec.ofNat 32 b).toInt = b := by
    rw [BitVec.toInt_eq_toNat_of_lt (by rw [BitVec.toNat_ofNat]; omega), BitVec.toNat_ofNat]; congr 1; omega
  simp only [IntOp.cmpi, BitVec.slt, ha', hb', Nat.cast_lt]
  by_cases h : a < b <;> simp [h]

/-- The causal mask inside a query block's own chunk. -/
theorem pay68_apply (r : Fin 512) (j : Fin 256) : k0_pay68 (ix2 r j) = if j.val < r.val % 256 then 1#1 else 0#1 := by
  pointwise [k0_pay68]
  rw [and_255, slt_small (by omega) (by omega)]

/-- What a key of the query block's own chunk takes away, under the mask. -/
def masked (on x : Vec Ideal S256x128 .bf16) (q2 : Vec Ideal S512x256 .bf16) (r : Fin 512) (j : Fin 256) : EReal :=
  if j.val < r.val % 256 then sp2 (logit on x q2 r j) else 0

theorem pay45_eq (on x : Vec Ideal S256x128 .bf16) (q2 : Vec Ideal S512x256 .bf16) : k0_pay45 (k0_pay44 on x) q2 = k0_pay5 on x q2 := rfl
theorem pay46_eq (on x : Vec Ideal S256x128 .bf16) (q2 : Vec Ideal S512x256 .bf16) : k0_pay46 (k0_pay44 on x) q2 = k0_pay6 on x q2 := rfl
theorem pay57_eq (on x : Vec Ideal S256x128 .bf16) (q2 : Vec Ideal S512x256 .bf16) : k0_pay57 (k0_pay56 on x q2) = k0_pay7 on x q2 := rfl
theorem pay58_eq (on x : Vec Ideal S256x128 .bf16) (q2 : Vec Ideal S512x256 .bf16) : k0_pay58 (k0_pay55 on x q2) = k0_pay9 (k0_pay8 on x q2) := rfl
theorem pay59_eq (on x : Vec Ideal S256x128 .bf16) (q2 : Vec Ideal S512x256 .bf16) : k0_pay59 (k0_pay55 on x q2) = k0_pay10 (k0_pay6 on x q2) := rfl

theorem select_ite {α : Type} (p : Prop) [Decidable p] (a b : α) : Scalar.select (if p then 1#1 else 0#1) a b = if p then a else b := by
  by_cases h : p <;> simp [h, Scalar.select]

theorem pay47_apply (on x : Vec Ideal S256x128 .bf16) (q2 : Vec Ideal S512x256 .bf16) (r : Fin 512) (j : Fin 256) :
    k0_pay47 k0_pay68 (k0_pay44 on x) q2 (ix2 r j) = masked on x q2 r j := by
  pointwise [k0_pay47, pay68_apply, pay46_eq, pay6_apply]
  try rw [select_ite]
  try rfl

theorem pay49_apply (on x : Vec Ideal S256x128 .bf16) (q2 : Vec Ideal S512x256 .bf16) (r : Fin 512) (j : Fin 256) :
    k0_pay49 k0_pay68 (k0_pay44 on x) q2 (ix2 r j) = masked on x q2 r j := by
  pointwise [k0_pay49, pay47_apply]

theorem pay48_apply (on x : Vec Ideal S256x128 .bf16) (q2 : Vec Ideal S512x256 .bf16) (r : Fin 512) (j : Fin 256) :
    k0_pay48 (k0_pay44 on x) q2 (ix2 r j) = logit on x q2 r j - sp2 (logit on x q2 r j) := by
  pointwise [k0_pay48, pay45_eq, pay46_eq, pay5_apply, pay6_apply]

theorem pay52_apply (wn : Vec Ideal S256x256 .bf16) (on x : Vec Ideal S256x128 .bf16) (q2 : Vec Ideal S512x256 .bf16) (r : Fin 512) (j : Fin 256) :
    k0_pay52 k0_pay68 (k0_pay51 wn k0_pay42 (k0_pay48 (k0_pay44 on x) q2) (k0_pay49 k0_pay68 (k0_pay44 on x) q2)) (Scalar.ofBits .f32 0x00000000#32) (ix2 r j)
      = if j.val < r.val % 256 then
          Ideal.exp2 (logit on x q2 r j - sp2 (logit on x q2 r j) + (∑ i : Fin 256, masked on x q2 r i * wn (ix2 i j)))
        else 0 := by
  pointwise [k0_pay52, k0_pay51, k0_pay42, pay68_apply, pay48_apply, pay49_apply]
  try rw [select_ite]
  try simp only [add_zero]
  try rfl

theorem pay53_apply (on x : Vec Ideal S256x128 .bf16) (q2 : Vec Ideal S512x256 .bf16) (r : Fin 512) :
    k0_pay53 k0_pay42 (k0_pay50 k0_pay68 (k0_pay44 on x) q2) (ix2 r 0)
      = 0 - ∑ l : Fin 128, (masked on x q2 r ⟨l.val, by omega⟩ + masked on x q2 r ⟨128 + l.val, by omega⟩) := by
  pointwise [k0_pay53, k0_pay50, k0_pay42, pay47_apply]

theorem pay43_apply (i : Fin 256) (d : Fin 128) : (k0_pay43 (F := Ideal)) (ix2 i d) = 0 := by
  pointwise [k0_pay43]

theorem slt_64 : ∀ l : Fin 128, IntOp.cmpi .slt (BitVec.ofNat 32 l.val) 64#32 = if l.val < 64 then 1#1 else 0#1 := by decide +kernel
theorem sge_64 : ∀ l : Fin 128, IntOp.cmpi .sge (BitVec.ofNat 32 l.val) 64#32 = if 64 ≤ l.val then 1#1 else 0#1 := by decide +kernel
theorem slt_256 : ∀ l : Fin 512, IntOp.cmpi .slt (BitVec.ofNat 32 l.val) 256#32 = if l.val < 256 then 1#1 else 0#1 := by decide +kernel
theorem eq_0 : ∀ l : Fin 128, IntOp.cmpi .eq (BitVec.ofNat 32 l.val) 0#32 = if l.val = 0 then 1#1 else 0#1 := by decide +kernel
theorem eq_1 : ∀ l : Fin 128, IntOp.cmpi .eq (BitVec.ofNat 32 l.val) 1#32 = if l.val = 1 then 1#1 else 0#1 := by decide +kernel

/-- The even heads' queries above the odd heads', zeros at the lanes of the other head. -/
theorem pay41_apply (x : Vec Ideal S256x128 .bf16) (r : Fin 512) (l : Fin 128) :
    k0_pay41 (iota .tc S256x128 32 [1] iota_S256x128_d1_w32) x (ix2 r l)
      = if l.val / 64 = r.val / 256 then x (ix2 ⟨r.val % 256, Nat.mod_lt _ (by decide)⟩ l) else 0 := by
  pointwise [k0_pay41]
  rw [slt_64, sge_64]
  simp only [select_ite]
  by_cases h : r.val < 256
  · rw [dif_pos h, Nat.div_eq_of_lt h]
    simp only [Nat.mod_eq_of_lt h]
    refine if_congr (by omega) rfl rfl
  · have e : r.val % 256 = r.val - 256 := by omega
    rw [dif_neg h]
    simp only [e]
    refine if_congr (by omega) rfl rfl

/-- The bias columns: the bias, what its rounding dropped, and zeros. -/
theorem pay71_apply (a b : EReal) (r : Fin 512) (l : Fin 128) :
    k0_pay71 (F := Ideal) a b (ix2 r l)
      = if l.val = 0 then (if r.val < 256 then a else b)
        else if l.val = 1 then (if r.val < 256 then a else b) - (if r.val < 256 then a else b) else 0 := by
  pointwise [k0_pay71, slt_256, eq_0, eq_1]
  simp only [select_ite]

end Cert.AttnPay
end
-- ==== Proof.AttnClosed.lean ====
module
public import proofs.«01_k».proof.Proof.AttnPay
@[expose] public section

/-!
What a query block accumulates over all its key chunks, over the extended reals: each key's weight, from the softplus
of every key between it and the query, times its values.
-/

set_option maxRecDepth 16384
noncomputable section
namespace Cert.AttnClosed
open Cert.AttnIdeal Cert.AttnIdeal.Gen Idealize.ShloMosaic Cert.AttnMath Cert.AttnLoop Cert.AttnPay Finset

/-! Sums over a chunk. -/

theorem sum_chunk (g : Nat → EReal) (b n : Nat) : ∑ j : Fin n, g (b + j.val) = ∑ s ∈ Ico b (b + n), g s := by
  rw [Finset.sum_Ico_eq_sum_range, Nat.add_sub_cancel_left, ← Fin.sum_univ_eq_sum_range (fun i => g (b + i))]

theorem sum_halves (g : Nat → EReal) (b : Nat) :
    ∑ l : Fin 128, (g (b + l.val) + g (b + (128 + l.val))) = ∑ s ∈ Ico b (b + 256), g s := by
  rw [Finset.sum_add_distrib, sum_chunk]
  simp only [← Nat.add_assoc]
  rw [sum_chunk g (b + 128) 128, Finset.sum_Ico_consecutive _ (by omega) (by omega)]

theorem sum_later (g : Nat → EReal) (hg : ∀ s, 0 ≤ g s) (b j : Nat) (hj : j < 256) :
    ∑ i : Fin 256, g (b + i.val) * (if j < i.val then -1 else 0) = -∑ s ∈ Ico (b + j + 1) (b + 256), g s := by
  rw [← neg_sum _ _ fun s _ => hg s]
  have e : ∀ i : Fin 256, g (b + i.val) * (if j < i.val then -1 else 0) = (fun s => if b + j < s then -g s else 0) (b + i.val) := fun i => by
    show _ = if b + j < b + i.val then _ else _
    by_cases h : j < i.val
    · rw [if_pos h, if_pos (by omega)]; rw [mul_comm, EReal.neg_mul, one_mul]
    · rw [if_neg h, if_neg (by omega), mul_zero]
  rw [Finset.sum_congr rfl fun i _ => e i, sum_chunk (fun s => if b + j < s then -g s else 0) b 256]
  rw [← Finset.sum_Ico_consecutive _ (show b ≤ b + j + 1 by omega) (show b + j + 1 ≤ b + 256 by omega)]
  rw [Finset.sum_eq_zero fun s hs => if_neg (by have := Finset.mem_Ico.mp hs; omega), zero_add]
  exact Finset.sum_congr rfl fun s hs => if_pos (by have := Finset.mem_Ico.mp hs; omega)

theorem top_apply (w : Vec Ideal S512x256 .bf16) (i j : Fin 256) : top w (ix2 i j) = w (ix2 ⟨i.val, by omega⟩ j) :=
  congrArg w (funext fun a => Fin.ext (by
    match a with
    | ⟨0, _⟩ => show 0 + 1 * i.val = i.val; omega
    | ⟨1, _⟩ => show 0 + 1 * j.val = j.val; omega))

theorem bot_apply (w : Vec Ideal S512x256 .bf16) (i j : Fin 256) : bot w (ix2 i j) = w (ix2 ⟨256 + i.val, by omega⟩ j) :=
  congrArg w (funext fun a => Fin.ext (by
    match a with
    | ⟨0, _⟩ => show 256 + 1 * i.val = 256 + i.val; omega
    | ⟨1, _⟩ => show 0 + 1 * j.val = j.val; omega))

variable (wn : Vec Ideal S256x256 .bf16) (on : Vec Ideal S256x128 .bf16) (k v0 v1 : Vec Ideal S4352x128 .bf16)
  (q2 : Vec Ideal S512x256 .bf16) (n : Nat)

/-- The binary logit of a query row against key `s`. -/
def keyLogit (r : Fin 512) (s : Nat) : EReal :=
  logit on (chunk k (s / 256)) q2 r ⟨s % 256, Nat.mod_lt _ (by decide)⟩

/-- Lane `d` of the values of key `s`. -/
def value (v : Vec Ideal S4352x128 .bf16) (d : Fin 128) (s : Nat) : EReal :=
  chunk v (s / 256) (ix2 ⟨s % 256, Nat.mod_lt _ (by decide)⟩ d)

theorem keyLogit_chunk (r : Fin 512) (kb : Nat) (j : Fin 256) :
    keyLogit on k q2 r (256 * kb + j.val) = logit on (chunk k kb) q2 r j := by
  have h1 : (256 * kb + j.val) / 256 = kb := by omega
  have h2 : (256 * kb + j.val) % 256 = j.val := by omega
  unfold keyLogit
  simp only [h1, h2]

theorem value_chunk (v : Vec Ideal S4352x128 .bf16) (d : Fin 128) (kb : Nat) (j : Fin 256) :
    value v d (256 * kb + j.val) = chunk v kb (ix2 j d) := by
  have h1 : (256 * kb + j.val) / 256 = kb := by omega
  have h2 : (256 * kb + j.val) % 256 = j.val := by omega
  unfold value
  simp only [h1, h2]

/-- Query row `r` of block `n` sits at this position. -/
abbrev at_ (r : Fin 512) : Nat := 256 * n + r.val % 256

/-- The weight of key `s` for query row `r`. -/
def wt (r : Fin 512) (s : Nat) : EReal := weight2 (keyLogit on k q2 r) (256 * (n + 1)) (at_ n r) s

/-- What key `s` adds to row `i`, lane `d`: the even head's weight on its values and the odd head's on its own. -/
def term (i : Fin 256) (d : Fin 128) (s : Nat) : EReal :=
  wt on k q2 n ⟨i.val, by omega⟩ s * value v0 d s + wt on k q2 n ⟨256 + i.val, by omega⟩ s * value v1 d s

/-- After `J` chunks: the output so far, the next chunk's weights and the carry, and the logits of the one after. -/
structure Inv (J : Nat) (S : St Ideal) : Prop where
  acc : ∀ i d, S.acc (ix2 i d) = ∑ s ∈ Ico (256 * (n + 1 - J)) (256 * (n + 1)), term on k v0 v1 q2 n i d s
  w : J ≤ n → ∀ r j, S.w (ix2 r j) = wt on k q2 n r (256 * (n - J) + j.val)
  ca : J ≤ n → ∀ r, S.ca (ix2 r 0) = -∑ s ∈ Ico (256 * (n - J)) (256 * (n + 1)), taken (keyLogit on k q2 r) (at_ n r) s
  lb : J + 1 ≤ n → ∀ r j, S.lb (ix2 r j)
    = keyLogit on k q2 r (256 * (n - J - 1) + j.val) - sp2 (keyLogit on k q2 r (256 * (n - J - 1) + j.val))
  sp : J + 1 ≤ n → ∀ r j, S.sp (ix2 r j) = sp2 (keyLogit on k q2 r (256 * (n - J - 1) + j.val))
  tot : J + 1 ≤ n → ∀ r (l : Fin 128), S.tot (ix2 r l)
    = sp2 (keyLogit on k q2 r (256 * (n - J - 1) + l.val)) + sp2 (keyLogit on k q2 r (256 * (n - J - 1) + (128 + l.val)))

theorem masked_eq (r : Fin 512) (j : Fin 256) :
    masked on (chunk k n) q2 r j = taken (keyLogit on k q2 r) (at_ n r) (256 * n + j.val) := by
  unfold masked taken
  rw [keyLogit_chunk]
  exact if_congr (by unfold at_; omega) rfl rfl

theorem inv_start (hwn : ∀ i j : Fin 256, wn (ix2 i j) = if j.val < i.val then (-1 : EReal) else 0) :
    Inv on k v0 v1 q2 n 0 (start wn on k q2 n) where
  acc i d := by
    show k0_pay43 (ix2 i d) = _
    rw [pay43_apply, Nat.sub_zero, Finset.Ico_self, Finset.sum_empty]
  w _ r j := by
    show k0_pay52 _ _ _ (ix2 r j) = _
    rw [pay52_apply]
    unfold wt weight2
    rw [Nat.sub_zero, keyLogit_chunk]
    refine if_congr (by unfold at_; omega) (congrArg Ideal.exp2 (congrArg _ ?_)) rfl
    simp only [masked_eq, hwn]
    rw [sum_later _ (taken_nonneg _ _) _ _ j.isLt]
    rfl
  ca _ r := by
    show k0_pay53 _ _ (ix2 r 0) = _
    rw [pay53_apply, zero_sub]
    simp only [masked_eq]
    rw [sum_halves (taken (keyLogit on k q2 r) (at_ n r)) (256 * n)]
    rfl
  lb h r j := by
    show k0_pay57 (k0_pay56 _ _ _) (ix2 r j) = _
    rw [pay57_eq, pay7_apply, Nat.sub_zero, keyLogit_chunk]
  sp h r j := by
    show k0_pay58 (k0_pay55 _ _ _) (ix2 r j) = _
    rw [pay58_eq, pay9_apply, Nat.sub_zero, keyLogit_chunk]
  tot h r l := by
    show k0_pay59 (k0_pay55 _ _ _) (ix2 r l) = _
    rw [pay59_eq, pay10_apply, Nat.sub_zero]
    exact congrArg₂ (· + ·) (congrArg sp2 (keyLogit_chunk on k q2 r (n - 1) ⟨l.val, by omega⟩).symm)
      (congrArg sp2 (keyLogit_chunk on k q2 r (n - 1) ⟨128 + l.val, by omega⟩).symm)

theorem sp2_taken (r : Fin 512) {s : Nat} (h : s < 256 * n) :
    sp2 (keyLogit on k q2 r s) = taken (keyLogit on k q2 r) (at_ n r) s :=
  (if_pos (by unfold at_; omega)).symm

theorem inv_trip (hwn : ∀ i j : Fin 256, wn (ix2 i j) = if j.val < i.val then (-1 : EReal) else 0) {J : Nat} (hJ : J ≤ n)
    {S : St Ideal} (H : Inv on k v0 v1 q2 n J S) : Inv on k v0 v1 q2 n (J + 1) (trip wn on k v0 v1 q2 (n - J) S) where
  acc i d := by
    show k0_pay1 (top S.w) (bot S.w) _ _ S.acc (ix2 i d) = _
    rw [pay1_apply, H.acc, ← Finset.sum_add_distrib]
    have e : ∀ j : Fin 256, top S.w (ix2 i j) * chunk v0 (n - J) (ix2 j d) + bot S.w (ix2 i j) * chunk v1 (n - J) (ix2 j d)
        = term on k v0 v1 q2 n i d (256 * (n - J) + j.val) := fun j => by
      rw [top_apply, bot_apply, H.w hJ, H.w hJ, ← value_chunk, ← value_chunk]
      rfl
    rw [Finset.sum_congr rfl fun j _ => e j, sum_chunk (term on k v0 v1 q2 n i d), add_comm]
    have h1 : 256 * (n + 1 - J) = 256 * (n - J) + 256 := by omega
    have h2 : n + 1 - (J + 1) = n - J := by omega
    rw [h1, h2]
    exact Finset.sum_Ico_consecutive _ (by omega) (by omega)
  w h r j := by
    have hn : n - J - 1 = n - (J + 1) := by omega
    show k0_pay3 (k0_pay2 wn S.ca S.lb S.sp) (ix2 r j) = _
    rw [pay3_apply, H.lb h, H.ca hJ]
    have e : ∀ i : Fin 256, S.sp (ix2 r i) * wn (ix2 i j)
        = taken (keyLogit on k q2 r) (at_ n r) (256 * (n - J - 1) + i.val) * (if j.val < i.val then -1 else 0) := fun i => by
      rw [H.sp h, hwn, sp2_taken on k q2 n r (by omega)]
    rw [Finset.sum_congr rfl fun i _ => e i, sum_later _ (taken_nonneg _ _) _ _ j.isLt, hn]
    unfold wt weight2
    rw [if_pos (by unfold at_; omega)]
    refine congrArg Ideal.exp2 ?_
    rw [add_assoc, neg_add_neg (Finset.sum_nonneg fun _ _ => taken_nonneg _ _ _) (Finset.sum_nonneg fun _ _ => taken_nonneg _ _ _)]
    refine congrArg _ (congrArg _ ?_)
    have h1 : 256 * (n - J) = 256 * (n - (J + 1)) + 256 := by omega
    rw [h1]
    exact Finset.sum_Ico_consecutive _ (by omega) (by omega)
  ca h r := by
    have hn : n - J - 1 = n - (J + 1) := by omega
    show k0_pay4 S.ca S.tot (ix2 r 0) = _
    rw [pay4_apply, H.ca hJ]
    have e : ∀ l : Fin 128, S.tot (ix2 r l) = taken (keyLogit on k q2 r) (at_ n r) (256 * (n - (J + 1)) + l.val)
        + taken (keyLogit on k q2 r) (at_ n r) (256 * (n - (J + 1)) + (128 + l.val)) := fun l => by
      rw [H.tot h, hn, sp2_taken on k q2 n r (by omega), sp2_taken on k q2 n r (by omega)]
    rw [Finset.sum_congr rfl fun l _ => e l, sum_halves (taken (keyLogit on k q2 r) (at_ n r)), sub_eq_add_neg,
      neg_add_neg (Finset.sum_nonneg fun _ _ => taken_nonneg _ _ _) (Finset.sum_nonneg fun _ _ => taken_nonneg _ _ _), add_comm]
    refine congrArg _ ?_
    have h1 : 256 * (n - J) = 256 * (n - (J + 1)) + 256 := by omega
    rw [h1]
    exact Finset.sum_Ico_consecutive _ (by omega) (by omega)
  lb h r j := by
    have hn : n - J - 2 = n - (J + 1) - 1 := by omega
    show k0_pay7 _ _ _ (ix2 r j) = _
    rw [pay7_apply, keyLogit_chunk, hn]
  sp h r j := by
    have hn : n - J - 2 = n - (J + 1) - 1 := by omega
    show k0_pay9 (k0_pay8 _ _ _) (ix2 r j) = _
    rw [pay9_apply, keyLogit_chunk, hn]
  tot h r l := by
    have hn : n - J - 2 = n - (J + 1) - 1 := by omega
    show k0_pay10 (k0_pay6 _ _ _) (ix2 r l) = _
    rw [pay10_apply, hn]
    exact congrArg₂ (· + ·) (congrArg sp2 (keyLogit_chunk on k q2 r _ ⟨l.val, by omega⟩).symm)
      (congrArg sp2 (keyLogit_chunk on k q2 r _ ⟨128 + l.val, by omega⟩).symm)

theorem inv_run (hwn : ∀ i j : Fin 256, wn (ix2 i j) = if j.val < i.val then (-1 : EReal) else 0) :
    ∀ J, J ≤ n + 1 → Inv on k v0 v1 q2 n J (run wn on k v0 v1 q2 n J (start wn on k q2 n))
  | 0, _ => inv_start wn on k v0 v1 q2 n hwn
  | J + 1, h => inv_trip wn on k v0 v1 q2 n hwn (by omega) (inv_run hwn J (by omega))

/-- What a query block accumulates: every key up to its last, weighted. -/
theorem acc_eq (hwn : ∀ i j : Fin 256, wn (ix2 i j) = if j.val < i.val then (-1 : EReal) else 0) (i : Fin 256) (d : Fin 128) :
    (run wn on k v0 v1 q2 n (n + 1) (start wn on k q2 n)).acc (ix2 i d)
      = ∑ s ∈ range (256 * (n + 1)), term on k v0 v1 q2 n i d s := by
  rw [(inv_run wn on k v0 v1 q2 n hwn (n + 1) (le_refl _)).acc, Nat.sub_self, Finset.range_eq_Ico]

end Cert.AttnClosed
end
-- ==== Proof.AttnBody.lean ====
module

public import proofs.«01_k».proof.Proof.AttnLoop

@[expose] public section

set_option maxRecDepth 16384

noncomputable section

namespace Cert.AttnLoop

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The two bias columns of head pair `i`. -/
def biasCols (i : grid0.Coords) (x0 : Vec F S16 .f32) : Vec F S512x128 .bf16 :=
  k0_pay71 (View.ld x0 (Rect.unit (k0_off1 i) S1.size (k0_off1_inb i)) (Shape.Idx.first (Nat.lt_of_lt_of_eq Nat.zero_lt_one numel1_S1.symm)))
    (View.ld x0 (Rect.unit (k0_off2 i) S1.size (k0_off2_inb i)) (Shape.Idx.first (Nat.lt_of_lt_of_eq Nat.zero_lt_one numel1_S1.symm)))

/-- The rows of query block `n`, for head pair `i`, from the blocks of the inputs. -/
def blockOut (i : grid0.Coords) (x0 : Vec F S16 .f32) (x1 x2 x3 x4 : Vec F S4352x128 .bf16) (x5 : Vec F S256x256 .bf16)
    (x6 : Vec F S256x128 .bf16) (n : ℕ) : Vec F S256x128 .bf16 :=
  k0_pay73 (final (iota .tc S256x128 32 [1] iota_S256x128_d1_w32) (k0_pay69 x5) (k0_pay70 x6) (biasCols i x0) x1 x2 x3 x4 n).acc

/-- The output block, every row from its query block. -/
def attnOut (i : grid0.Coords) (x0 : Vec F S16 .f32) (x1 x2 x3 x4 : Vec F S4352x128 .bf16) (x5 : Vec F S256x256 .bf16)
    (x6 : Vec F S256x128 .bf16) : Vec F S4352x128 .bf16 := fun y =>
  blockOut i x0 x1 x2 x3 x4 x5 x6 ((y 0).val / 256) (ix2 ⟨(y 0).val % 256, Nat.mod_lt _ (by decide)⟩ (y 1))

section Body

variable (c : Dev nD) (i : grid0.Coords)
  (arg2 : Memref sig .tc .smem S16 .f32) (harg2 : arg2.IsWhole) (arg3 : Memref sig .tc .vmem S4352x128 .bf16) (harg3 : arg3.IsWhole)
  (arg4 : Memref sig .tc .vmem S4352x128 .bf16) (harg4 : arg4.IsWhole) (arg5 : Memref sig .tc .vmem S4352x128 .bf16) (harg5 : arg5.IsWhole)
  (arg6 : Memref sig .tc .vmem S4352x128 .bf16) (harg6 : arg6.IsWhole) (arg7 : Memref sig .tc .vmem S256x256 .bf16) (harg7 : arg7.IsWhole)
  (arg8 : Memref sig .tc .vmem S256x128 .bf16) (harg8 : arg8.IsWhole) (arg9 : Memref sig .tc .vmem S4352x128 .bf16) (harg9 : arg9.IsWhole)
  (arg10 : Memref sig .tc .vmem S512x256 .bf16) (harg10 : arg10.IsWhole) (arg11 : Memref sig .tc .vmem S512x256 .f32) (harg11 : arg11.IsWhole)
  (arg12 : Memref sig .tc .vmem S512x256 .bf16) (harg12 : arg12.IsWhole) (arg13 : Memref sig .tc .vmem S512x128 .f32) (harg13 : arg13.IsWhole)
  (arg14 : Memref sig .tc .vmem S512x256 .bf16) (harg14 : arg14.IsWhole) (arg15 : Memref sig .tc .vmem S512x1 .f32) (harg15 : arg15.IsWhole)
  (arg16 : Memref sig .tc .vmem S256x128 .f32) (harg16 : arg16.IsWhole)

set_option maxHeartbeats 1000000 in
/-- The kernel body: the inputs' blocks stay, the output block is written whole, the scratch ends at something. -/
theorem body_wp (x0 : Vec F S16 .f32) (x1 x2 x3 x4 : Vec F S4352x128 .bf16) (x5 : Vec F S256x256 .bf16) (x6 : Vec F S256x128 .bf16)
    (d : Vec F S4352x128 .bf16) (a : Vec F S512x256 .bf16) (s : St F) :
    iprop((scr c arg11 arg12 arg13 arg14 arg15 arg16 s ∗ owns (c : Thread nD τ) arg10 fullShare a)
        ∗ owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare d)
      ⊢ wp frame (wpE (defs₀ (F := F)) Variants.none (c : Thread nD τ) none) Set.univ
        (cc0_attn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(((∃ s, scr c arg11 arg12 arg13 arg14 arg15 arg16 s) ∗ (∃ a, owns (c : Thread nD τ) arg10 fullShare a))
        ∗ owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare (attnOut i x0 x1 x2 x3 x4 x5 x6))) := by
  conv_lhs => unfold scr owns
  unfold cc0_attn_prompt
  simp only [k0_part15_eq_skeleton]
  iintro ⟨⟨⟨⟨%f11, %h11, H11⟩, ⟨%f12, %h12, H12⟩, ⟨%f13, %h13, H13⟩, ⟨%f14, %h14, H14⟩, ⟨%f15, %h15, H15⟩, ⟨%f16, %h16, H16⟩⟩, ⟨%f10, %h10, H10⟩⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩
  sl_exec
  sl_for (fun j _ => blk c arg3 arg4 arg5 arg6 arg9 arg10 arg11 arg12 arg13 arg14 arg15 arg16 (biasCols i x0) x1 x2 x3 x4
    (outUpto (blockOut i x0 x1 x2 x3 x4 x5 x6) d j)) $$ [H11 H12 H13 H14 H15 H16 H10 H3 H4 H5 H6 H9]
  case region =>
    intro j u
    sl_unfold_run_names
    simp only [View.readAt_eq_ld, ld_whole, h7, h8]
    exact block_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 j (iota .tc S256x128 32 [1] iota_S256x128_d1_w32) x5 x6 (biasCols i x0) x1 x2 x3 x4 _ u
  · unfold blk scr ro
    isplitl [H11 H12 H13 H14 H15 H16]
    · iexists s
      isplitl [H11]
      · iapply (own_read c arg11 _ _ h11); iexact H11
      isplitl [H12]
      · iapply (own_read c arg12 _ _ h12); iexact H12
      isplitl [H13]
      · iapply (own_read c arg13 _ _ h13); iexact H13
      isplitl [H14]
      · iapply (own_read c arg14 _ _ h14); iexact H14
      isplitl [H15]
      · iapply (own_read c arg15 _ _ h15); iexact H15
      iapply (own_read c arg16 _ _ h16); iexact H16
    isplitl [H4 H5 H6 H10]
    · iexists (fun y => a (ix2 (y 0) ⟨(y 1).val, by have := (y 1).isLt; change _ < 128 at this; omega⟩))
      isplitl [H4]
      · iapply (own_read c arg4 _ _ h4); iexact H4
      isplitl [H5]
      · iapply (own_read c arg5 _ _ h5); iexact H5
      isplitl [H6]
      · iapply (own_read c arg6 _ _ h6); iexact H6
      iapply (own_read c arg10 _ _ ?_)
      rotate_left
      · iexact H10
      sl_unfold_run_names
      simp only [View.readAt_eq_ld, View.read_writes_cons_put, View.writes_nil, h10, h2]
      exact put_bias a (biasCols i x0)
    isplitl [H3]
    · iapply (own_read c arg3 _ _ h3); iexact H3
    iapply (own_read c arg9 _ _ h9); iexact H9
  iintro %w HI
  conv_lhs => unfold blk ro
  icases HI with ⟨HS, ⟨%a', ⟨H4, H5, H6, H10⟩⟩, H3, H9⟩
  sl_exec
  sl_step
  isplitl [HS H10]
  · isplitl [HS]; · iexact HS
    iexists _; iexact H10
  isplitl [H2]
  · iapply (own_read c arg2 _ _ h2); iexact H2
  isplitl [H3]; · iexact H3
  isplitl [H4]; · iexact H4
  isplitl [H5]; · iexact H5
  isplitl [H6]; · iexact H6
  isplitl [H7]
  · iapply (own_read c arg7 _ _ h7); iexact H7
  isplitl [H8]
  · iapply (own_read c arg8 _ _ h8); iexact H8
  have e : outUpto (blockOut i x0 x1 x2 x3 x4 x5 x6) d (Scf.trips k0_t1_loop.lb k0_t1_loop.ub k0_t1_loop.st) = attnOut i x0 x1 x2 x3 x4 x5 x6 := by
    rw [show Scf.trips k0_t1_loop.lb k0_t1_loop.ub k0_t1_loop.st = 17 from trips1]
    funext y
    exact outUpto_apply _ _ 17 le_rfl y (by have := (y 0).isLt; change _ < 4352 at this; omega)
  rw [e]
  iexact H9

end Body

end Cert.AttnLoop

end
-- ==== Proof.AttnSpec.lean ====
module
public import proofs.«01_k».proof.Proof.AttnMath
@[expose] public section

/-!
What the attention computes, over the extended reals: of queries, keys, values by batch, position, head and feature, and
of one bias per head.
-/

noncomputable section
namespace Cert.AttnSpec
open Idealize.ShloMosaic Finset Cert.AttnMath

/-- Queries, keys or values. -/
abbrev Rows := (⟨4, ![4, 4352, 16, 64]⟩ : Shape).Idx → EReal

/-- The biases. -/
abbrev Bias := (⟨1, ![16]⟩ : Shape).Idx → EReal

/-- The logit of a query against the key at position `s` (read around the end, so that it is total). -/
def logit (q k : Rows) (b : Bias) (n : Fin 4) (h : Fin 16) (t : Fin 4352) (s : Nat) : EReal :=
  (∑ d : Fin 64, q (ix4 n t h d) * k (ix4 n ⟨s % 4352, Nat.mod_lt _ (by decide)⟩ h d)) * Ideal.ofBits .f32 0x3E000000#32
    + b (ix1 h)

/-- The attention: the values, each under its stick-breaking weight. -/
def out (q k v : Rows) (b : Bias) (n : Fin 4) (t : Fin 4352) (h : Fin 16) (d : Fin 64) : EReal :=
  ∑ s : Fin 4352, weight (logit q k b n h t) 4352 t.val s.val * v (ix4 n s h d)

end Cert.AttnSpec
end
-- ==== Proof.AttnPoint.lean ====
module
public import proofs.«01_k».proof.Proof.AttnClosed
public import proofs.«01_k».proof.Proof.AttnBody
public import proofs.«01_k».proof.Proof.AttnSpec
public import Idealize.ShloMosaic.Lib.FinSumWindow
@[expose] public section

/-! What one grid point of the attention writes: the attention of its batch and its pair of heads. -/

set_option maxRecDepth 16384
noncomputable section
namespace Cert.AttnPoint
open Cert.AttnIdeal Cert.AttnIdeal.Gen Idealize.ShloMosaic Finset Cert.AttnMath Cert.AttnPay Cert.AttnLoop Cert.AttnClosed Cert.AttnSpec

theorem eighth_f32 : Ideal.ofBits .f32 0x3E000000#32 = ((1 / 8 : ℝ) : EReal) := by
  simp [Ideal.ofBits, Ideal.ieee]; rw [← EReal.coe_mul]; norm_num

/-- A product with queries scaled beforehand is the scaled product. -/
theorem scaled_product (q k : Fin 64 → EReal) :
    ∑ d, q d * Ideal.ofBits .f32 0x3E000000#32 * c2 * k d = (∑ d, q d * k d) * Ideal.ofBits .f32 0x3E000000#32 * c2 := by
  rw [eighth_f32, sum_mul_coe _ _ (by norm_num : (0 : ℝ) ≤ 1 / 8), sum_mul_coe _ _ c2_pos.le]
  refine Finset.sum_congr rfl fun d _ => ?_
  rw [mul_right_comm _ c2, mul_right_comm (q d)]

/-- Binary logits built from scaled queries, the scaled bias and what its rounding dropped. -/
theorem scaled_logits (b : EReal) (S : Nat → EReal) {z z2 : Nat → EReal} (hz : ∀ s, z s = S s + b)
    (hz2 : ∀ s, z2 s = S s * c2 + (b * c2 + (b * c2 - b * c2))) : Scaled z z2 := by
  have hb : b = ⊥ ∨ (∃ r : ℝ, b = r) ∨ b = ⊤ := by
    induction b with
    | bot => exact Or.inl rfl
    | top => exact Or.inr (Or.inr rfl)
    | coe r => exact Or.inr (Or.inl ⟨r, rfl⟩)
  rcases hb with rfl | ⟨r, rfl⟩ | rfl
  · refine Or.inr fun s => ⟨?_, Or.inr ?_⟩
    · rw [hz2, EReal.bot_mul_coe_of_pos c2_pos, EReal.bot_add, EReal.add_bot]
    · rw [hz, EReal.add_bot]
  · refine Or.inl fun s => ?_
    have h0 : (r : EReal) * c2 - r * c2 = 0 := by
      rw [← EReal.coe_mul, ← EReal.coe_sub, sub_self, EReal.coe_zero]
    rw [hz2, hz, h0, add_zero, add_mul_c2]
  · refine Or.inr fun s => ⟨?_, ?_⟩
    · rw [hz2, EReal.top_mul_coe_of_pos c2_pos, show (⊤ : EReal) - ⊤ = ⊥ from rfl, EReal.add_bot, EReal.add_bot]
    · rw [hz]
      by_cases h : S s = ⊥
      · rw [h, EReal.bot_add]; exact Or.inr rfl
      · exact Or.inl (EReal.add_top_of_ne_bot h)

theorem sum_lanes (f : Fin 128 → EReal) (e : Fin 2) (hf : ∀ l : Fin 128, l.val / 64 ≠ e.val → f l = 0) :
    ∑ l, f l = ∑ d : Fin 64, f ⟨e.val * 64 + d.val, by omega⟩ := by
  refine (FinSumWindow.sum_window (W := 64) (e.val * 64) (by omega) f fun l hl => hf l ?_)
  omega

theorem sum_bias (a d : EReal) (f : Fin 128 → EReal) (hf : ∀ l : Fin 128, f l = if l.val = 0 then a else if l.val = 1 then d else 0)
    (g : Fin 128 → EReal) (hg : ∀ l : Fin 128, g l = if l.val < 2 then 1 else 0) : ∑ l, f l * g l = a + d := by
  rw [FinSumWindow.sum_window (W := 2) 0 (by omega) (fun l => f l * g l) fun l hl => by
    rw [hg, if_neg (by omega), mul_zero], Fin.sum_univ_two, hf, hf, hg, hg]
  simp

section
variable (x0 : Vec Ideal S16 .f32) (x1 x2 x3 x4 : Vec Ideal S4352x128 .bf16) (x5 : Vec Ideal S256x256 .bf16)
  (x6 : Vec Ideal S256x128 .bf16)

theorem chunk_apply (x : Vec Ideal S4352x128 .bf16) (n : Nat) (j : Fin 256) (l : Fin 128) :
    chunk x n (ix2 j l) = x (ix2 ⟨256 * (n % 17) + j.val, by omega⟩ l) :=
  congrArg x (funext fun a => Fin.ext (by
    match a with
    | ⟨0, _⟩ => show 256 * (n % 17) + 1 * j.val = 256 * (n % 17) + j.val; omega
    | ⟨1, _⟩ => show 0 + 1 * l.val = l.val; omega))

/-- The chunks laid end to end are the block. -/
theorem chunk_at (x : Vec Ideal S4352x128 .bf16) (s : Nat) (l : Fin 128) :
    chunk x (s / 256) (ix2 ⟨s % 256, Nat.mod_lt _ (by decide)⟩ l) = x (ix2 ⟨s % 4352, Nat.mod_lt _ (by decide)⟩ l) := by
  rw [chunk_apply]
  exact congrArg (fun r => x (ix2 r l)) (Fin.ext (by dsimp only; omega))

theorem q2of_left (a b : Vec Ideal S512x128 .bf16) (r : Fin 512) (l : Fin 128) :
    q2of a b (ix2 r ⟨l.val, by omega⟩) = a (ix2 r l) := dif_pos l.isLt

theorem q2of_right (a b : Vec Ideal S512x128 .bf16) (r : Fin 512) (l : Fin 128) :
    q2of a b (ix2 r ⟨128 + l.val, by omega⟩) = b (ix2 r l) := by
  refine (dif_neg (show ¬ 128 + l.val < 128 by omega)).trans ?_
  exact congrArg (fun l => b (ix2 r l)) (Fin.ext (Nat.add_sub_cancel_left _ _))

/-- The stacked queries: a row holds the query at the lanes of its own head. -/
theorem query_apply (t : Fin 4352) (e : Fin 2) (l : Fin 128) :
    k0_pay41 (iota .tc S256x128 32 [1] iota_S256x128_d1_w32) (chunk x1 (t.val / 256)) (ix2 ⟨256 * e.val + t.val % 256, by omega⟩ l)
      = if l.val / 64 = e.val then x1 (ix2 t l) else 0 := by
  have ht := t.isLt
  rw [pay41_apply, chunk_apply]
  refine if_congr (by dsimp only; omega) (congrArg (fun r => x1 (ix2 r l)) (Fin.ext (by dsimp only; omega))) rfl

theorem pay69_eq : k0_pay69 x5 = x5 := by
  funext y; rw [eq_ix2 y]; pointwise [k0_pay69]
theorem pay70_eq : k0_pay70 x6 = x6 := by
  funext y; rw [eq_ix2 y]; pointwise [k0_pay70]
theorem pay73_eq (x : Vec Ideal S256x128 .f32) (i : Fin 256) (d : Fin 128) : k0_pay73 x (ix2 i d) = x (ix2 i d) := by
  pointwise [k0_pay73]

/-- The two scalars of the bias columns are the biases of the two heads. -/
theorem biasCols_apply (i : grid0.Coords) (p : Fin 8) (ho1 : k0_off1 i = ![2 * p.val]) (ho2 : k0_off2 i = ![2 * p.val + 1])
    (e : Fin 2) (t : Fin 256) (l : Fin 128) :
    biasCols i x0 (ix2 ⟨256 * e.val + t.val, by omega⟩ l)
      = if l.val = 0 then x0 (ix1 ⟨2 * p.val + e.val, by omega⟩)
        else if l.val = 1 then x0 (ix1 ⟨2 * p.val + e.val, by omega⟩) - x0 (ix1 ⟨2 * p.val + e.val, by omega⟩) else (0 : EReal) := by
  have ld : ∀ (off : Fin 1 → Nat) (h : Nat) (hh : h < 16) (_ : off = ![h]) (hi) (f),
      View.ld x0 (Rect.unit (s := S16) off S1.size hi) f = x0 (ix1 ⟨h, hh⟩) := fun off h hh ho hi f => by
    subst ho
    refine congrArg x0 (funext fun a => Fin.ext ?_)
    match a with
    | ⟨0, _⟩ =>
      have := (f 0).isLt
      change _ < 1 at this
      show h + 1 * (f 0).val = h
      omega
  unfold biasCols
  rw [pay71_apply, ld _ (2 * p.val) (by omega) ho1, ld _ (2 * p.val + 1) (by omega) ho2]
  match e with
  | ⟨0, _⟩ =>
    have h : 256 * 0 + t.val < 256 := by omega
    simp only [if_pos h]
    rfl
  | ⟨1, _⟩ =>
    have h : ¬ 256 * 1 + t.val < 256 := by omega
    simp only [if_neg h]

end

/-- The block a grid point writes, from the blocks it reads: the attention of batch `n` and heads `2 p`, `2 p + 1`. -/
theorem attnOut_apply (x0 : Vec Ideal S16 .f32) (x1 x2 x3 x4 : Vec Ideal S4352x128 .bf16) (x5 : Vec Ideal S256x256 .bf16)
    (x6 : Vec Ideal S256x128 .bf16) (i : grid0.Coords) (q k v : Rows) (b : Bias) (n : Fin 4) (p : Fin 8)
    (ho1 : k0_off1 i = ![2 * p.val]) (ho2 : k0_off2 i = ![2 * p.val + 1])
    (h0 : ∀ h, x0 (ix1 h) = b (ix1 h) * c2)
    (h1 : ∀ t (e : Fin 2) (d : Fin 64), x1 (ix2 t ⟨e.val * 64 + d.val, by omega⟩)
      = q (ix4 n t ⟨2 * p.val + e.val, by omega⟩ d) * Ideal.ofBits .f32 0x3E000000#32 * c2)
    (h2 : ∀ t (e : Fin 2) (d : Fin 64), x2 (ix2 t ⟨e.val * 64 + d.val, by omega⟩) = k (ix4 n t ⟨2 * p.val + e.val, by omega⟩ d))
    (h3 : ∀ t (e : Fin 2) (d : Fin 64), x3 (ix2 t ⟨e.val * 64 + d.val, by omega⟩)
      = if e.val = 0 then v (ix4 n t ⟨2 * p.val + e.val, by omega⟩ d) else 0)
    (h4 : ∀ t (e : Fin 2) (d : Fin 64), x4 (ix2 t ⟨e.val * 64 + d.val, by omega⟩)
      = if e.val = 0 then 0 else v (ix4 n t ⟨2 * p.val + e.val, by omega⟩ d))
    (h5 : ∀ i j : Fin 256, x5 (ix2 i j) = if j.val < i.val then (-1 : EReal) else 0)
    (h6 : ∀ (i : Fin 256) (j : Fin 128), x6 (ix2 i j) = if j.val < 2 then (1 : EReal) else 0)
    (t : Fin 4352) (e : Fin 2) (d : Fin 64) :
    attnOut i x0 x1 x2 x3 x4 x5 x6 (ix2 t ⟨e.val * 64 + d.val, by omega⟩)
      = AttnSpec.out q k v b n t ⟨2 * p.val + e.val, by omega⟩ d := by
  have ht := t.isLt
  show blockOut i x0 x1 x2 x3 x4 x5 x6 (t.val / 256) (ix2 ⟨t.val % 256, Nat.mod_lt _ (by decide)⟩ ⟨e.val * 64 + d.val, by omega⟩) = _
  unfold blockOut final
  rw [pay73_eq, pay69_eq, pay70_eq, acc_eq _ _ _ _ _ _ _ h5]
  -- the logits of this row
  generalize hq2 : q2of (k0_pay41 (iota .tc S256x128 32 [1] iota_S256x128_d1_w32) (chunk x1 (t.val / 256))) (biasCols i x0) = q2
  have ql : ∀ l : Fin 128, q2 (ix2 ⟨256 * e.val + t.val % 256, by omega⟩ ⟨l.val, by omega⟩)
      = if l.val / 64 = e.val then x1 (ix2 t l) else 0 := fun l => by
    rw [← hq2, q2of_left, query_apply]
  have qr : ∀ l : Fin 128, q2 (ix2 ⟨256 * e.val + t.val % 256, by omega⟩ ⟨128 + l.val, by omega⟩)
      = if l.val = 0 then b (ix1 ⟨2 * p.val + e.val, by omega⟩) * c2
        else if l.val = 1 then b (ix1 ⟨2 * p.val + e.val, by omega⟩) * c2 - b (ix1 ⟨2 * p.val + e.val, by omega⟩) * c2 else (0 : EReal) := fun l => by
    rw [← hq2, q2of_right, biasCols_apply x0 i p ho1 ho2 e ⟨t.val % 256, Nat.mod_lt _ (by decide)⟩ l, h0]
  have hz : Scaled (AttnSpec.logit q k b n ⟨2 * p.val + e.val, by omega⟩ t)
      (keyLogit x6 x2 q2 ⟨256 * e.val + t.val % 256, by omega⟩) := by
    refine scaled_logits (b (ix1 ⟨2 * p.val + e.val, by omega⟩)) (fun s => (∑ d : Fin 64, q (ix4 n t ⟨2 * p.val + e.val, by omega⟩ d)
      * k (ix4 n ⟨s % 4352, Nat.mod_lt _ (by decide)⟩ ⟨2 * p.val + e.val, by omega⟩ d)) * Ideal.ofBits .f32 0x3E000000#32) (fun s => rfl) fun s => ?_
    unfold keyLogit AttnPay.logit
    refine congrArg₂ (· + ·) ?_ ?_
    · rw [← scaled_product]
      refine (sum_lanes _ e fun l hl => ?_).trans (Finset.sum_congr rfl fun d _ => ?_)
      · rw [ql, if_neg hl, zero_mul]
      · rw [chunk_at, h2]
        refine congrArg (fun x : EReal => x * k _) ((ql _).trans ?_)
        rw [if_pos (by dsimp only; omega), h1]
    · exact sum_bias _ _ _ qr _ fun l => h6 _ l
  -- the terms
  have hw : ∀ s, wt x6 x2 q2 (t.val / 256) ⟨256 * e.val + t.val % 256, by omega⟩ s
      = weight (AttnSpec.logit q k b n ⟨2 * p.val + e.val, by omega⟩ t) 4352 t.val s := fun s => by
    have e1 : at_ (t.val / 256) ⟨256 * e.val + t.val % 256, by omega⟩ = t.val := by unfold at_; dsimp only; omega
    unfold wt
    rw [e1]
    exact weight2_eq hz (by omega) (by omega)
  have hterm : ∀ s, term x6 x2 x3 x4 q2 (t.val / 256) ⟨t.val % 256, Nat.mod_lt _ (by decide)⟩ ⟨e.val * 64 + d.val, by omega⟩ s
      = weight (AttnSpec.logit q k b n ⟨2 * p.val + e.val, by omega⟩ t) 4352 t.val s
        * v (ix4 n ⟨s % 4352, Nat.mod_lt _ (by decide)⟩ ⟨2 * p.val + e.val, by omega⟩ d) := fun s => by
    rw [← hw]
    unfold term value
    rw [chunk_at, chunk_at, h3, h4]
    match e with
    | ⟨0, _⟩ =>
      rw [if_pos rfl, if_pos rfl, mul_zero, add_zero]
      refine congrArg (fun r => wt x6 x2 q2 (t.val / 256) r s * _) (Fin.ext ?_)
      dsimp only; omega
    | ⟨1, _⟩ =>
      rw [if_neg Nat.one_ne_zero, if_neg Nat.one_ne_zero, mul_zero, zero_add]
      rfl
  rw [Finset.sum_congr rfl fun s _ => hterm s]
  unfold AttnSpec.out
  have e2 : ∀ s : Fin 4352, v (ix4 n s ⟨2 * p.val + e.val, by omega⟩ d)
      = v (ix4 n ⟨s.val % 4352, Nat.mod_lt _ (by decide)⟩ ⟨2 * p.val + e.val, by omega⟩ d) := fun s => by
    simp only [Nat.mod_eq_of_lt s.isLt]
  rw [Finset.sum_congr rfl fun s _ => congrArg (fun x : EReal => weight (AttnSpec.logit q k b n ⟨2 * p.val + e.val, by omega⟩ t) 4352 t.val s.val * x) (e2 s),
    Fin.sum_univ_eq_sum_range (fun s => weight (AttnSpec.logit q k b n ⟨2 * p.val + e.val, by omega⟩ t) 4352 t.val s
      * v (ix4 n ⟨s % 4352, Nat.mod_lt _ (by decide)⟩ ⟨2 * p.val + e.val, by omega⟩ d)) 4352]
  refine Finset.sum_subset (Finset.range_subset_range.mpr (by omega)) fun s _ hs => ?_
  rw [Finset.mem_range] at hs
  unfold weight
  rw [if_neg (by omega), zero_mul]

end Cert.AttnPoint
end
-- ==== Proof.AttnRun.lean ====
module

public import proofs.«01_k».proof.Proof.AttnBody
public import Idealize.ShloMosaic.Lib.Claim

@[expose] public section

set_option maxRecDepth 16384

noncomputable section

namespace Cert.AttnLoop

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Rounds
open Idealize.ShloMosaic.Pipeline (Dat Cfg Window BodyObligation cellOf)

variable (m : (ℓ : Loc nD τ sig) → Buf (Elt F) ℓ) (ρ : Dev nD → PrngReg)

local notation "𝕄" => MT nD τ sig Unit (Elt F) ℕ (UR sig nD τ) ℕ

/-- The output block of point `t`, from the blocks of the inputs there. -/
def outAt (c : Dev nD) (t : Fin cfg0.N) : Vec F S4352x128 .bf16 :=
  attnOut (grid0.coords t) (iblk m c 0 t) (iblk m c 1 t) (iblk m c 2 t) (iblk m c 3 t) (iblk m c 4 t) (iblk m c 5 t) (iblk m c 6 t)

/-- The pipeline's proof data: every input's buffer holds its block, the output's what the body leaves; the scratch is at
    anything between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body finds at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The scratch buffers at anything, as the body's triple names them. -/
theorem scratch_eq (c : Dev nD) :
    (Pipeline.scopedRest (Ix := Unit) (Name := ℕ) (U := UR sig nD τ) (Lvl := ℕ) (Val := Elt F) spec0 c : sProp 𝕄)
      ⊢ iprop(∃ a s, scr c (Memref.whole cc0_scratch1) (Memref.whole cc0_scratch2) (Memref.whole cc0_scratch3) (Memref.whole cc0_scratch4) (Memref.whole cc0_scratch5) (Memref.whole cc0_scratch6) s
        ∗ owns (c : Thread nD τ) (Memref.whole cc0_scratch0) fullShare a) := by
  rw [scopedRest0_eq]
  unfold scr
  simp only [owns_whole_eq]
  iintro ⟨⟨%f0, H0⟩, ⟨%f1, H1⟩, ⟨%f2, H2⟩, ⟨%f3, H3⟩, ⟨%f4, H4⟩, ⟨%f5, H5⟩, ⟨%f6, H6⟩⟩
  iexists f0, (⟨f1, f2, f3, f4, f5, f6⟩ : St F)
  isplitr [H0]
  · isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    iexists f6; isplitr; · ipureintro; rfl
    iexact H6
  iexists f0; isplitr; · ipureintro; rfl
  iexact H0

theorem scratch_back (c : Dev nD) (a : Vec F S512x256 .bf16) (s : St F) :
    iprop(scr c (Memref.whole cc0_scratch1) (Memref.whole cc0_scratch2) (Memref.whole cc0_scratch3) (Memref.whole cc0_scratch4) (Memref.whole cc0_scratch5) (Memref.whole cc0_scratch6) s
        ∗ owns (c : Thread nD τ) (Memref.whole cc0_scratch0) fullShare a)
      ⊢ (Pipeline.scopedRest (Ix := Unit) (Name := ℕ) (U := UR sig nD τ) (Lvl := ℕ) (Val := Elt F) spec0 c : sProp 𝕄) := by
  rw [scopedRest0_eq]
  unfold scr
  simp only [owns_whole_eq]
  iintro ⟨⟨⟨%f1, -, H1⟩, ⟨%f2, -, H2⟩, ⟨%f3, -, H3⟩, ⟨%f4, -, H4⟩, ⟨%f5, -, H5⟩, ⟨%f6, -, H6⟩⟩, ⟨%f0, -, H0⟩⟩
  isplitl [H0]; · iexists f0; iexact H0
  isplitl [H1]; · iexists f1; iexact H1
  isplitl [H2]; · iexists f2; iexact H2
  isplitl [H3]; · iexists f3; iexact H3
  isplitl [H4]; · iexists f4; iexact H4
  isplitl [H5]; · iexists f5; iexact H5
  iexists f6; iexact H6

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, show (dats m 0 c).Φ t.castSucc = Pipeline.ΦA spec0 c from rfl]
  unfold Pipeline.ΦA
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HS := (scratch_eq c) $$ HS
  icases HS with ⟨%a, %s, HS, HA⟩
  iapply (wp_wand_r _ _ _)
  isplitl [HS HA H0 H1 H2 H3 H4 H5 H6 H7]
  · iapply (body_wp c (grid0.coords t) _ _ _ _ _ _ _ _ _ _ _ _ _ _ _ _ _ _ _ _ _ _ _ _ _ _ _ _ _ _
      (iblk m c 0 t) (iblk m c 1 t) (iblk m c 2 t) (iblk m c 3 t) (iblk m c 4 t) (iblk m c 5 t) (iblk m c 6 t) ((dats m 0 c).before 7 t d7) a s)
    isplitl [HS HA]
    · isplitl [HS]; · iexact HS
      iexact HA
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro %u ⟨⟨⟨%s', HS⟩, ⟨%a', HA⟩⟩, H0, H1, H2, H3, H4, H5, H6, H7⟩
  isplitl [HS HA HR]
  · isplitl [HS HA]
    · iapply (scratch_back c a' s')
      isplitl [HS]; · iexact HS
      iexact HA
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run terminates, with every array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame_attn : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.AttnLoop

end
-- ==== Proof.AttnHost.lean ====
module
public import proofs.«01_k».proof.Proof.AttnRun
public import proofs.«01_k».proof.Proof.AttnMath
public import Idealize.ShloMosaic.Lib.StableHlo.ReadAt
@[expose] public section

/-! The arrays the attention kernel is handed, read at an index from the arguments. -/

set_option maxRecDepth 16384
noncomputable section
namespace Cert.AttnHost
open Cert.AttnIdeal Cert.AttnIdeal.Gen Idealize.ShloMosaic Idealize.ShloMosaic.TcCoe Idealize.SL.Sem Idealize.ShloMosaic.StableHlo Cert.AttnMath

variable (m : (ℓ : Loc nD τ sig) → Buf (Elt Ideal) ℓ) (c : Dev nD)

/-- The arguments: queries, keys, values by batch, position, head and feature, and the bias of each head. -/
def Q : S4x4352x16x64.Idx → EReal := m ((c : Thread nD τ).loc main_arg0)
def K : S4x4352x16x64.Idx → EReal := m ((c : Thread nD τ).loc main_arg1)
def Vv : S4x4352x16x64.Idx → EReal := m ((c : Thread nD τ).loc main_arg2)
def B : S16.Idx → EReal := m ((c : Thread nD τ).loc main_arg3)

theorem two_f32 : Ideal.ofBits .f32 0x40000000#32 = ((2 : ℝ) : EReal) := by
  simp [Ideal.ofBits, Ideal.ieee]; rw [← EReal.coe_mul]; norm_num
theorem neg_one_f32 : Ideal.ofBits .f32 0xBF800000#32 = -1 := by
  simp [Ideal.ofBits, Ideal.ieee]; rw [← EReal.coe_mul]; norm_num

theorem div_log_two (x : EReal) : Ideal.div x (Ideal.log (Ideal.ofBits .f32 0x40000000#32)) = x * c2 := by
  have h : Real.log 2 ≠ 0 := (Real.log_pos (by norm_num)).ne'
  rw [two_f32, Ideal.log_coe, if_neg (by norm_num), Ideal.div, if_neg (by exact_mod_cast h), ← EReal.coe_inv]

theorem below_two : ∀ j : Fin 128, IntOp.cmpi .slt (BitVec.ofNat 32 j.val) 2#32 = if j.val < 2 then 1#1 else 0#1 := by decide +kernel

theorem sgt_small : ∀ i j : Fin 256, IntOp.cmpi .sgt (BitVec.ofNat 32 i.val) (BitVec.ofNat 32 j.val) = if j.val < i.val then 1#1 else 0#1 := by
  decide +kernel

theorem v33_apply (i : Fin 256) (j : Fin 128) : V m c main_v33 (ix2 i j) = if j.val < 2 then (1 : EReal) else 0 := by
  unfold V
  after_reads_at
  rw [below_two]
  by_cases h : j.val < 2
  · rw [if_pos h, if_pos h]
    show (((1#1).toNat : ℝ) : EReal) = 1
    simp
  · rw [if_neg h, if_neg h]
    show (((0#1).toNat : ℝ) : EReal) = 0
    simp

theorem v19_apply (h : Fin 16) : V m c main_v19 (ix1 h) = B m c (ix1 h) * c2 := by
  unfold V
  after_reads_at
  exact div_log_two _

theorem v28_apply (i j : Fin 256) : V m c main_v28 (ix2 i j) = if j.val < i.val then (-1 : EReal) else 0 := by
  unfold V
  after_reads_at
  rw [sgt_small, neg_one_f32]
  by_cases h : j.val < i.val
  · rw [if_pos h, if_pos h]; rfl
  · rw [if_neg h, if_neg h]; rfl

/-- Whether a feature belongs to a head of even number: bit 6 of its place is clear. -/
theorem even_head : ∀ x : Fin 1024, IntOp.cmpi .eq (IntOp.andi (BitVec.ofNat 32 x.val) 64#32) 0#32 = if x.val / 64 % 2 = 0 then 1#1 else 0#1 := by
  decide +kernel

theorem row_eq (b : Fin 4) (t : Fin 4352) (h : Fin 16) (d : Fin 64) {x : Nat} (hx : x = h.val * 64 + d.val) (h0 h1 h2 h3) :
    (ix4 (⟨(b.val * 4352 + t.val) / 4352, h0⟩ : Fin 4) (⟨(b.val * 4352 + t.val) % 4352, h1⟩ : Fin 4352) (⟨x / 64, h2⟩ : Fin 16) (⟨x % 64, h3⟩ : Fin 64))
      = ix4 b t h d := by
  subst hx
  congr 1 <;> exact Fin.ext (by dsimp only; omega)

theorem zero_const : (id (constant (F := Ideal) S_ .f32 0#32) ix0 : EReal) = 0 := Ideal.ofBits_zero_f32

theorem select_ite {α : Type} (p : Prop) [Decidable p] (a b : α) : Scalar.select (if p then 1#1 else 0#1) a b = if p then a else b := by
  by_cases h : p <;> simp [h, Scalar.select]

theorem v17_query (b : Fin 4) (t : Fin 4352) (h : Fin 16) (d : Fin 64) :
    V m c main_v17 (ix2 (⟨b.val * 4352 + t.val, by omega⟩ : Fin 17408) (⟨h.val * 64 + d.val, by omega⟩ : Fin 4096))
      = Q m c (ix4 b t h d) * Ideal.ofBits .f32 0x3E000000#32 * c2 := by
  unfold V
  after_reads_at
  rw [dif_pos (by omega)]
  after_reads_at
  rw [div_log_two, row_eq b t h d rfl]
  rfl

theorem v17_key (b : Fin 4) (t : Fin 4352) (h : Fin 16) (d : Fin 64) :
    V m c main_v17 (ix2 (⟨b.val * 4352 + t.val, by omega⟩ : Fin 17408) (⟨1024 + (h.val * 64 + d.val), by omega⟩ : Fin 4096))
      = K m c (ix4 b t h d) := by
  unfold V
  after_reads_at
  rw [dif_pos (by omega)]
  after_reads_at
  rfl

theorem v17_even (b : Fin 4) (t : Fin 4352) (h : Fin 16) (d : Fin 64) :
    V m c main_v17 (ix2 (⟨b.val * 4352 + t.val, by omega⟩ : Fin 17408) (⟨2048 + (h.val * 64 + d.val), by omega⟩ : Fin 4096))
      = if h.val % 2 = 0 then Vv m c (ix4 b t h d) else 0 := by
  unfold V
  after_reads_at
  rw [dif_neg (by omega), dif_neg (by omega), dif_pos (by omega)]
  after_reads_at
  have e : 2048 + (h.val * 64 + d.val) - 1024 - 1024 = h.val * 64 + d.val := by omega
  have hb := even_head ⟨h.val * 64 + d.val, by omega⟩
  have hh : (h.val * 64 + d.val) / 64 = h.val := by omega
  rw [hh] at hb
  rw [row_eq b t h d e, e, hb, select_ite, zero_const]
  rfl

theorem v17_odd (b : Fin 4) (t : Fin 4352) (h : Fin 16) (d : Fin 64) :
    V m c main_v17 (ix2 (⟨b.val * 4352 + t.val, by omega⟩ : Fin 17408) (⟨3072 + (h.val * 64 + d.val), by omega⟩ : Fin 4096))
      = if h.val % 2 = 0 then 0 else Vv m c (ix4 b t h d) := by
  unfold V
  after_reads_at
  rw [dif_neg (by omega), dif_neg (by omega), dif_neg (by omega)]
  after_reads_at
  have e : 3072 + (h.val * 64 + d.val) - 1024 - 1024 - 1024 = h.val * 64 + d.val := by omega
  have hb := even_head ⟨h.val * 64 + d.val, by omega⟩
  have hh : (h.val * 64 + d.val) / 64 = h.val := by omega
  rw [hh] at hb
  rw [row_eq b t h d e, e, hb, select_ite, zero_const]
  rfl

end Cert.AttnHost
end
-- ==== Proof.AttnBlock.lean ====
module
public import proofs.«01_k».proof.Proof.AttnPoint
public import proofs.«01_k».proof.Proof.AttnHost
public import Idealize.ShloMosaic.Lib.Pipeline.ValueKit
@[expose] public section

/-! The attention's output array after the run. -/

set_option maxRecDepth 16384
noncomputable section
namespace Cert.AttnBlock
open Cert.AttnIdeal Cert.AttnIdeal.Gen Idealize.ShloMosaic Idealize.ShloMosaic.TcCoe Idealize.SL.Sem Cert.AttnLoop Cert.AttnHost Cert.AttnMath

/-- The block indices: a grid point is a batch and a pair of heads. -/
theorem idx (t : Fin cfg0.N) : win0_0.index t = ![0]
    ∧ win0_1.index t = ![(grid0.coords t 0).val, (grid0.coords t 1).val]
    ∧ win0_2.index t = ![(grid0.coords t 0).val, 8 + (grid0.coords t 1).val]
    ∧ win0_3.index t = ![(grid0.coords t 0).val, 16 + (grid0.coords t 1).val]
    ∧ win0_4.index t = ![(grid0.coords t 0).val, 24 + (grid0.coords t 1).val]
    ∧ win0_5.index t = ![0, 0] ∧ win0_6.index t = ![0, 0]
    ∧ win0_7.index t = ![(grid0.coords t 0).val, (grid0.coords t 1).val] :=
  (by decide +kernel : ∀ t : Fin grid0.N, win0_0.index t = ![0]
    ∧ win0_1.index t = ![(grid0.coords t 0).val, (grid0.coords t 1).val]
    ∧ win0_2.index t = ![(grid0.coords t 0).val, 8 + (grid0.coords t 1).val]
    ∧ win0_3.index t = ![(grid0.coords t 0).val, 16 + (grid0.coords t 1).val]
    ∧ win0_4.index t = ![(grid0.coords t 0).val, 24 + (grid0.coords t 1).val]
    ∧ win0_5.index t = ![0, 0] ∧ win0_6.index t = ![0, 0]
    ∧ win0_7.index t = ![(grid0.coords t 0).val, (grid0.coords t 1).val]) t

/-- The scalars a point reads: the biases of its two heads. -/
theorem offs (t : Fin cfg0.N) : k0_off1 (grid0.coords t) = ![2 * (grid0.coords t 1).val]
    ∧ k0_off2 (grid0.coords t) = ![2 * (grid0.coords t 1).val + 1] :=
  (by decide +kernel : ∀ t : Fin grid0.N, k0_off1 (grid0.coords t) = ![2 * (grid0.coords t 1).val]
    ∧ k0_off2 (grid0.coords t) = ![2 * (grid0.coords t 1).val + 1]) t

variable (m : (ℓ : Loc nD τ sig) → Buf (Elt Ideal) ℓ) (c : Dev nD)

/-- The attention of the arguments, a row per batch and position, a column per head and feature. -/
def attention : Vec Ideal S17408x1024 .bf16 := fun i =>
  AttnSpec.out (Q m c) (K m c) (Vv m c) (B m c) ⟨(i 0).val / 4352, by have h : (i 0).val < 17408 := (i 0).isLt; omega⟩
    ⟨(i 0).val % 4352, Nat.mod_lt _ (by decide)⟩ ⟨(i 1).val / 64, by have h : (i 1).val < 1024 := (i 1).isLt; omega⟩
    ⟨(i 1).val % 64, Nat.mod_lt _ (by decide)⟩

section
variable (t : Fin cfg0.N)

theorem batch_lt : (grid0.coords t 0).val < 4 := (grid0.coords t 0).isLt
theorem pair_lt : (grid0.coords t 1).val < 8 := (grid0.coords t 1).isLt

theorem blk0 (h : Fin 16) : iblk m c 0 t (ix1 h) = V m c main_v19 (ix1 h) := by
  blk_point [iblk, idx t]

theorem blk1 (r : Fin 4352) (l : Fin 128) : iblk m c 1 t (ix2 r l)
    = V m c main_v17 (ix2 ⟨(grid0.coords t 0).val * 4352 + r.val, by have := batch_lt t; omega⟩
      ⟨(grid0.coords t 1).val * 128 + l.val, by have := pair_lt t; omega⟩) := by
  blk_point [iblk, idx t]

theorem blk2 (r : Fin 4352) (l : Fin 128) : iblk m c 2 t (ix2 r l)
    = V m c main_v17 (ix2 ⟨(grid0.coords t 0).val * 4352 + r.val, by have := batch_lt t; omega⟩
      ⟨(8 + (grid0.coords t 1).val) * 128 + l.val, by have := pair_lt t; omega⟩) := by
  blk_point [iblk, idx t]

theorem blk3 (r : Fin 4352) (l : Fin 128) : iblk m c 3 t (ix2 r l)
    = V m c main_v17 (ix2 ⟨(grid0.coords t 0).val * 4352 + r.val, by have := batch_lt t; omega⟩
      ⟨(16 + (grid0.coords t 1).val) * 128 + l.val, by have := pair_lt t; omega⟩) := by
  blk_point [iblk, idx t]

theorem blk4 (r : Fin 4352) (l : Fin 128) : iblk m c 4 t (ix2 r l)
    = V m c main_v17 (ix2 ⟨(grid0.coords t 0).val * 4352 + r.val, by have := batch_lt t; omega⟩
      ⟨(24 + (grid0.coords t 1).val) * 128 + l.val, by have := pair_lt t; omega⟩) := by
  blk_point [iblk, idx t]

theorem blk5 (i j : Fin 256) : iblk m c 5 t (ix2 i j) = V m c main_v28 (ix2 i j) := by
  blk_point [iblk, idx t]

theorem blk6 (i : Fin 256) (j : Fin 128) : iblk m c 6 t (ix2 i j) = V m c main_v33 (ix2 i j) := by
  blk_point [iblk, idx t]

/-- The array of rows at equal places. -/
theorem at_col {x x' y y' : Nat} {hx : x < 17408} {hx' : x' < 17408} {hy : y < 4096} {hy' : y' < 4096} (ex : x = x') (ey : y = y') :
    V m c main_v17 (ix2 (⟨x, hx⟩ : Fin 17408) (⟨y, hy⟩ : Fin 4096)) = V m c main_v17 (ix2 (⟨x', hx'⟩ : Fin 17408) (⟨y', hy'⟩ : Fin 4096)) := by
  subst ex ey; rfl

/-- What a point leaves in its block. -/
theorem outAt_apply (r : Fin 4352) (e : Fin 2) (d : Fin 64) :
    outAt m c t (ix2 r ⟨e.val * 64 + d.val, by omega⟩)
      = AttnSpec.out (Q m c) (K m c) (Vv m c) (B m c) ⟨(grid0.coords t 0).val, batch_lt t⟩ r
        ⟨2 * (grid0.coords t 1).val + e.val, by have := pair_lt t; omega⟩ d := by
  have hb := batch_lt t
  have hp := pair_lt t
  refine AttnPoint.attnOut_apply _ _ _ _ _ _ _ (grid0.coords t) (Q m c) (K m c) (Vv m c) (B m c) ⟨(grid0.coords t 0).val, hb⟩
    ⟨(grid0.coords t 1).val, hp⟩ (offs t).1 (offs t).2 ?_ ?_ ?_ ?_ ?_ ?_ ?_ r e d
  · intro h; rw [blk0, v19_apply]
  · intro r e d
    exact (blk1 m c t r _).trans ((at_col m c rfl (by dsimp only; omega)).trans
      (v17_query m c ⟨(grid0.coords t 0).val, hb⟩ r ⟨2 * (grid0.coords t 1).val + e.val, by omega⟩ d))
  · intro r e d
    exact (blk2 m c t r _).trans ((at_col m c rfl (by dsimp only; omega)).trans
      (v17_key m c ⟨(grid0.coords t 0).val, hb⟩ r ⟨2 * (grid0.coords t 1).val + e.val, by omega⟩ d))
  · intro r e d
    exact (blk3 m c t r _).trans ((at_col m c rfl (by dsimp only; omega)).trans
      ((v17_even m c ⟨(grid0.coords t 0).val, hb⟩ r ⟨2 * (grid0.coords t 1).val + e.val, by omega⟩ d).trans (if_congr (by dsimp only; omega) rfl rfl)))
  · intro r e d
    exact (blk4 m c t r _).trans ((at_col m c rfl (by dsimp only; omega)).trans
      ((v17_odd m c ⟨(grid0.coords t 0).val, hb⟩ r ⟨2 * (grid0.coords t 1).val + e.val, by omega⟩ d).trans (if_congr (by dsimp only; omega) rfl rfl)))
  · intro i j; rw [blk5, v28_apply]
  · intro i j; rw [blk6, v33_apply]

end

theorem attention_eq : (dats m 0 c).arrAt 7 cfg0.N = attention m c := by
  refine (dats m 0 c).arrAt_eq_of_covers 7 _ (by decide +kernel) fun t hf y => ?_
  have hp := pair_lt t
  blk_simp
  rw [after7]
  idx_vars y
  obtain ⟨e, d, rfl⟩ : ∃ (e : Fin 2) (d : Fin 64), y1 = ⟨e.val * 64 + d.val, by omega⟩ :=
    ⟨⟨y1.val / 64, by omega⟩, ⟨y1.val % 64, by omega⟩, Fin.ext (by dsimp only; omega)⟩
  rw [outAt_apply]
  have e0 : ((((View.whole main_v34).slice (win0_7.rect t)).emb (ix2 y0 ⟨e.val * 64 + d.val, by omega⟩)) 0).val
      = (grid0.coords t 0).val * 4352 + y0.val := by blk_simp [idx t]
  have e1 : ((((View.whole main_v34).slice (win0_7.rect t)).emb (ix2 y0 ⟨e.val * 64 + d.val, by omega⟩)) 1).val
      = (grid0.coords t 1).val * 128 + (e.val * 64 + d.val) := by blk_simp [idx t]
  unfold attention
  simp only [e0, e1]
  congr 1 <;> exact Fin.ext (by dsimp only; omega)

end Cert.AttnBlock
end
-- ==== Proof.AttnRef.lean ====
module
public import proofs.«01_k».proof.Proof.Gen.AttnRefIdeal.Read
public import proofs.«01_k».proof.Proof.AttnSpec
public import proofs.«01_k».proof.Proof.AttnPay
@[expose] public section

/-! The attention's reference, read at one row and one column. -/

set_option maxRecDepth 16384
noncomputable section
namespace Cert.AttnRefIdeal.AtIndex
open Cert.AttnRefIdeal Cert.AttnRefIdeal.Read Idealize.ShloMosaic Finset Cert.AttnMath Cert.AttnSpec

/-- A left fold of additions is the starting value plus the sum. -/
theorem foldl_add {α : Type} (g : α → EReal) (l : List α) (a : EReal) :
    l.foldl (fun r n => r + g n) a = a + (l.map g).sum := by
  induction l generalizing a with
  | nil => simp
  | cons x l ih => rw [List.foldl_cons, ih, List.map_cons, List.sum_cons, add_assoc]

/-- A sum over windows that reach `N` places along the last axis, nothing outside the array counting. -/
theorem window_sum {n0 n1 n2 N M : Nat} (x : (⟨4, ![n0, n1, n2, N]⟩ : Shape).Idx → EReal) {u : Shape}
    (h : (⟨4, ![n0, n1, n2, N]⟩ : Shape).ReduceWindows (![1, 1, 1, N] : Fin 4 → Nat) ![1, 1, 1, 1] ![0, 0, 0, 0] ![0, 0, 0, M] ⟨4, ![n0, n1, n2, N]⟩)
    (hu : 0 < u.numel) (n : Fin n0) (k : Fin n1) (t : Fin n2) (s : Fin N) :
    Host.reduceWindow (· + ·) ![1, 1, 1, N] ![1, 1, 1, 1] ![0, 0, 0, 0] ![0, 0, 0, M] x (fun _ : u.Idx => 0) h hu (ix4 n k t s)
      = ∑ e : Fin N, if hs : s.val + e.val < N then x (ix4 n k t ⟨s.val + e.val, hs⟩) else 0 := by
  unfold Host.reduceWindow
  dsimp only
  rw [foldl_add, zero_add, ← Fin.sum_univ_def]
  let g : (⟨4, ![1, 1, 1, N]⟩ : Shape).Idx → EReal := fun i =>
    if hs : s.val + (i 3).val < N then x (ix4 n k t ⟨s.val + (i 3).val, hs⟩) else 0
  refine Eq.trans (b := ∑ j, g ((Shape.rowMajor ⟨4, ![1, 1, 1, N]⟩).symm j)) ?_ ((Equiv.sum_comp _ g).trans ?_)
  · refine Finset.sum_congr rfl fun j _ => ?_
    let i : (⟨4, ![1, 1, 1, N]⟩ : Shape).Idx := (Shape.rowMajor ⟨4, ![1, 1, 1, N]⟩).symm j
    show _ = if hs : s.val + (i 3).val < N then x (ix4 n k t ⟨s.val + (i 3).val, hs⟩) else 0
    have i0 : (i 0).val = 0 := Nat.lt_one_iff.mp (i 0).isLt
    have i1 : (i 1).val = 0 := Nat.lt_one_iff.mp (i 1).isLt
    have i2 : (i 2).val = 0 := Nat.lt_one_iff.mp (i 2).isLt
    by_cases hs : s.val + (i 3).val < N
    · rw [dif_pos hs, dif_pos (fun a => by
        match a with
        | ⟨0, _⟩ => exact ⟨Nat.zero_le _, by show n.val * 1 + (i 0).val - 0 < n0; omega⟩
        | ⟨1, _⟩ => exact ⟨Nat.zero_le _, by show k.val * 1 + (i 1).val - 0 < n1; omega⟩
        | ⟨2, _⟩ => exact ⟨Nat.zero_le _, by show t.val * 1 + (i 2).val - 0 < n2; omega⟩
        | ⟨3, _⟩ => exact ⟨Nat.zero_le _, by show s.val * 1 + (i 3).val - 0 < N; omega⟩)]
      refine congrArg x (funext fun a => Fin.ext ?_)
      match a with
      | ⟨0, _⟩ => show n.val * 1 + (i 0).val - 0 = n.val; omega
      | ⟨1, _⟩ => show k.val * 1 + (i 1).val - 0 = k.val; omega
      | ⟨2, _⟩ => show t.val * 1 + (i 2).val - 0 = t.val; omega
      | ⟨3, _⟩ => show s.val * 1 + (i 3).val - 0 = s.val + (i 3).val; omega
    · rw [dif_neg hs, dif_neg]
      intro hh
      have := (hh 3).2
      change s.val * 1 + (i 3).val - 0 < N at this
      omega
  · rw [sum_idx4, Fin.sum_univ_one, Fin.sum_univ_one, Fin.sum_univ_one]
    rfl

theorem windowAdd_eq {s t u : Shape} (window strides lo hi : Fin s.rank → Nat) (x : FVec Ideal s .f32) (init : FVec Ideal u .f32)
    (h : s.ReduceWindows window strides lo hi t) (hu : 0 < u.numel) {v : EReal} (hv : init (Shape.Idx.first hu) = v) (i : t.Idx) :
    Host.reduceWindowAdd (F := Ideal) window strides lo hi x init h hu i
      = Host.reduceWindow (α := EReal) (· + ·) window strides lo hi x (fun _ : u.Idx => v) h hu i := by
  subst hv; rfl

/-- The host's sum over a window reaching from each key to the end is the sum over the keys from it on. -/
theorem suffix_sum (x : FVec Ideal S4x16x4352x4352 .f32) (init : FVec Ideal S_ .f32) (hinit : init ix0 = (0 : EReal))
    (h : S4x16x4352x4352.ReduceWindows ![1, 1, 1, 4352] ![1, 1, 1, 1] ![0, 0, 0, 0] ![0, 0, 0, 4351] S4x16x4352x4352)
    (hu : 0 < S_.numel) (n : Fin 4) (k : Fin 16) (t s : Fin 4352) (f : Nat → EReal) (hf : ∀ j : Fin 4352, x (ix4 n k t j) = f j.val) :
    Host.reduceWindowAdd (F := Ideal) ![1, 1, 1, 4352] ![1, 1, 1, 1] ![0, 0, 0, 0] ![0, 0, 0, 4351] x init h hu (ix4 n k t s)
      = ∑ j ∈ Ico s.val 4352, f j := by
  have h0 : init (Shape.Idx.first hu) = (0 : EReal) := (congrArg init (funext fun a => a.elim0)).trans hinit
  rw [windowAdd_eq _ _ _ _ x init h hu h0, window_sum]
  have e : ∀ e : Fin 4352, (if hs : s.val + e.val < 4352 then x (ix4 n k t ⟨s.val + e.val, hs⟩) else 0)
      = (fun e : Nat => if s.val + e < 4352 then f (s.val + e) else 0) e.val := fun e => by
    dsimp only
    by_cases hs : s.val + e.val < 4352
    · rw [dif_pos hs, if_pos hs, hf]
    · rw [dif_neg hs, if_neg hs]
  rw [Finset.sum_congr rfl fun j _ => e j, Fin.sum_univ_eq_sum_range (fun e : Nat => if s.val + e < 4352 then f (s.val + e) else 0) 4352,
    Finset.sum_Ico_eq_sum_range, ← Finset.sum_filter]
  refine Finset.sum_congr (Finset.ext fun j => ?_) fun _ _ => rfl
  rw [Finset.mem_filter, Finset.mem_range, Finset.mem_range]
  have := s.isLt
  omega

variable (x0 x1 x2 : Vec Ideal S4x4352x16x64 .f32) (x3 : Vec Ideal S16 .f32)

/-- The logits. -/
theorem logit_apply (n : Fin 4) (h : Fin 16) (t s : Fin 4352) :
    val_main_v5 x0 x1 x3 (ix4 n h t s) = logit x0 x1 x3 n h t s.val := by
  pointwise [val_main_v5, val_main_v4, val_main_v3, val_main_v2, val_main_v1, val_main_v0, val_main_cst]
  unfold logit
  simp only [Nat.mod_eq_of_lt s.isLt]

theorem softplus_select (y : EReal) :
    (if y ≠ y then y else max y 0 + Ideal.log1p (Ideal.exp (-(FloatOps.absf (F := Ideal) (φ := .f32) y)))) = sp y := by
  rw [if_neg (fun h => h rfl)]
  rfl

theorem keep_apply (n : Fin 4) (h : Fin 16) (t s : Fin 4352) :
    val_main_v15 x0 x1 x3 (ix4 n h t s) = keep (logit x0 x1 x3 n h t) t.val s.val := by
  pointwise [val_main_v15, val_main_v14, val_main_v13, val_main_v12, val_main_v11, val_main_v10, val_main_v9, val_main_v8, val_main_v7,
    val_main_v6, val_main_call0_v0, val_main_call0_v1, val_main_call0_call0_cst, val_main_call0_call0_v0, val_main_call0_call0_v1,
    val_main_call0_call0_v2, val_main_call0_call0_v3, val_main_call0_call0_v4, val_main_call0_call0_v5, val_main_call0_call0_v6,
    val_main_call0_call0_v7, val_main_call0_call0_v8, val_main_call0_call0_v9, val_main_call0_call0_v10, val_main_call0_call0_v11,
    val_main_cst_0, val_main_call1_v0, val_main_call1_v1, val_main_call1_v2, logit_apply]
  rw [softplus_select, neg_neg, Cert.AttnPay.slt_small (by omega) (by omega), Cert.AttnPay.select_ite]
  exact if_congr Iff.rfl rfl Ideal.ofBits_zero_f32

/-- The weights. -/
theorem weight_apply (n : Fin 4) (h : Fin 16) (t s : Fin 4352) :
    val_main_v21 x0 x1 x3 (ix4 n h t s) = weight (logit x0 x1 x3 n h t) 4352 t.val s.val := by
  have e : val_main_v16 x0 x1 x3 (ix4 n h t s) = ∑ j ∈ Ico s.val 4352, keep (logit x0 x1 x3 n h t) t.val j := by
    unfold val_main_v16
    exact suffix_sum _ _ (by rw [val_main_call2_v0_apply]; exact Ideal.ofBits_zero_f32) _ _ n h t s _ fun j => keep_apply x0 x1 x3 n h t j
  pointwise [val_main_v21, val_main_v20, val_main_v19, val_main_v18, val_main_v17, val_main_v12, val_main_v11, val_main_v10, val_main_v9, val_main_v8, val_main_v7,
    val_main_v6, val_main_call3_v0, val_main_call3_v1, val_main_call3_call0_cst, val_main_call3_call0_v0, val_main_call3_call0_v1,
    val_main_call3_call0_v2, val_main_call3_call0_v3, val_main_call3_call0_v4, val_main_call3_call0_v5, val_main_call3_call0_v6,
    val_main_call3_call0_v7, val_main_call3_call0_v8, val_main_call3_call0_v9, val_main_call3_call0_v10, val_main_call3_call0_v11,
    val_main_cst_1, val_main_call4_v0, val_main_call4_v1, val_main_call4_v2, logit_apply, keep_apply, e]
  rw [softplus_select, Cert.AttnPay.slt_small (by omega) (by omega), Cert.AttnPay.select_ite]
  exact if_congr Iff.rfl rfl Ideal.ofBits_zero_f32

/-- The reference's result. -/
theorem out_apply (n : Fin 4) (t : Fin 4352) (h : Fin 16) (d : Fin 64) (i : Fin 17408) (j : Fin 1024)
    (hi : i.val = n.val * 4352 + t.val) (hj : j.val = h.val * 64 + d.val) :
    val_main_v25 x0 x1 x2 x3 (ix2 i j) = out x0 x1 x2 x3 n t h d := by
  have e23 : val_main_v23 x0 x1 x2 x3 (ix4 n t h d) = out x0 x1 x2 x3 n t h d := by
    pointwise [val_main_v23, val_main_v22, weight_apply]
    exact Finset.sum_congr rfl fun s _ => mul_comm _ _
  rw [← e23, val_main_v25_apply]
  show val_main_v24 x0 x1 x2 x3 (ix2 i j) = _
  rw [val_main_v24_apply]
  refine congrArg _ (funext fun a => Fin.ext ?_)
  match a with
  | ⟨0, _⟩ => show (i.val * 1024 + j.val) / 4456448 = n.val; omega
  | ⟨1, _⟩ => show (i.val * 1024 + j.val) / 1024 % 4352 = t.val; omega
  | ⟨2, _⟩ => show (i.val * 1024 + j.val) / 64 % 16 = h.val; omega
  | ⟨3, _⟩ => show (i.val * 1024 + j.val) % 64 = d.val; omega

end Cert.AttnRefIdeal.AtIndex
end
-- ==== Proof.AttnClaim.lean ====
module
public import proofs.«01_k».proof.Defs
public import proofs.«01_k».proof.Proof.AttnBlock
public import proofs.«01_k».proof.Proof.AttnRef
@[expose] public section

/-! The attention kernel leaves the array its reference leaves. -/

noncomputable section
namespace Cert.Proof
open Idealize.ShloMosaic Idealize.ShloMosaic.TcCoe Idealize.SL.Sem

/-- Over the extended reals, the kernel computes the stick-breaking attention. -/
theorem attn_algebraic : algebraic_AttnIdeal_AttnRefIdeal (hAttnIdeal := Cert.AttnIdeal.Gen.facts)
    (hAttnRefIdeal := Cert.AttnRefIdeal.Gen.facts) := by
  intro m g m' g' _ hagree
  refine ⟨fun c => Cert.AttnBlock.attention m c, ?_, ?_⟩
  · exact (θ_run _ _ _).mono (fun r h c => ⟨((h.1 c).1 7).trans (Cert.AttnBlock.attention_eq m c), h.2.1 c⟩)
      (θ_run_and (Cert.AttnLoop.run_main m g) (Cert.AttnLoop.frame_attn m g))
  · refine (θ_run _ _ _).mono (fun r h c => ⟨(h c).1.trans ?_, (h c).2⟩)
      (Cert.AttnRefIdeal.Value.run m' g')
    obtain ⟨h0, h1, h2, h3⟩ := hagree c
    rw [Cert.AttnRefIdeal.Read.val_main_v25_eq, h0, h1, h2, h3]
    funext i
    rw [eq_ix2 i]
    refine Cert.AttnRefIdeal.AtIndex.out_apply _ _ _ _ _ _ _ _ _ _ ?_ ?_
    · show (i 0).val = (i 0).val / 4352 * 4352 + (i 0).val % 4352; omega
    · show (i 1).val = (i 1).val / 64 * 64 + (i 1).val % 64; omega

end Cert.Proof
end
-- ==== Proof.RgSpec.lean ====
module
public import proofs.«01_k».proof.Proof.AttnMath
public import proofs.«01_k».proof.Proof.Rows
@[expose] public section

/-!
The gated linear recurrence over the extended reals: its convolution, gates and steps for one sequence, and the run of
its hidden state. A sequence is a function of the time step, from 0 on.
-/

noncomputable section
namespace Cert.Recur
open Idealize.ShloMosaic Finset Cert.AttnMath

/-! ### One time step -/

/-- The sequence three steps earlier; before the start there are zeros. -/
def past (f : ℕ → Fin 1024 → EReal) (n : ℕ) (d : Fin 1024) : EReal := if 3 ≤ n then f (n - 3) d else 0

/-- The convolution of four consecutive values, with its bias. -/
def conv4 (x0 x1 x2 x3 : EReal) (cw : Fin 4 → EReal) (cb : EReal) : EReal :=
  cb + x0 * cw 0 + x1 * cw 1 + x2 * cw 2 + x3 * cw 3

/-- The causal convolution at step `t`. -/
def conv (f : ℕ → Fin 1024 → EReal) (cw : Fin 4 → Fin 1024 → EReal) (cb : Fin 1024 → EReal) (t : ℕ) (d : Fin 1024) : EReal :=
  conv4 (past f t d) (past f (t + 1) d) (past f (t + 2) d) (past f (t + 3) d) (fun k => cw k d) (cb d)

/-- A gate at feature `d`: the logistic of the product with the weights of `d`'s head, plus a bias. -/
def gate (x : Fin 1024 → EReal) (w : Fin 4 → Fin 256 → Fin 256 → EReal) (b : Fin 1024 → EReal) (d : Fin 1024) : EReal :=
  Ideal.logistic ((∑ k : Fin 256, x ⟨d.val / 256 * 256 + k.val, by omega⟩ * w ⟨d.val / 256, by omega⟩ k ⟨d.val % 256, by omega⟩) + b d)

/-- The logarithm of the decay: from the recurrence gate `r` and the parameter `lam`. -/
def logDecay (r lam : EReal) : EReal := Ideal.ofBits .f32 0xC1000000#32 * r * sp (-lam)

/-- The factor of the input at a step whose decay has logarithm `l`: one at the first step. -/
def inScale (first : Prop) [Decidable first] (l : EReal) : EReal :=
  if first then 1 else Ideal.sqrt (-(Ideal.exp (Ideal.ofBits .f32 0x40000000#32 * l) - 1))

/-- The gated linear unit: the Gaussian error unit in its tangent form. -/
def gelu (v : EReal) : EReal :=
  Ideal.ofBits .f32 0x3F000000#32 * v * (1 + Ideal.tanh (Ideal.ofBits .f32 0x3F4C422A#32 *
    (v + Ideal.ofBits .f32 0x3D372713#32 * (v * v * v))))

/-! ### The run of a linear recurrence -/

/-- `n` steps of the recurrence `h ↦ A s * h + B s` from step `s`, beginning with `h`. -/
def seg (A B : ℕ → EReal) (s : ℕ) : ℕ → EReal → EReal
  | 0, h => h
  | n + 1, h => A (s + n) * seg A B s n h + B (s + n)

/-- A run in two parts. -/
theorem seg_add (A B : ℕ → EReal) (s n m : ℕ) (h : EReal) : seg A B s (n + m) h = seg A B (s + n) m (seg A B s n h) := by
  induction m with
  | zero => rfl
  | succ m ih => rw [← Nat.add_assoc, seg, seg, ih, Nat.add_assoc]

/-- A run depends only on the steps it takes. -/
theorem seg_congr {A B A' B' : ℕ → EReal} {s s' n : ℕ} (h : EReal)
    (hA : ∀ i < n, A (s + i) = A' (s' + i)) (hB : ∀ i < n, B (s + i) = B' (s' + i)) :
    seg A B s n h = seg A' B' s' n h := by
  induction n with
  | zero => rfl
  | succ n ih =>
    rw [seg, seg, ih (fun i hi => hA i (by omega)) (fun i hi => hB i (by omega)), hA n (by omega), hB n (by omega)]

/-- A pair of sequences that stands for the last `k` steps (or all, if there are fewer) of a recurrence,
at each of 256 steps. -/
structure Stands (A B : ℕ → EReal) (k : ℕ) (a b : ℕ → EReal) : Prop where
  nonneg : ∀ i < 256, 0 ≤ a i
  finite : ∀ i < 256, a i ≠ ⊤
  run : ∀ i < 256, ∀ h, b i + a i * h = seg A B (i + 1 - k) (min k (i + 1)) h

/-- The sequences themselves stand for one step. -/
theorem stands_one {A B : ℕ → EReal} (h0 : ∀ i < 256, 0 ≤ A i) (h1 : ∀ i < 256, A i ≠ ⊤) : Stands A B 1 A B := by
  refine ⟨h0, h1, fun i _ h => ?_⟩
  have e : min 1 (i + 1) = 0 + 1 := by omega
  rw [e, seg, seg, Nat.add_sub_cancel, Nat.add_zero, add_comm]

/-- A product of finite nonnegative numbers is finite. -/
theorem mul_ne_top_of {x y : EReal} (hx : 0 ≤ x) (hx' : x ≠ ⊤) (hy : 0 ≤ y) (hy' : y ≠ ⊤) : x * y ≠ ⊤ := by
  lift x to ℝ using ⟨hx', fun h => by simp [h] at hx⟩
  lift y to ℝ using ⟨hy', fun h => by simp [h] at hy⟩
  rw [← EReal.coe_mul]
  exact EReal.coe_ne_top _

/-- One round of the doubling scan: a pair for `k` steps makes a pair for `2 * k`. -/
theorem Stands.double {A B : ℕ → EReal} {k : ℕ} {a b a' b' : ℕ → EReal} (hs : Stands A B k a b)
    (ha : ∀ i < 256, a' i = a i * if k ≤ i then a (i - k) else 1)
    (hb : ∀ i < 256, b' i = b i + a i * if k ≤ i then b (i - k) else 0) : Stands A B (k + k) a' b' := by
  refine ⟨fun i hi => ?_, fun i hi => ?_, fun i hi h => ?_⟩
  · rw [ha i hi]
    refine mul_nonneg (hs.nonneg i hi) ?_
    split
    · exact hs.nonneg _ (by omega)
    · exact zero_le_one
  · rw [ha i hi]
    split
    · exact mul_ne_top_of (hs.nonneg _ hi) (hs.finite _ hi) (hs.nonneg _ (by omega)) (hs.finite _ (by omega))
    · rw [mul_one]; exact hs.finite _ hi
  · rw [ha i hi, hb i hi]
    by_cases hk : k ≤ i
    · rw [if_pos hk, if_pos hk, mul_assoc, add_assoc,
        ← EReal.left_distrib_of_nonneg_of_ne_top (hs.nonneg i hi) (hs.finite i hi), hs.run (i - k) (by omega) h, hs.run i hi]
      have e0 : min k (i + 1) = k := by omega
      have e1 : i + 1 - k = i - k + 1 - k + min k (i - k + 1) := by omega
      have e2 : min (k + k) (i + 1) = min k (i - k + 1) + k := by omega
      have e3 : i + 1 - (k + k) = i - k + 1 - k := by omega
      rw [e0, e2, e3, e1, seg_add]
    · rw [if_neg hk, if_neg hk, mul_zero, add_zero, mul_one, hs.run i hi]
      have e0 : min k (i + 1) = i + 1 := by omega
      have e1 : min (k + k) (i + 1) = i + 1 := by omega
      have e2 : i + 1 - k = 0 := by omega
      have e3 : i + 1 - (k + k) = 0 := by omega
      rw [e0, e1, e2, e3]

/-! ### The decay is a number between 0 and 1 -/

/-- The literal minus eight. -/
theorem minus_eight : Ideal.ofBits .f32 0xC1000000#32 = ((-8 : ℝ) : EReal) := by
  simp [Ideal.ofBits, Ideal.ieee]
  norm_num
  rw [← EReal.coe_mul]
  norm_num

/-- The literal two. -/
theorem two : Ideal.ofBits .f32 0x40000000#32 = ((2 : ℝ) : EReal) := by
  simp [Ideal.ofBits, Ideal.ieee]
  norm_num
  rw [← EReal.coe_mul]
  norm_num

/-- An exponential is not negative. -/
theorem exp_nonneg (x : EReal) : 0 ≤ Ideal.exp x := by
  induction x with
  | bot => exact le_refl _
  | top => exact le_top
  | coe r => rw [Ideal.exp_coe]; exact EReal.coe_nonneg.mpr (Real.exp_pos r).le

/-- A logistic is not negative. -/
theorem logistic_nonneg (x : EReal) : 0 ≤ Ideal.logistic x := by
  have h : 0 ≤ Ideal.exp (-x) := exp_nonneg _
  have h1 : (0 : EReal) < 1 + Ideal.exp (-x) := lt_of_lt_of_le zero_lt_one (le_add_of_nonneg_right h)
  unfold Ideal.logistic Ideal.div
  rw [if_neg h1.ne', one_mul]
  exact EReal.inv_nonneg_of_nonneg h1.le

/-- The logarithm of a decay is not positive. -/
theorem logDecay_nonpos (x lam : EReal) : logDecay (Ideal.logistic x) lam ≤ 0 := by
  unfold logDecay
  rw [minus_eight, mul_assoc]
  have h : 0 ≤ Ideal.logistic x * sp (-lam) := mul_nonneg (logistic_nonneg x) (sp_nonneg _)
  exact EReal.mul_nonpos_iff.mpr (Or.inr ⟨EReal.coe_nonpos.mpr (by norm_num), h⟩)

/-- The exponential of a nonpositive number is finite. -/
theorem exp_ne_top_of_nonpos {l : EReal} (h : l ≤ 0) : Ideal.exp l ≠ ⊤ := by
  induction l with
  | bot => exact EReal.zero_ne_top
  | top => exact absurd h (by simp)
  | coe r => rw [Ideal.exp_coe]; exact EReal.coe_ne_top _

/-- The input's factor in the form of the tangent. -/
theorem scale_eq {l : EReal} (h : l ≤ 0) :
    (0 - Ideal.tanh l) * (Ideal.exp l * Ideal.exp l + 1) = -(Ideal.exp (Ideal.ofBits .f32 0x40000000#32 * l) - 1) := by
  rw [two]
  induction l with
  | bot =>
    rw [EReal.coe_mul_bot_of_pos (by norm_num)]
    show (0 - (-1 : EReal)) * (0 * 0 + 1) = -(0 - 1)
    simp
  | top => exact absurd h (by simp)
  | coe r =>
    rw [← EReal.coe_mul, Ideal.exp_coe, Ideal.exp_coe]
    show (0 - ((Real.tanh r : ℝ) : EReal)) * _ = _
    rw [← EReal.coe_zero, ← EReal.coe_one, ← EReal.coe_mul, ← EReal.coe_sub, ← EReal.coe_add, ← EReal.coe_mul,
      ← EReal.coe_sub, ← EReal.coe_neg]
    refine congrArg _ ?_
    have e : Real.exp (2 * r) = Real.exp r * Real.exp r := by rw [← Real.exp_add]; ring_nf
    have hn : Real.exp (-r) = (Real.exp r)⁻¹ := Real.exp_neg r
    have hp := Real.exp_pos r
    rw [e, Real.tanh_eq_sinh_div_cosh, Real.sinh_eq, Real.cosh_eq, hn]
    field_simp
    ring

end Cert.Recur
end
-- ==== Proof.RgPay.lean ====
module
public import proofs.«01_k».proof.Proof.Gen.RgIdeal.Skeleton
public import proofs.«01_k».proof.Proof.RgSpec
public import Idealize.ShloMosaic.Lib.Pipeline.ValueKit
public import Idealize.ShloMosaic.Lib.WordCmp
@[expose] public section

/-! The recurrence's block values at an index: projections, convolution, gates, the rounds of the scan. -/

set_option maxRecDepth 16384
noncomputable section
namespace Cert.RgIdeal.Block
open Cert.RgIdeal Cert.RgIdeal.Gen Idealize.ShloMosaic Idealize.ShloMosaic.TcCoe Cert.Rows Cert.Recur

/-- The product of the normed rows with both projections. -/
theorem pay7_apply (v3 : Vec Ideal S256x1024 .f32) (v4 : Vec Ideal S1x1024 .f32) (w : Vec Ideal S1024x2048 .bf16)
    (i : Fin 256) (j : Fin 2048) :
    k0_pay7 v3 v4 w (ix2 i j) = dot (rms (fun k => v3 (ix2 i k)) (fun k => v4 (ix2 0 k))) (fun k j => w (ix2 k j)) j := by
  pointwise [k0_pay7]
  rfl

/-- The branch that enters the recurrence. -/
theorem pay9_apply (v3 : Vec Ideal S256x1024 .f32) (v4 : Vec Ideal S1x1024 .f32) (w : Vec Ideal S1024x2048 .bf16)
    (i : Fin 256) (j : Fin 1024) :
    k0_pay9 v3 v4 w (ix2 i j)
      = dot (rms (fun k => v3 (ix2 i k)) (fun k => v4 (ix2 0 k))) (fun k j => w (ix2 k j)) ⟨1024 + j.val, by omega⟩ := by
  pointwise [k0_pay9, pay7_apply]

/-- The branch that gates the output. -/
theorem pay8_apply (v3 : Vec Ideal S256x1024 .f32) (v4 : Vec Ideal S1x1024 .f32) (w : Vec Ideal S1024x2048 .bf16)
    (i : Fin 256) (j : Fin 1024) :
    k0_pay8 v3 v4 w (ix2 i j)
      = gelu (dot (rms (fun k => v3 (ix2 i k)) (fun k => v4 (ix2 0 k))) (fun k j => w (ix2 k j)) ⟨j.val, by omega⟩) := by
  pointwise [k0_pay8, pay7_apply]
  rfl

/-- The convolution of four rows. -/
theorem pay11_apply (v40 v43 v49 v54 v59 : Vec Ideal S1x1024 .f32) (v42 v48 v53 v58 : Vec Ideal S256x1024 .f32)
    (i : Fin 256) (j : Fin 1024) :
    k0_pay11 v40 v42 v43 v48 v49 v53 v54 v58 v59 (ix2 i j)
      = v40 (ix2 0 j) + v42 (ix2 i j) * v43 (ix2 0 j) + v48 (ix2 i j) * v49 (ix2 0 j) + v53 (ix2 i j) * v54 (ix2 0 j)
        + v58 (ix2 i j) * v59 (ix2 0 j) := by
  pointwise [k0_pay11]

/-- Four blocks of columns side by side. -/
theorem cat_apply (u0 u1 u2 u3 : FVec Ideal S256x256 .f32) (i : Fin 256) (d : Fin 1024) :
    concatenate S256x1024 1 [⟨S256x256, u0⟩, ⟨S256x256, u1⟩, ⟨S256x256, u2⟩, ⟨S256x256, u3⟩]
      concatenates_S256x256_S256x256_S256x256_S256x256_S256x1024_d1 (ix2 i d)
      = (![u0, u1, u2, u3] ⟨d.val / 256, by omega⟩) (ix2 i ⟨d.val % 256, by omega⟩) := by
  pointwise
  split
  · next h =>
    have e : (⟨d.val / 256, by omega⟩ : Fin 4) = 0 := Fin.ext (by show d.val / 256 = 0; omega)
    have e' : (⟨d.val, h⟩ : Fin 256) = ⟨d.val % 256, by omega⟩ := Fin.ext (by show d.val = d.val % 256; omega)
    rw [e, e']; rfl
  · split
    · next h0 h =>
      have e : (⟨d.val / 256, by omega⟩ : Fin 4) = 1 := Fin.ext (by show d.val / 256 = 1; omega)
      have e' : (⟨d.val - 256, h⟩ : Fin 256) = ⟨d.val % 256, by omega⟩ := Fin.ext (by show d.val - 256 = d.val % 256; omega)
      rw [e, e']; rfl
    · split
      · next h1 h0 h =>
        have e : (⟨d.val / 256, by omega⟩ : Fin 4) = 2 := Fin.ext (by show d.val / 256 = 2; omega)
        have e' : (⟨d.val - 256 - 256, h⟩ : Fin 256) = ⟨d.val % 256, by omega⟩ :=
          Fin.ext (by show d.val - 256 - 256 = d.val % 256; omega)
        rw [e, e']; rfl
      · next h1 h0 h =>
        have e : (⟨d.val / 256, by omega⟩ : Fin 4) = 3 := Fin.ext (by show d.val / 256 = 3; omega)
        have e' : (⟨d.val - 256 - 256 - 256, by omega⟩ : Fin 256) = ⟨d.val % 256, by omega⟩ :=
          Fin.ext (by show d.val - 256 - 256 - 256 = d.val % 256; omega)
        rw [e, e']; rfl

/-- The product of one head's 256 columns with its weights. -/
def headDot (u : Fin 1024 → EReal) (w : Fin 256 → Fin 256 → EReal) (q : Fin 4) (j : Fin 256) : EReal :=
  ∑ k : Fin 256, u ⟨q.val * 256 + k.val, by omega⟩ * w k j

/-- The products of the four heads, for the recurrence gate. -/
theorem headsA_apply (v40 v43 v49 v54 v59 : Vec Ideal S1x1024 .f32) (v42 v48 v53 v58 : Vec Ideal S256x1024 .f32)
    (w0 w1 w2 w3 : Vec Ideal S1x256x256 .bf16) (q : Fin 4) (i j : Fin 256) :
    (![k0_pay17 (k0_pay16 v40 v42 v43 v48 v49 v53 v54 v58 v59) w0, k0_pay19 (k0_pay15 v40 v42 v43 v48 v49 v53 v54 v58 v59) w1,
       k0_pay21 (k0_pay15 v40 v42 v43 v48 v49 v53 v54 v58 v59) w2, k0_pay23 (k0_pay15 v40 v42 v43 v48 v49 v53 v54 v58 v59) w3] q) (ix2 i j)
      = headDot (fun d => k0_pay11 v40 v42 v43 v48 v49 v53 v54 v58 v59 (ix2 i d))
          (fun k j => (![w0, w1, w2, w3] q) (ix3 0 k j)) q j := by
  fin_cases q
  · show k0_pay17 _ w0 (ix2 i j) = _
    pointwise [k0_pay17, k0_pay16, k0_pay15]
    refine Finset.sum_congr rfl fun k _ => congrArg₂ (· * ·) (congrArg _ (congrArg _ (Fin.ext ?_))) rfl
    show k.val = 0 * 256 + k.val
    omega
  · show k0_pay19 _ w1 (ix2 i j) = _
    pointwise [k0_pay19, k0_pay15]
    refine Finset.sum_congr rfl fun k _ => congrArg₂ (· * ·) (congrArg _ (congrArg _ (Fin.ext ?_))) rfl
    show 256 + k.val = 1 * 256 + k.val
    omega
  · show k0_pay21 _ w2 (ix2 i j) = _
    pointwise [k0_pay21, k0_pay15]
    refine Finset.sum_congr rfl fun k _ => congrArg₂ (· * ·) (congrArg _ (congrArg _ (Fin.ext ?_))) rfl
    show 512 + k.val = 2 * 256 + k.val
    omega
  · show k0_pay23 _ w3 (ix2 i j) = _
    pointwise [k0_pay23, k0_pay15]
    refine Finset.sum_congr rfl fun k _ => congrArg₂ (· * ·) (congrArg _ (congrArg _ (Fin.ext ?_))) rfl
    show 768 + k.val = 3 * 256 + k.val
    omega

/-- The products of the four heads, for the input gate. -/
theorem headsI_apply (v40 v43 v49 v54 v59 : Vec Ideal S1x1024 .f32) (v42 v48 v53 v58 : Vec Ideal S256x1024 .f32)
    (w0 w1 w2 w3 : Vec Ideal S1x256x256 .bf16) (q : Fin 4) (i j : Fin 256) :
    (![k0_pay18 (k0_pay15 v40 v42 v43 v48 v49 v53 v54 v58 v59) w0, k0_pay20 (k0_pay15 v40 v42 v43 v48 v49 v53 v54 v58 v59) w1,
       k0_pay22 (k0_pay15 v40 v42 v43 v48 v49 v53 v54 v58 v59) w2, k0_pay24 (k0_pay15 v40 v42 v43 v48 v49 v53 v54 v58 v59) w3] q) (ix2 i j)
      = headDot (fun d => k0_pay11 v40 v42 v43 v48 v49 v53 v54 v58 v59 (ix2 i d))
          (fun k j => (![w0, w1, w2, w3] q) (ix3 0 k j)) q j := by
  exact headsA_apply v40 v43 v49 v54 v59 v42 v48 v53 v58 w0 w1 w2 w3 q i j

/-- The logarithm of the decay. -/
theorem pay25_apply (v64 v68 : FVec Ideal S1x1024 .f32) (v73 v81 v89 v97 : FVec Ideal S256x256 .f32) (i : Fin 256) (d : Fin 1024) :
    k0_pay25 v64 v68 v73 v81 v89 v97 (ix2 i d)
      = logDecay (Ideal.logistic ((![v73, v81, v89, v97] ⟨d.val / 256, by omega⟩) (ix2 i ⟨d.val % 256, by omega⟩) + v64 (ix2 0 d)))
          (v68 (ix2 0 d)) := by
  pointwise [k0_pay25, cat_apply]
  unfold logDecay AttnMath.sp
  rw [zero_sub, zero_sub]
  rfl

/-- The decay. -/
theorem pay26_apply (v64 v68 : FVec Ideal S1x1024 .f32) (v73 v81 v89 v97 : FVec Ideal S256x256 .f32) (i : Fin 256) (d : Fin 1024) :
    k0_pay26 v64 v68 v73 v81 v89 v97 (ix2 i d) = Ideal.exp (k0_pay25 v64 v68 v73 v81 v89 v97 (ix2 i d)) := by
  pointwise [k0_pay26]

/-- Whether a point and row are the first of a sequence. -/
theorem first_mask (i : Fin 256) (n : Fin 17) :
    IntOp.andi (IntOp.cmpi .eq (BitVec.ofNat 32 i.val) 0#32) (IntOp.cmpi .eq (BitVec.ofNat 32 n.val) 0#32)
      = if i.val = 0 ∧ n.val = 0 then 1#1 else 0#1 := by
  have h : ∀ i : Fin 256, IntOp.cmpi .eq (BitVec.ofNat 32 i.val) 0#32 = if i.val = 0 then 1#1 else 0#1 := by decide +kernel
  have h' : ∀ n : Fin 17, IntOp.cmpi .eq (BitVec.ofNat 32 n.val) 0#32 = if n.val = 0 then 1#1 else 0#1 := by decide +kernel
  rw [h, h']
  by_cases hi : i.val = 0 <;> by_cases hn : n.val = 0 <;> simp [hi, hn] <;> rfl

/-- The input of a step. -/
theorem pay27_apply (n : Fin 17) (v62 : FVec Ideal S256x1024 .f32) (v64 v66 v68 : FVec Ideal S1x1024 .f32)
    (v73 v77 v81 v85 v89 v93 v97 v101 : FVec Ideal S256x256 .f32) (i : Fin 256) (d : Fin 1024) :
    k0_pay27 (BitVec.ofNat 32 n.val) v62 v64 v66 v68 v73 v77 v81 v85 v89 v93 v97 v101 (ix2 i d)
      = (if i.val = 0 ∧ n.val = 0 then 1 else
          Ideal.sqrt ((0 - Ideal.tanh (k0_pay25 v64 v68 v73 v81 v89 v97 (ix2 i d))) *
            (Ideal.exp (k0_pay25 v64 v68 v73 v81 v89 v97 (ix2 i d)) * Ideal.exp (k0_pay25 v64 v68 v73 v81 v89 v97 (ix2 i d)) + 1)))
        * (Ideal.logistic ((![v77, v85, v93, v101] ⟨d.val / 256, by omega⟩) (ix2 i ⟨d.val % 256, by omega⟩) + v66 (ix2 0 d))
          * v62 (ix2 i d)) := by
  pointwise [k0_pay27, cat_apply, pay26_apply]
  have e := first_mask i n
  by_cases h : i.val = 0 ∧ n.val = 0
  · rw [if_pos h] at e ⊢
    erw [e]
    rfl
  · rw [if_neg h] at e ⊢
    erw [e]
    rfl

/-! ### The scan -/

/-- The rows moved down by `k`, with `z` in the rows that come in. -/
def moved (k : BitVec 32) (a : FVec Ideal S256x1024 .f32) (z : Ideal .f32) : FVec Ideal S256x1024 .f32 :=
  select (broadcastTo S256x1024 (shapeCast S256x1 (cmpi .sge (iota .tc S256x1 32 [0] iota_S256x1_d0_w32)
      (broadcast S256x1 k)) shapeCasts_S256x1_S256x1) broadcasts_S256x1_S256x1024)
    (dynamicRotate 0 k none a rotates_S256x1024_d0) (broadcast S256x1024 z)

/-- Rows moved down by `k`, with a filler above. -/
theorem moved_apply {k : ℕ} (hk : k < 256) (a : FVec Ideal S256x1024 .f32) (z : Ideal .f32) (i : Fin 256) (j : Fin 1024) :
    moved (BitVec.ofNat 32 k) a z (ix2 i j) = if h : k ≤ i.val then a (ix2 ⟨i.val - k, by omega⟩ j) else z := by
  unfold moved
  pointwise
  have e : (BitVec.ofNat 32 k).toNat = k := by rw [BitVec.toNat_ofNat]; omega
  rw [WordCmp.cmpi_sge_ofNat (by omega) (by omega)]
  by_cases h : k ≤ i.val
  · rw [dif_pos h, decide_eq_true h]
    show a (ix2 _ j) = _
    refine congrArg a (congrArg (fun r => ix2 r j) (Fin.ext ?_))
    show (i.val + 256 - (BitVec.ofNat 32 k).toNat % 256) % 256 = i.val - k
    rw [e]
    omega
  · rw [dif_neg h, decide_eq_false h]
    rfl

/-- One round of the scan on the decays. -/
def roundA (k : BitVec 32) (a : FVec Ideal S256x1024 .f32) : FVec Ideal S256x1024 .f32 :=
  mulf a (moved k a (Scalar.ofBits .f32 0x3F800000#32))

/-- One round of the scan on the inputs. -/
def roundB (k : BitVec 32) (a b : FVec Ideal S256x1024 .f32) : FVec Ideal S256x1024 .f32 :=
  addf b (mulf a (moved k b (Scalar.ofBits .f32 0x00000000#32)))

/-- The decays after the rounds for distances below `2 ^ n`. -/
def scanA (a : FVec Ideal S256x1024 .f32) : ℕ → FVec Ideal S256x1024 .f32
  | 0 => a
  | n + 1 => roundA (BitVec.ofNat 32 (2 ^ n)) (scanA a n)

/-- The inputs after the rounds for distances below `2 ^ n`. -/
def scanB (a b : FVec Ideal S256x1024 .f32) : ℕ → FVec Ideal S256x1024 .f32
  | 0 => b
  | n + 1 => roundB (BitVec.ofNat 32 (2 ^ n)) (scanA a n) (scanB a b n)

/-- One column of a block, as a sequence. -/
def col (a : FVec Ideal S256x1024 .f32) (j : Fin 1024) (n : ℕ) : EReal := if h : n < 256 then a (ix2 ⟨n, h⟩ j) else 0

/-- The eight rounds of doubling stand for all the steps of the tile. -/
theorem scan_stands {a b : FVec Ideal S256x1024 .f32} {j : Fin 1024} (h0 : ∀ i < 256, 0 ≤ col a j i)
    (h1 : ∀ i < 256, col a j i ≠ ⊤) (n : ℕ) (hn : n ≤ 8) :
    Stands (col a j) (col b j) (2 ^ n) (col (scanA a n) j) (col (scanB a b n) j) := by
  induction n with
  | zero => exact stands_one h0 h1
  | succ n ih =>
    have hk : 2 ^ n < 256 := lt_of_lt_of_le (Nat.pow_lt_pow_right (by norm_num) (by omega : n < 8)) (by norm_num)
    have ih := ih (by omega)
    rw [pow_succ, mul_two]
    refine ih.double (fun i hi => ?_) (fun i hi => ?_)
    · show col (roundA _ _) j i = _
      unfold col
      rw [dif_pos hi, dif_pos hi, dif_pos ((Nat.sub_le i (2 ^ n)).trans_lt hi)]
      unfold roundA
      pointwise
      rw [moved_apply hk]
      rfl
    · show col (roundB _ _ _) j i = _
      unfold col
      rw [dif_pos hi, dif_pos hi, dif_pos hi, dif_pos ((Nat.sub_le i (2 ^ n)).trans_lt hi)]
      unfold roundB
      pointwise
      rw [moved_apply hk]
      rfl

/-- The hidden states of a block: the scan's result applied to the state before the block. -/
def hidden (a b : FVec Ideal S256x1024 .f32) (h : FVec Ideal S1x1024 .f32) : FVec Ideal S256x1024 .f32 :=
  addf (scanB a b 8) (mulf (scanA a 8) (broadcastTo S256x1024 h broadcasts_S1x1024_S256x1024))

/-- The scan runs the recurrence. -/
theorem hidden_apply {a b : FVec Ideal S256x1024 .f32} (h : FVec Ideal S1x1024 .f32) {j : Fin 1024}
    (h0 : ∀ i < 256, 0 ≤ col a j i) (h1 : ∀ i < 256, col a j i ≠ ⊤) (i : Fin 256) :
    hidden a b h (ix2 i j) = seg (col a j) (col b j) 0 (i.val + 1) (h (ix2 0 j)) := by
  have e := (scan_stands (b := b) h0 h1 8 (le_refl 8)).run i.val i.isLt (h (ix2 0 j))
  have e1 : i.val + 1 - 2 ^ 8 = 0 := by have := i.isLt; omega
  have e2 : min (2 ^ 8) (i.val + 1) = i.val + 1 := by have := i.isLt; omega
  rw [e1, e2] at e
  rw [← e]
  unfold hidden col
  rw [dif_pos i.isLt, dif_pos i.isLt]
  pointwise

end Cert.RgIdeal.Block
end
-- ==== Proof.RgScan.lean ====
module
public import proofs.«01_k».proof.Proof.RgPay
@[expose] public section

/-! The eight rounds of the scan, as the block's values spell them. -/

set_option maxRecDepth 16384
noncomputable section
namespace Cert.RgIdeal.Block
open Cert.RgIdeal Cert.RgIdeal.Gen Idealize.ShloMosaic Idealize.ShloMosaic.TcCoe Cert.Rows Cert.Recur

/-- The row numbers. -/
abbrev rowNo : IVec S256x1 32 := iota .tc S256x1 32 [0] iota_S256x1_d0_w32
/-- The number one. -/
abbrev one32 : Ideal .f32 := Scalar.ofBits .f32 0x3F800000#32
/-- The decays moved by one row, around the end. -/
abbrev rot1 (a : FVec Ideal S256x1024 .f32) : FVec Ideal S256x1024 .f32 := dynamicRotate 0 1#32 none a rotates_S256x1024_d0

variable (a b : FVec Ideal S256x1024 .f32)

theorem a1 : k0_pay31 a (rot1 a) one32 k0_pay30 = scanA a 1 := rfl
theorem a2 : k0_pay33 a rowNo (rot1 a) one32 k0_pay30 = scanA a 2 :=
  (show k0_pay33 a rowNo (rot1 a) one32 k0_pay30 = roundA 2#32 (k0_pay31 a (rot1 a) one32 k0_pay30) from rfl).trans
    (congrArg (roundA 2#32) (a1 a))
theorem a3 : k0_pay36 a rowNo (rot1 a) one32 k0_pay30 = scanA a 3 :=
  (show k0_pay36 a rowNo (rot1 a) one32 k0_pay30 = roundA 4#32 (k0_pay33 a rowNo (rot1 a) one32 k0_pay30) from rfl).trans
    (congrArg (roundA 4#32) (a2 a))
theorem a3r : k0_pay38 a rowNo (rot1 a) one32 k0_pay30 = dynamicRotate 0 8#32 none (scanA a 3) rotates_S256x1024_d0 :=
  congrArg (fun x => dynamicRotate 0 8#32 none x rotates_S256x1024_d0) (a3 a)

/-- A fourth round on decays and the four rounds after it, over any operands. -/
theorem a4 (x : FVec Ideal S256x1024 .f32) :
    k0_pay40 x (dynamicRotate 0 8#32 none x rotates_S256x1024_d0) one32 (k0_pay39 rowNo) = roundA 8#32 x := rfl
theorem a5 (x : FVec Ideal S256x1024 .f32) :
    k0_pay42 rowNo x (dynamicRotate 0 8#32 none x rotates_S256x1024_d0) one32 (k0_pay39 rowNo) = roundA 16#32 (roundA 8#32 x) :=
  (show _ = roundA 16#32 (k0_pay40 x (dynamicRotate 0 8#32 none x rotates_S256x1024_d0) one32 (k0_pay39 rowNo)) from rfl).trans
    (congrArg (roundA 16#32) (a4 x))
theorem a6 (x : FVec Ideal S256x1024 .f32) :
    k0_pay45 rowNo x (dynamicRotate 0 8#32 none x rotates_S256x1024_d0) one32 (k0_pay39 rowNo)
      = roundA 32#32 (roundA 16#32 (roundA 8#32 x)) :=
  (show _ = roundA 32#32 (k0_pay42 rowNo x (dynamicRotate 0 8#32 none x rotates_S256x1024_d0) one32 (k0_pay39 rowNo)) from rfl).trans
    (congrArg (roundA 32#32) (a5 x))
theorem a6r (x : FVec Ideal S256x1024 .f32) :
    k0_pay47 rowNo x (dynamicRotate 0 8#32 none x rotates_S256x1024_d0) one32 (k0_pay39 rowNo)
      = dynamicRotate 0 64#32 none (roundA 32#32 (roundA 16#32 (roundA 8#32 x))) rotates_S256x1024_d0 :=
  congrArg (fun x => dynamicRotate 0 64#32 none x rotates_S256x1024_d0) (a6 x)

theorem b3 : k0_pay35 a rowNo b k0_pay28 (rot1 a) one32 k0_pay30 = scanB a b 3 := by
  refine (show _ = roundB 4#32 (k0_pay33 a rowNo (rot1 a) one32 k0_pay30)
    (roundB 2#32 (k0_pay31 a (rot1 a) one32 k0_pay30) (roundB 1#32 a b)) from rfl).trans ?_
  rw [a1, a2]
  rfl
theorem b6 (x y : FVec Ideal S256x1024 .f32) :
    k0_pay44 rowNo y x (k0_pay37 rowNo) (dynamicRotate 0 8#32 none x rotates_S256x1024_d0) one32 (k0_pay39 rowNo)
      = roundB 32#32 (roundA 16#32 (roundA 8#32 x)) (roundB 16#32 (roundA 8#32 x) (roundB 8#32 x y)) := by
  refine (show _ = roundB 32#32 (k0_pay42 rowNo x (dynamicRotate 0 8#32 none x rotates_S256x1024_d0) one32 (k0_pay39 rowNo))
    (roundB 16#32 (k0_pay40 x (dynamicRotate 0 8#32 none x rotates_S256x1024_d0) one32 (k0_pay39 rowNo)) (roundB 8#32 x y)) from rfl).trans ?_
  rw [a4, a5]

/-- The last two rounds, applied to the state before the block. -/
theorem b8 (x y : FVec Ideal S256x1024 .f32) (h : Vec Ideal S1x1024 .f32) :
    k0_pay49 rowNo y x (k0_pay46 rowNo) (dynamicRotate 0 64#32 none x rotates_S256x1024_d0) one32 (k0_pay48 rowNo) h
      = addf (roundB 128#32 (roundA 64#32 x) (roundB 64#32 x y))
          (mulf (roundA 128#32 (roundA 64#32 x)) (broadcastTo S256x1024 h broadcasts_S1x1024_S256x1024)) := rfl

/-- The hidden states of a block, as its values spell them. -/
theorem hidden_eq (h : Vec Ideal S1x1024 .f32) :
    k0_pay49 rowNo
      (k0_pay44 rowNo (k0_pay35 a rowNo b k0_pay28 (rot1 a) one32 k0_pay30) (k0_pay36 a rowNo (rot1 a) one32 k0_pay30)
        (k0_pay37 rowNo) (k0_pay38 a rowNo (rot1 a) one32 k0_pay30) one32 (k0_pay39 rowNo))
      (k0_pay45 rowNo (k0_pay36 a rowNo (rot1 a) one32 k0_pay30) (k0_pay38 a rowNo (rot1 a) one32 k0_pay30) one32 (k0_pay39 rowNo))
      (k0_pay46 rowNo)
      (k0_pay47 rowNo (k0_pay36 a rowNo (rot1 a) one32 k0_pay30) (k0_pay38 a rowNo (rot1 a) one32 k0_pay30) one32 (k0_pay39 rowNo))
      one32 (k0_pay48 rowNo) h = hidden a b h := by
  rw [a3r, a3, a6, a6r, b3, b6, b8]
  rfl

end Cert.RgIdeal.Block
end
-- ==== Proof.RgBlock.lean ====
module
public import proofs.«01_k».proof.Proof.Gen.RgIdeal.Value
public import proofs.«01_k».proof.Proof.RgScan
public import Idealize.ShloMosaic.Lib.WritesUnit
@[expose] public section

/-! The recurrence: what one grid point writes, of its blocks and of what the point before left. -/

set_option maxRecDepth 16384
noncomputable section
namespace Cert.RgIdeal.Block
open Cert.RgIdeal Cert.RgIdeal.Gen Idealize.ShloMosaic Idealize.ShloMosaic.TcCoe Idealize.SL.Sem Cert.Rows Cert.Recur

/-! ### The rows the convolution reads -/

/-- Eight rows from before the block, and the block's rows after them. -/
def ext (hist : Vec Ideal S264x1024 .f32) (w : FVec Ideal S256x1024 .f32) : Vec Ideal S264x1024 .f32 := fun y =>
  if h : 8 ≤ (y 0).val then w (ix2 ⟨(y 0).val - 8, by have : (y 0).val < 264 := (y 0).isLt; omega⟩ ⟨(y 1).val, (y 1).isLt⟩) else hist y

/-- No rows. -/
def noRows : Vec Ideal S264x1024 .f32 := fun _ => 0

/-- A cast to the same shape changes nothing. -/
theorem pay10_eq (w : FVec Ideal S256x1024 .f32) : k0_pay10 w = w := by
  funext y
  idx_vars y
  pointwise [k0_pay10]

/-- A sequence starts after eight rows of zeros. -/
theorem pay5_apply (y : S8x1024.Idx) : (k0_pay5 : FVec Ideal S8x1024 .f32) y = 0 := by
  idx_vars y
  pointwise [k0_pay5]

/-- Rows stored from row 8 on. -/
theorem stored (f : (View.whole cc0_scratch0).ty.Contents (Elt Ideal)) (w : FVec Ideal S256x1024 .f32)
    (L : List (View.Piece (Elt Ideal) S264x1024 .f32)) :
    View.read (Elt Ideal) (View.whole cc0_scratch0) ((View.whole cc0_scratch0).writes (Elt Ideal) f
      ((⟨Rect.unit ![8, 0] ![256, 1024] inb_S264x1024_S256x1024_8_0, k0_pay10 w⟩ : View.Piece (Elt Ideal) S264x1024 .f32) :: L))
      = ext (View.read (Elt Ideal) (View.whole cc0_scratch0) ((View.whole cc0_scratch0).writes (Elt Ideal) f L)) w := by
  funext y
  have hy : (y 0).val < 264 := (y 0).isLt
  refine (View.read_writes_cons_rows (d := ![264, 1024]) (o := 8) (W := 256) (View.whole cc0_scratch0) f
    inb_S264x1024_S256x1024_8_0 (k0_pay10 w) L y rfl rfl rfl).trans ?_
  unfold ext
  by_cases h8 : 8 ≤ (y 0).val
  · rw [dif_pos ⟨h8, by omega⟩, dif_pos h8, pay10_eq]
    refine congrArg w (funext fun a => ?_)
    match a with
    | ⟨0, _⟩ => rfl
    | ⟨1, _⟩ => rfl
  · rw [dif_neg (fun h => h8 h.1), dif_neg h8]

/-- The block's rows stored over the rows kept from the point before. -/
theorem kept_rows (h : (Memref.whole cc0_scratch0).IsWhole) (xs : Vec Ideal S264x1024 .f32) (w : FVec Ideal S256x1024 .f32) :
    View.read (Elt Ideal) (View.whole cc0_scratch0) ((View.whole cc0_scratch0).writes (Elt Ideal) (h.unread xs)
      [⟨Rect.unit ![8, 0] ![256, 1024] inb_S264x1024_S256x1024_8_0, k0_pay10 w⟩]) = ext xs w :=
  (stored (h.unread xs) w []).trans (congrArg (fun z => ext z w) (h.read_unread xs))

/-- The extended rows depend only on the first eight rows of what was there. -/
theorem ext_congr {a b : Vec Ideal S264x1024 .f32} (w : FVec Ideal S256x1024 .f32) (h : ∀ y, (y 0).val < 8 → a y = b y) : ext a w = ext b w := by
  funext y
  unfold ext
  by_cases h8 : 8 ≤ (y 0).val
  · rw [dif_pos h8, dif_pos h8]
  · rw [dif_neg h8, dif_neg h8, h y (by omega)]

/-- The block's rows stored over rows of zeros. -/
theorem first_rows (w : FVec Ideal S256x1024 .f32) (r : Rect S264x1024) :
    (View.whole cc0_scratch0).readCov (Val := Elt Ideal) [⟨Rect.unit ![8, 0] ![256, 1024] inb_S264x1024_S256x1024_8_0, k0_pay10 w⟩,
      ⟨Rect.unit ![0, 0] ![8, 1024] inb_S264x1024_S8x1024_0_0, (k0_pay5 : FVec Ideal S8x1024 .f32)⟩] r.toLoadRect = View.ld (ext noRows w) r := by
  have e := stored (View.whole cc0_scratch0).junk w [⟨Rect.unit ![0, 0] ![8, 1024] inb_S264x1024_S8x1024_0_0, (k0_pay5 : FVec Ideal S8x1024 .f32)⟩]
  refine (show _ = View.ld _ r from rfl).trans (congrArg (fun z => View.ld z r) (e.trans (ext_congr w fun y hy => ?_)))
  refine (View.read_writes_cons_rows (Val := Elt Ideal) (d := ![264, 1024]) (o := 0) (W := 8) (View.whole cc0_scratch0) (View.whole cc0_scratch0).junk
    inb_S264x1024_S8x1024_0_0 (k0_pay5 : FVec Ideal S8x1024 .f32) [] y rfl rfl rfl).trans ?_
  rw [dif_pos ⟨Nat.zero_le _, by omega⟩]
  exact pay5_apply _

/-- The block's own rows. -/
theorem own_rows (hist : Vec Ideal S264x1024 .f32) (w : FVec Ideal S256x1024 .f32) (L : List (View.Piece (Elt Ideal) S264x1024 .f32)) :
    (View.whole cc0_scratch0).readCov (Val := Elt Ideal) (⟨Rect.unit ![8, 0] ![256, 1024] inb_S264x1024_S256x1024_8_0, k0_pay10 w⟩ :: L)
      (Rect.unit ![8, 0] ![256, 1024] inb_S264x1024_S256x1024_8_0).toLoadRect
      = View.ld (ext hist w) (Rect.unit ![8, 0] ![256, 1024] inb_S264x1024_S256x1024_8_0) := by
  refine (show _ = View.ld _ _ from rfl).trans ((congrArg (fun z => View.ld z _) (stored (View.whole cc0_scratch0).junk w L)).trans ?_)
  funext x
  rw [View.ld_apply, View.ld_apply]
  unfold ext
  have h8 : 8 ≤ ((Rect.unit (s := S264x1024) ![8, 0] ![256, 1024] inb_S264x1024_S256x1024_8_0).idx x 0).val := Nat.le_add_right 8 _
  rw [dif_pos h8, dif_pos h8]

/-! ### The block's values, of the rows the convolution reads -/

/-- The windows and the parameters a block's gates read. -/
structure Params where
  cw : Vec Ideal S4x1024 .f32
  cb : Vec Ideal S1x1024 .f32
  wa : Vec Ideal S4x256x256 .bf16
  ba : Vec Ideal S1x1024 .f32
  wi : Vec Ideal S4x256x256 .bf16
  bi : Vec Ideal S1x1024 .f32
  lam : Vec Ideal S1x1024 .f32

/-- Rows 5 to 260. -/
abbrev rows5 (e : Vec Ideal S264x1024 .f32) : Vec Ideal S256x1024 .f32 := View.ld e (Rect.unit ![5, 0] ![256, 1024] inb_S264x1024_S256x1024_5_0)
/-- Rows 6 to 261. -/
abbrev rows6 (e : Vec Ideal S264x1024 .f32) : Vec Ideal S256x1024 .f32 := View.ld e (Rect.unit ![6, 0] ![256, 1024] inb_S264x1024_S256x1024_6_0)
/-- Rows 7 to 262. -/
abbrev rows7 (e : Vec Ideal S264x1024 .f32) : Vec Ideal S256x1024 .f32 := View.ld e (Rect.unit ![7, 0] ![256, 1024] inb_S264x1024_S256x1024_7_0)
/-- Rows 8 to 263. -/
abbrev rows8 (e : Vec Ideal S264x1024 .f32) : Vec Ideal S256x1024 .f32 := View.ld e (Rect.unit ![8, 0] ![256, 1024] inb_S264x1024_S256x1024_8_0)

namespace Params
variable (p : Params)
/-- One tap of the convolution. -/
abbrev tap0 : Vec Ideal S1x1024 .f32 := View.ld p.cw (Rect.unit ![0, 0] ![1, 1024] inb_S4x1024_S1x1024_0_0)
/-- One tap of the convolution. -/
abbrev tap1 : Vec Ideal S1x1024 .f32 := View.ld p.cw (Rect.unit ![1, 0] ![1, 1024] inb_S4x1024_S1x1024_1_0)
/-- One tap of the convolution. -/
abbrev tap2 : Vec Ideal S1x1024 .f32 := View.ld p.cw (Rect.unit ![2, 0] ![1, 1024] inb_S4x1024_S1x1024_2_0)
/-- One tap of the convolution. -/
abbrev tap3 : Vec Ideal S1x1024 .f32 := View.ld p.cw (Rect.unit ![3, 0] ![1, 1024] inb_S4x1024_S1x1024_3_0)
/-- One head's weights. -/
abbrev head0 (w : Vec Ideal S4x256x256 .bf16) : Vec Ideal S1x256x256 .bf16 := View.ld w (Rect.unit ![0, 0, 0] ![1, 256, 256] inb_S4x256x256_S1x256x256_0_0_0)
/-- One head's weights. -/
abbrev head1 (w : Vec Ideal S4x256x256 .bf16) : Vec Ideal S1x256x256 .bf16 := View.ld w (Rect.unit ![1, 0, 0] ![1, 256, 256] inb_S4x256x256_S1x256x256_1_0_0)
/-- One head's weights. -/
abbrev head2 (w : Vec Ideal S4x256x256 .bf16) : Vec Ideal S1x256x256 .bf16 := View.ld w (Rect.unit ![2, 0, 0] ![1, 256, 256] inb_S4x256x256_S1x256x256_2_0_0)
/-- One head's weights. -/
abbrev head3 (w : Vec Ideal S4x256x256 .bf16) : Vec Ideal S1x256x256 .bf16 := View.ld w (Rect.unit ![3, 0, 0] ![1, 256, 256] inb_S4x256x256_S1x256x256_3_0_0)

variable (r5 r6 r7 r8 : Vec Ideal S256x1024 .f32)

/-- The convolved rows. -/
abbrev xc : FVec Ideal S256x1024 .f32 := k0_pay11 p.cb r5 p.tap0 r6 p.tap1 r7 p.tap2 r8 p.tap3
/-- The convolved rows, as the gates read them. -/
abbrev xb : FVec Ideal S256x1024 .bf16 := k0_pay15 p.cb r5 p.tap0 r6 p.tap1 r7 p.tap2 r8 p.tap3
/-- The first head's convolved rows. -/
abbrev xb0 : FVec Ideal S256x256 .bf16 := k0_pay16 p.cb r5 p.tap0 r6 p.tap1 r7 p.tap2 r8 p.tap3

/-- The decays of the block's rows. -/
def decays : FVec Ideal S256x1024 .f32 :=
  k0_pay26 (k0_pay12 p.ba) (k0_pay14 p.lam) (k0_pay17 (p.xb0 r5 r6 r7 r8) (head0 p.wa)) (k0_pay19 (p.xb r5 r6 r7 r8) (head1 p.wa))
    (k0_pay21 (p.xb r5 r6 r7 r8) (head2 p.wa)) (k0_pay23 (p.xb r5 r6 r7 r8) (head3 p.wa))

/-- The decays moved by one row, as a block's first round reads them. -/
def decaysMoved : FVec Ideal S256x1024 .f32 :=
  k0_pay29 (k0_pay12 p.ba) (k0_pay14 p.lam) (k0_pay17 (p.xb0 r5 r6 r7 r8) (head0 p.wa)) (k0_pay19 (p.xb r5 r6 r7 r8) (head1 p.wa))
    (k0_pay21 (p.xb r5 r6 r7 r8) (head2 p.wa)) (k0_pay23 (p.xb r5 r6 r7 r8) (head3 p.wa))

/-- The moved decays are the decays, one row down. -/
theorem decaysMoved_eq : p.decaysMoved r5 r6 r7 r8 = rot1 (p.decays r5 r6 r7 r8) := rfl

/-- The inputs of the block's rows, the `n`th block of its sequence. -/
def inputs (n : Fin 17) : FVec Ideal S256x1024 .f32 :=
  k0_pay27 (BitVec.ofNat 32 n.val) (p.xc r5 r6 r7 r8) (k0_pay12 p.ba) (k0_pay13 p.bi) (k0_pay14 p.lam) (k0_pay17 (p.xb0 r5 r6 r7 r8) (head0 p.wa))
    (k0_pay18 (p.xb r5 r6 r7 r8) (head0 p.wi)) (k0_pay19 (p.xb r5 r6 r7 r8) (head1 p.wa)) (k0_pay20 (p.xb r5 r6 r7 r8) (head1 p.wi)) (k0_pay21 (p.xb r5 r6 r7 r8) (head2 p.wa))
    (k0_pay22 (p.xb r5 r6 r7 r8) (head2 p.wi)) (k0_pay23 (p.xb r5 r6 r7 r8) (head3 p.wa)) (k0_pay24 (p.xb r5 r6 r7 r8) (head3 p.wi))

/-- The hidden states of the block's rows. -/
abbrev states (n : Fin 17) (h : Vec Ideal S1x1024 .f32) : FVec Ideal S256x1024 .f32 := hidden (p.decays r5 r6 r7 r8) (p.inputs r5 r6 r7 r8 n) h

end Params

/-- The block written back: the rows plus the normed projection of the gated states. -/
theorem out_of {v134 : IVec S256x1 32} {v233 v234 : FVec Ideal S256x1024 .f32} {v236 : IVec S256x1 1} {v237 : FVec Ideal S256x1024 .f32}
    {cst : Ideal .f32} {v239 : IVec S256x1024 1} {h : Vec Ideal S1x1024 .f32} {hs : FVec Ideal S256x1024 .f32}
    (e : k0_pay49 v134 v233 v234 v236 v237 cst v239 h = hs) (x0 v35 : FVec Ideal S256x1024 .f32) (w : Vec Ideal S1024x1024 .bf16)
    (g : Vec Ideal S1x1024 .f32) (i : Fin 256) (j : Fin 1024) :
    k0_pay1 x0 (k0_pay51 v35 v134 v233 v234 v236 v237 cst v239 h w) (k0_pay52 g) (k0_pay53 v35 v134 v233 v234 v236 v237 cst v239 h w) (ix2 i j)
      = x0 (ix2 i j) + rms (dot (fun l => hs (ix2 i l) * v35 (ix2 i l)) (fun l k => w (ix2 l k))) (fun k => g (ix2 0 k)) j := by
  subst e
  pointwise [k0_pay1, k0_pay51, k0_pay52, k0_pay53]
  rfl

/-- The state left for the next block. -/
theorem last_of {v134 : IVec S256x1 32} {v233 v234 : FVec Ideal S256x1024 .f32} {v236 : IVec S256x1 1} {v237 : FVec Ideal S256x1024 .f32}
    {cst : Ideal .f32} {v239 : IVec S256x1024 1} {h : Vec Ideal S1x1024 .f32} {hs : FVec Ideal S256x1024 .f32}
    (e : k0_pay49 v134 v233 v234 v236 v237 cst v239 h = hs) (j : Fin 1024) :
    k0_pay50 v134 v233 v234 v236 v237 cst v239 h (ix2 0 j) = hs (ix2 255 j) := by
  subst e
  pointwise [k0_pay50]

end Cert.RgIdeal.Block
end
-- ==== Proof.RgPoint.lean ====
module
public import proofs.«01_k».proof.Proof.RgBlock
@[expose] public section

/-! The recurrence: the three kinds of grid point (a sequence's first block, one in between, its last). -/

set_option maxRecDepth 16384
noncomputable section
namespace Cert.RgIdeal.Block
open Cert.RgIdeal Cert.RgIdeal.Gen Idealize.ShloMosaic Idealize.ShloMosaic.TcCoe Idealize.SL.Sem Cert.Rows Cert.Recur

variable (m : (ℓ : Loc nD τ sig) → Buf (Elt Ideal) ℓ) (c : Dev nD)

/-- The parameters a point reads. -/
def params (t : Fin cfg0.N) : Params :=
  ⟨iblk m c 4 t, iblk m c 5 t, iblk m c 6 t, iblk m c 7 t, iblk m c 8 t, iblk m c 9 t, iblk m c 10 t⟩

/-- The rows of the recurrence's branch at a point. -/
def branch (t : Fin cfg0.N) : FVec Ideal S256x1024 .f32 := k0_pay9 (iblk m c 0 t) (iblk m c 1 t) (iblk m c 3 t)

/-- The rows of the output gate at a point. -/
def gates (t : Fin cfg0.N) : FVec Ideal S256x1024 .f32 := k0_pay8 (iblk m c 0 t) (iblk m c 1 t) (iblk m c 3 t)

/-- The rows a point reads. -/
def rowsIn (t : Fin cfg0.N) : FVec Ideal S256x1024 .f32 := iblk m c 0 t
/-- The output projection. -/
def outWeights (t : Fin cfg0.N) : Vec Ideal S1024x1024 .bf16 := iblk m c 11 t
/-- The gain of the last norm. -/
def outGain (t : Fin cfg0.N) : Vec Ideal S1x1024 .f32 := iblk m c 2 t

/-- What a point leaves, of its branch `w`, its decays `a`, its inputs `b` and the state `h` before it. -/
structure Leaves (t : Fin cfg0.N) (w a b : FVec Ideal S256x1024 .f32) (h : Vec Ideal S1x1024 .f32) : Prop where
  out : ∀ (i : Fin 256) (j : Fin 1024), (outsAt0 m c t.val t.isLt).1 (ix2 i j) = rowsIn m c t (ix2 i j)
    + rms (dot (fun l => hidden a b h (ix2 i l) * gates m c t (ix2 i l))
        (fun l k => outWeights m c t (ix2 l k))) (fun k => outGain m c t (ix2 0 k)) j
  kept : ∀ (i : Fin 8) (j : Fin 1024), (outsAt0 m c t.val t.isLt).2.2.2.1 (ix2 ⟨i.val, by omega⟩ j) = w (ix2 ⟨248 + i.val, by omega⟩ j)
  last : ∀ j : Fin 1024, (outsAt0 m c t.val t.isLt).2.2.2.2 (ix2 0 j) = hidden a b h (ix2 255 j)

/-- The rows kept for the next point, read where they were stored. -/
theorem kept_apply (w : FVec Ideal S256x1024 .f32) (L : List (View.Piece (Elt Ideal) S264x1024 .f32)) (i : Fin 8) (j : Fin 1024) :
    View.canon ((⟨Rect.unit ![0, 0] ![8, 1024] inb_S264x1024_S8x1024_0_0, k0_pay2 w⟩ : View.Piece (Elt Ideal) S264x1024 .f32) :: L)
      (ix2 ⟨i.val, by omega⟩ j) = w (ix2 ⟨248 + i.val, by omega⟩ j) := by
  refine (congrFun (View.read_writes_junk_eq_canon (View.whole cc0_scratch0) _) _).symm.trans ?_
  refine (View.read_writes_cons_rows_of_mem (Val := Elt Ideal) (d := ![264, 1024]) (o := 0) (View.whole cc0_scratch0) (View.whole cc0_scratch0).junk
    inb_S264x1024_S8x1024_0_0 (k0_pay2 w) L (ix2 ⟨i.val, by omega⟩ j) (ix2 i j) rfl (Nat.zero_add _).symm rfl).trans ?_
  pointwise [k0_pay2]

/-- The scratch after the block's rows are stored over the rows kept from the point before. -/
abbrev over (xs : Vec Ideal S264x1024 .f32) (w : FVec Ideal S256x1024 .f32) : Vec Ideal S264x1024 .f32 :=
  View.read (Elt Ideal) (View.whole cc0_scratch0) ((View.whole cc0_scratch0).writes (Elt Ideal) ((Memref.isWhole_whole cc0_scratch0).unread xs)
      [⟨Rect.unit ![8, 0] ![256, 1024] inb_S264x1024_S256x1024_8_0, k0_pay10 w⟩])

/-- The windows the convolution reads when rows are kept from the point before. -/
def Windows (xs : Vec Ideal S264x1024 .f32) (w r5 r6 r7 r8 : FVec Ideal S256x1024 .f32) : Prop :=
  rows5 (over xs w) = r5 ∧ rows6 (over xs w) = r6 ∧ rows7 (over xs w) = r7 ∧
  (View.whole cc0_scratch0).readCov (Val := Elt Ideal) [⟨Rect.unit ![8, 0] ![256, 1024] inb_S264x1024_S256x1024_8_0, k0_pay10 w⟩]
      (Rect.unit ![8, 0] ![256, 1024] inb_S264x1024_S256x1024_8_0).toLoadRect = r8

/-- What a first block stores in the scratch. -/
abbrev fresh (w : FVec Ideal S256x1024 .f32) : List (View.Piece (Elt Ideal) S264x1024 .f32) :=
  [⟨Rect.unit ![8, 0] ![256, 1024] inb_S264x1024_S256x1024_8_0, k0_pay10 w⟩,
    ⟨Rect.unit ![0, 0] ![8, 1024] inb_S264x1024_S8x1024_0_0, (k0_pay5 : FVec Ideal S8x1024 .f32)⟩]

/-- The windows the convolution reads in a sequence's first block. -/
def FirstWindows (w r5 r6 r7 r8 : FVec Ideal S256x1024 .f32) : Prop :=
  (View.whole cc0_scratch0).readCov (Val := Elt Ideal) (fresh w) (Rect.unit ![5, 0] ![256, 1024] inb_S264x1024_S256x1024_5_0).toLoadRect = r5 ∧
  (View.whole cc0_scratch0).readCov (Val := Elt Ideal) (fresh w) (Rect.unit ![6, 0] ![256, 1024] inb_S264x1024_S256x1024_6_0).toLoadRect = r6 ∧
  (View.whole cc0_scratch0).readCov (Val := Elt Ideal) (fresh w) (Rect.unit ![7, 0] ![256, 1024] inb_S264x1024_S256x1024_7_0).toLoadRect = r7 ∧
  (View.whole cc0_scratch0).readCov (Val := Elt Ideal) (fresh w) (Rect.unit ![8, 0] ![256, 1024] inb_S264x1024_S256x1024_8_0).toLoadRect = r8

set_option maxHeartbeats 4000000 in
/-- A sequence's first block. -/
theorem at_A (t : Fin cfg0.N) (h0 : t.val % 17 = 0) (h1 : ¬t.val % 17 = 16) (w r5 r6 r7 r8 a b : FVec Ideal S256x1024 .f32)
    (hw : k0_pay9 (iblk m c 0 t) (iblk m c 1 t) (iblk m c 3 t) = w) (hr : FirstWindows w r5 r6 r7 r8)
    (ha : (params m c t).decays r5 r6 r7 r8 = a) (hv : (params m c t).decaysMoved r5 r6 r7 r8 = rot1 a)
    (hb : (params m c t).inputs r5 r6 r7 r8 (grid0.coords t 1) = b) : Leaves m c t w a b (k0_pay6 : FVec Ideal S1x1024 .f32) := by
  simp only [params, Params.decays, Params.decaysMoved, Params.inputs, Params.xb, Params.xc, Params.xb0, Params.tap0, Params.tap1, Params.tap2, Params.tap3,
    Params.head0, Params.head1, Params.head2, Params.head3] at ha hv hb
  dsimp only [FirstWindows, fresh] at hr
  obtain ⟨h5, h6, h7, h8⟩ := hr
  constructor
  · intro i j
    rw [outsAt0_A m c t h0 h1]
    dsimp only
    frame_out
    rw [hw, h5, h6, h7, h8]
    rw [ha]
    rw [hv]
    rw [hb]
    exact out_of (hidden_eq a b _) _ _ _ _ i j
  · intro i j
    rw [outsAt0_A m c t h0 h1]
    dsimp only
    frame_out
    rw [hw]
    exact kept_apply w _ i j
  · intro j
    rw [outsAt0_A m c t h0 h1]
    dsimp only
    frame_out
    rw [hw, h5, h6, h7, h8]
    rw [ha]
    rw [hv]
    rw [hb]
    exact last_of (hidden_eq a b _) j

set_option maxHeartbeats 4000000 in
/-- A block in between. -/
theorem at_B (t : Fin cfg0.N) (h0 : ¬t.val % 17 = 0) (h1 : ¬t.val % 17 = 16) (h : Vec Ideal S1x1024 .f32) (o) (ho : outsAt0 m c (t.val - 1) (by have := t.isLt; omega) = o)
    (hh : View.read (Elt Ideal) (View.whole cc0_scratch1) ((Memref.isWhole_whole cc0_scratch1).unread o.2.2.2.2) = h)
    (w r5 r6 r7 r8 a b : FVec Ideal S256x1024 .f32)
    (hw : k0_pay9 (iblk m c 0 t) (iblk m c 1 t) (iblk m c 3 t) = w) (hr : Windows o.2.2.2.1 w r5 r6 r7 r8)
    (ha : (params m c t).decays r5 r6 r7 r8 = a) (hv : (params m c t).decaysMoved r5 r6 r7 r8 = rot1 a)
    (hb : (params m c t).inputs r5 r6 r7 r8 (grid0.coords t 1) = b) : Leaves m c t w a b h := by
  simp only [params, Params.decays, Params.decaysMoved, Params.inputs, Params.xb, Params.xc, Params.xb0, Params.tap0, Params.tap1, Params.tap2, Params.tap3,
    Params.head0, Params.head1, Params.head2, Params.head3] at ha hv hb
  dsimp only [Windows, rows5, rows6, rows7, over] at hr
  obtain ⟨h5, h6, h7, h8⟩ := hr
  constructor
  · intro i j
    rw [outsAt0_B m c t h0 h1, ho]
    dsimp only
    frame_out
    rw [hw, h5, h6, h7, h8]
    rw [ha]
    rw [hv]
    rw [hb]
    rw [hh]
    exact out_of (hidden_eq a b _) _ _ _ _ i j
  · intro i j
    rw [outsAt0_B m c t h0 h1, ho]
    dsimp only
    frame_out
    rw [hw]
    exact kept_apply w _ i j
  · intro j
    rw [outsAt0_B m c t h0 h1, ho]
    dsimp only
    frame_out
    rw [hw, h5, h6, h7, h8]
    rw [ha]
    rw [hv]
    rw [hb]
    rw [hh]
    exact last_of (hidden_eq a b _) j

set_option maxHeartbeats 4000000 in
/-- A sequence's last block. -/
theorem at_C (t : Fin cfg0.N) (h0 : ¬t.val % 17 = 0) (h1 : t.val % 17 = 16) (h : Vec Ideal S1x1024 .f32) (o) (ho : outsAt0 m c (t.val - 1) (by have := t.isLt; omega) = o)
    (hh : View.read (Elt Ideal) (View.whole cc0_scratch1) ((Memref.isWhole_whole cc0_scratch1).unread o.2.2.2.2) = h)
    (w r5 r6 r7 r8 a b : FVec Ideal S256x1024 .f32)
    (hw : k0_pay9 (iblk m c 0 t) (iblk m c 1 t) (iblk m c 3 t) = w) (hr : Windows o.2.2.2.1 w r5 r6 r7 r8)
    (ha : (params m c t).decays r5 r6 r7 r8 = a) (hv : (params m c t).decaysMoved r5 r6 r7 r8 = rot1 a)
    (hb : (params m c t).inputs r5 r6 r7 r8 (grid0.coords t 1) = b) : Leaves m c t w a b h := by
  simp only [params, Params.decays, Params.decaysMoved, Params.inputs, Params.xb, Params.xc, Params.xb0, Params.tap0, Params.tap1, Params.tap2, Params.tap3,
    Params.head0, Params.head1, Params.head2, Params.head3] at ha hv hb
  dsimp only [Windows, rows5, rows6, rows7, over] at hr
  obtain ⟨h5, h6, h7, h8⟩ := hr
  constructor
  · intro i j
    rw [outsAt0_C m c t h0 h1, ho]
    dsimp only
    frame_out
    rw [hw, h5, h6, h7, h8]
    rw [ha]
    rw [hv]
    rw [hb]
    rw [hh]
    exact out_of (hidden_eq a b _) _ _ _ _ i j
  · intro i j
    rw [outsAt0_C m c t h0 h1, ho]
    dsimp only
    frame_out
    rw [hw]
    exact kept_apply w _ i j
  · intro j
    rw [outsAt0_C m c t h0 h1, ho]
    dsimp only
    frame_out
    rw [hw, h5, h6, h7, h8]
    rw [ha]
    rw [hv]
    rw [hb]
    rw [hh]
    exact last_of (hidden_eq a b _) j

/-- The states written back from a last block. -/
theorem tail_of {v134 : IVec S256x1 32} {v233 v234 : FVec Ideal S256x1024 .f32} {v236 : IVec S256x1 1} {v237 : FVec Ideal S256x1024 .f32}
    {cst : Ideal .f32} {v239 : IVec S256x1024 1} {h : Vec Ideal S1x1024 .f32} {hs : FVec Ideal S256x1024 .f32}
    (e : k0_pay49 v134 v233 v234 v236 v237 cst v239 h = hs) (i : Fin 8) (j : Fin 1024) :
    k0_pay4 (k0_pay49 v134 v233 v234 v236 v237 cst v239 h) (ix3 0 i j) = hs (ix2 ⟨8 + i.val, by omega⟩ j) := by
  subst e
  pointwise [k0_pay4]

set_option maxHeartbeats 4000000 in
/-- The rows a last block writes back for the steps that follow. -/
theorem tails_C (t : Fin cfg0.N) (h0 : ¬t.val % 17 = 0) (h1 : t.val % 17 = 16) (h : Vec Ideal S1x1024 .f32) (o) (ho : outsAt0 m c (t.val - 1) (by have := t.isLt; omega) = o)
    (hh : View.read (Elt Ideal) (View.whole cc0_scratch1) ((Memref.isWhole_whole cc0_scratch1).unread o.2.2.2.2) = h)
    (w r5 r6 r7 r8 a b : FVec Ideal S256x1024 .f32)
    (hw : k0_pay9 (iblk m c 0 t) (iblk m c 1 t) (iblk m c 3 t) = w) (hr : Windows o.2.2.2.1 w r5 r6 r7 r8)
    (ha : (params m c t).decays r5 r6 r7 r8 = a) (hv : (params m c t).decaysMoved r5 r6 r7 r8 = rot1 a)
    (hb : (params m c t).inputs r5 r6 r7 r8 (grid0.coords t 1) = b) :
    (∀ (i : Fin 8) (j : Fin 1024), (outsAt0 m c t.val t.isLt).2.1 (ix3 0 i j) = w (ix2 ⟨8 + i.val, by omega⟩ j)) ∧
    ∀ (i : Fin 8) (j : Fin 1024), (outsAt0 m c t.val t.isLt).2.2.1 (ix3 0 i j) = hidden a b h (ix2 ⟨8 + i.val, by omega⟩ j) := by
  simp only [params, Params.decays, Params.decaysMoved, Params.inputs, Params.xb, Params.xc, Params.xb0, Params.tap0, Params.tap1, Params.tap2, Params.tap3,
    Params.head0, Params.head1, Params.head2, Params.head3] at ha hv hb
  dsimp only [Windows, rows5, rows6, rows7, over] at hr
  obtain ⟨h5, h6, h7, h8⟩ := hr
  constructor
  · intro i j
    rw [outsAt0_C m c t h0 h1, ho]
    dsimp only
    frame_out
    rw [hw]
    pointwise [k0_pay3]
  · intro i j
    rw [outsAt0_C m c t h0 h1, ho]
    dsimp only
    frame_out
    rw [hw, h5, h6, h7, h8]
    rw [ha]
    rw [hv]
    rw [hb]
    rw [hh]
    exact tail_of (hidden_eq a b _) i j

end Cert.RgIdeal.Block
end
-- ==== Proof.RgLayer.lean ====
module
public import proofs.«01_k».proof.Proof.RgSpec
@[expose] public section

/-! The recurrent layer over the extended reals: four sequences of 4352 steps, from the layer's inputs to its results. -/

noncomputable section
namespace Cert.Recur
open Idealize.ShloMosaic Finset Cert.AttnMath Cert.Rows

/-- The layer's inputs. -/
structure Layer where
  h : Fin 17408 → Fin 1024 → EReal
  gPre : Fin 1024 → EReal
  gPost : Fin 1024 → EReal
  wGate : Fin 1024 → Fin 1024 → EReal
  wX : Fin 1024 → Fin 1024 → EReal
  cw : Fin 4 → Fin 1024 → EReal
  cb : Fin 1024 → EReal
  wa : Fin 4 → Fin 256 → Fin 256 → EReal
  ba : Fin 1024 → EReal
  wi : Fin 4 → Fin 256 → Fin 256 → EReal
  bi : Fin 1024 → EReal
  lam : Fin 1024 → EReal
  wOut : Fin 1024 → Fin 1024 → EReal

namespace Layer
variable (L : Layer)

/-- The row of step `t` of sequence `b`. -/
def row (b : Fin 4) (t : Fin 4352) : Fin 17408 := ⟨4352 * b.val + t.val, by omega⟩

/-- A branch of the layer: the normed row times a matrix. -/
def branch (w : Fin 1024 → Fin 1024 → EReal) (b : Fin 4) (t : Fin 4352) (d : Fin 1024) : EReal :=
  dot (rms (L.h (row b t)) L.gPre) w d

/-- The branch that enters the recurrence, as a sequence. -/
def xb (b : Fin 4) (t : ℕ) (d : Fin 1024) : EReal := if h : t < 4352 then L.branch L.wX b ⟨t, h⟩ d else 0

/-- The convolved sequence. -/
def xc (b : Fin 4) (t : ℕ) (d : Fin 1024) : EReal := conv (L.xb b) L.cw L.cb t d

/-- The logarithm of the decay. -/
def logA (b : Fin 4) (d : Fin 1024) (t : ℕ) : EReal := logDecay (gate (L.xc b t) L.wa L.ba d) (L.lam d)

/-- The decay. -/
def A (b : Fin 4) (d : Fin 1024) (t : ℕ) : EReal := Ideal.exp (L.logA b d t)

/-- The input of a step. -/
def B (b : Fin 4) (d : Fin 1024) (t : ℕ) : EReal :=
  inScale (t = 0) (L.logA b d t) * (gate (L.xc b t) L.wi L.bi d * L.xc b t d)

/-- The state after `n` steps. -/
def state (b : Fin 4) (d : Fin 1024) (n : ℕ) : EReal := seg (L.A b d) (L.B b d) 0 n 0

/-- The layer's result. -/
def out (b : Fin 4) (t : Fin 4352) (d : Fin 1024) : EReal :=
  L.h (row b t) d + rms (dot (fun l => L.state b l (t.val + 1) * gelu (L.branch L.wGate b t l)) L.wOut) L.gPost d

/-- A decay is not negative. -/
theorem A_nonneg (b : Fin 4) (d : Fin 1024) (t : ℕ) : 0 ≤ L.A b d t := exp_nonneg _

/-- The logarithm of a decay is not positive. -/
theorem logA_nonpos (b : Fin 4) (d : Fin 1024) (t : ℕ) : L.logA b d t ≤ 0 := logDecay_nonpos _ _

/-- A decay is finite. -/
theorem A_ne_top (b : Fin 4) (d : Fin 1024) (t : ℕ) : L.A b d t ≠ ⊤ := exp_ne_top_of_nonpos (L.logA_nonpos b d t)

end Layer
end Cert.Recur
end
-- ==== Proof.RgRead.lean ====
module
public import proofs.«01_k».proof.Proof.RgBlock
public import proofs.«01_k».proof.Proof.RgLayer
@[expose] public section

/-! The recurrence: a block's decays, inputs and states are those of the layer's sequence. -/

set_option maxRecDepth 16384
noncomputable section
namespace Cert.RgIdeal.Block
open Cert.RgIdeal Cert.RgIdeal.Gen Idealize.ShloMosaic Idealize.ShloMosaic.TcCoe Idealize.SL.Sem Cert.Rows Cert.Recur

/-- A point's parameters are the layer's. -/
structure Params.Holds (p : Params) (L : Layer) : Prop where
  cw : ∀ k d, p.cw (ix2 k d) = L.cw k d
  cb : ∀ d, p.cb (ix2 0 d) = L.cb d
  wa : ∀ q k j, p.wa (ix3 q k j) = L.wa q k j
  ba : ∀ d, p.ba (ix2 0 d) = L.ba d
  wi : ∀ q k j, p.wi (ix3 q k j) = L.wi q k j
  bi : ∀ d, p.bi (ix2 0 d) = L.bi d
  lam : ∀ d, p.lam (ix2 0 d) = L.lam d

/-- The rows the convolution reads in block `n` of sequence `b`. -/
def Reads (L : Layer) (b : Fin 4) (n : Fin 17) (e : Vec Ideal S264x1024 .f32) : Prop :=
  ∀ (r : Fin 264) (h : 5 ≤ r.val) (d : Fin 1024), e (ix2 r d) = past (L.xb b) (256 * n.val + (r.val - 5)) d

variable {p : Params} {L : Layer} {b : Fin 4} {n : Fin 17} {e : Vec Ideal S264x1024 .f32}

/-- A read of 256 of the extended rows. -/
theorem ld_rows (o : ℕ) (h : ∀ a, (![o, 0] : Fin 2 → ℕ) a + S256x1024.size a ≤ S264x1024.size a) (e : Vec Ideal S264x1024 .f32) (i : Fin 256) (d : Fin 1024) (r : Fin 264)
    (hr : r.val = o + i.val) : View.ld e (Rect.unit (s := S264x1024) ![o, 0] ![256, 1024] h) (ix2 i d) = e (ix2 r d) := by
  refine View.ld_unit_apply_of e _ _ _ _ (ix2 r d) fun a => ?_
  fin_cases a
  · exact hr
  · exact (Nat.zero_add _).symm

/-- A read of one tap of the convolution. -/
theorem tap_eq (k : Fin 4) (h : ∀ a, (![k.val, 0] : Fin 2 → ℕ) a + S1x1024.size a ≤ S4x1024.size a) (w : Vec Ideal S4x1024 .f32) (d : Fin 1024) :
    View.ld w (Rect.unit (s := S4x1024) ![k.val, 0] ![1, 1024] h) (ix2 0 d) = w (ix2 k d) := by
  refine View.ld_unit_apply_of w _ _ _ _ (ix2 k d) fun a => ?_
  fin_cases a
  · rfl
  · exact (Nat.zero_add _).symm

/-- A read of one head's weights. -/
theorem head_apply (w : Vec Ideal S4x256x256 .bf16) (q : Fin 4) (k j : Fin 256) :
    (![Params.head0 w, Params.head1 w, Params.head2 w, Params.head3 w] q) (ix3 0 k j) = w (ix3 q k j) := by
  fin_cases q
  · exact View.ld_unit_apply_of w _ _ _ _ (ix3 0 k j) fun a => by
      fin_cases a
      · rfl
      · exact (Nat.zero_add _).symm
      · exact (Nat.zero_add _).symm
  · exact View.ld_unit_apply_of w _ _ _ _ (ix3 1 k j) fun a => by
      fin_cases a
      · rfl
      · exact (Nat.zero_add _).symm
      · exact (Nat.zero_add _).symm
  · exact View.ld_unit_apply_of w _ _ _ _ (ix3 2 k j) fun a => by
      fin_cases a
      · rfl
      · exact (Nat.zero_add _).symm
      · exact (Nat.zero_add _).symm
  · exact View.ld_unit_apply_of w _ _ _ _ (ix3 3 k j) fun a => by
      fin_cases a
      · rfl
      · exact (Nat.zero_add _).symm
      · exact (Nat.zero_add _).symm

/-- A tile's convolution is the layer's. -/
theorem xc_apply (hp : p.Holds L) (he : Reads L b n e) (i : Fin 256) (d : Fin 1024) :
    p.xc (rows5 e) (rows6 e) (rows7 e) (rows8 e) (ix2 i d) = L.xc b (256 * n.val + i.val) d := by
  have hi := i.isLt
  refine (pay11_apply _ _ _ _ _ _ _ _ _ i d).trans ?_
  have h5 : rows5 e (ix2 i d) = past (L.xb b) (256 * n.val + i.val) d :=
    (ld_rows 5 _ e i d ⟨5 + i.val, by omega⟩ rfl).trans ((he _ (by show 5 ≤ 5 + i.val; omega) d).trans (congrArg (fun z => past (L.xb b) z d) (by show 256 * n.val + (5 + i.val - 5) = _; omega)))
  have h6 : rows6 e (ix2 i d) = past (L.xb b) (256 * n.val + i.val + 1) d :=
    (ld_rows 6 _ e i d ⟨6 + i.val, by omega⟩ rfl).trans ((he _ (by show 5 ≤ 6 + i.val; omega) d).trans (congrArg (fun z => past (L.xb b) z d) (by show 256 * n.val + (6 + i.val - 5) = _; omega)))
  have h7 : rows7 e (ix2 i d) = past (L.xb b) (256 * n.val + i.val + 2) d :=
    (ld_rows 7 _ e i d ⟨7 + i.val, by omega⟩ rfl).trans ((he _ (by show 5 ≤ 7 + i.val; omega) d).trans (congrArg (fun z => past (L.xb b) z d) (by show 256 * n.val + (7 + i.val - 5) = _; omega)))
  have h8 : rows8 e (ix2 i d) = past (L.xb b) (256 * n.val + i.val + 3) d :=
    (ld_rows 8 _ e i d ⟨8 + i.val, by omega⟩ rfl).trans ((he _ (by show 5 ≤ 8 + i.val; omega) d).trans (congrArg (fun z => past (L.xb b) z d) (by show 256 * n.val + (8 + i.val - 5) = _; omega)))
  have t0 : p.tap0 (ix2 0 d) = L.cw 0 d := (tap_eq 0 _ p.cw d).trans (hp.cw 0 d)
  have t1 : p.tap1 (ix2 0 d) = L.cw 1 d := (tap_eq 1 _ p.cw d).trans (hp.cw 1 d)
  have t2 : p.tap2 (ix2 0 d) = L.cw 2 d := (tap_eq 2 _ p.cw d).trans (hp.cw 2 d)
  have t3 : p.tap3 (ix2 0 d) = L.cw 3 d := (tap_eq 3 _ p.cw d).trans (hp.cw 3 d)
  rw [h5, h6, h7, h8, t0, t1, t2, t3, hp.cb]
  rfl

theorem pay12_apply (v : Vec Ideal S1x1024 .f32) (d : Fin 1024) : k0_pay12 v (ix2 0 d) = v (ix2 0 d) := by pointwise [k0_pay12]
theorem pay13_apply (v : Vec Ideal S1x1024 .f32) (d : Fin 1024) : k0_pay13 v (ix2 0 d) = v (ix2 0 d) := by pointwise [k0_pay13]
theorem pay14_apply (v : Vec Ideal S1x1024 .f32) (d : Fin 1024) : k0_pay14 v (ix2 0 d) = v (ix2 0 d) := by pointwise [k0_pay14]

/-- The products of one head, on the layer's convolved row. -/
theorem headDot_eq (hp : p.Holds L) (he : Reads L b n e) (w : Vec Ideal S4x256x256 .bf16) (f : Fin 4 → Fin 256 → Fin 256 → EReal)
    (hw : ∀ q k j, w (ix3 q k j) = f q k j) (i : Fin 256) (q : Fin 4) (j : Fin 256) :
    headDot (fun d => p.xc (rows5 e) (rows6 e) (rows7 e) (rows8 e) (ix2 i d))
      (fun k j => (![Params.head0 w, Params.head1 w, Params.head2 w, Params.head3 w] q) (ix3 0 k j)) q j
      = ∑ k : Fin 256, L.xc b (256 * n.val + i.val) ⟨q.val * 256 + k.val, by omega⟩ * f q k j := by
  unfold headDot
  refine Finset.sum_congr rfl fun k _ => ?_
  beta_reduce
  rw [head_apply, hw]
  exact congrArg (· * f q k j) (xc_apply hp he i _)

/-- The logarithm of a block's decays. -/
theorem logs_apply (hp : p.Holds L) (he : Reads L b n e) (i : Fin 256) (d : Fin 1024) :
    k0_pay25 (k0_pay12 p.ba) (k0_pay14 p.lam) (k0_pay17 (p.xb0 (rows5 e) (rows6 e) (rows7 e) (rows8 e)) (Params.head0 p.wa))
      (k0_pay19 (p.xb (rows5 e) (rows6 e) (rows7 e) (rows8 e)) (Params.head1 p.wa))
      (k0_pay21 (p.xb (rows5 e) (rows6 e) (rows7 e) (rows8 e)) (Params.head2 p.wa))
      (k0_pay23 (p.xb (rows5 e) (rows6 e) (rows7 e) (rows8 e)) (Params.head3 p.wa)) (ix2 i d)
      = L.logA b d (256 * n.val + i.val) := by
  refine (pay25_apply _ _ _ _ _ _ i d).trans ?_
  rw [pay12_apply, pay14_apply, hp.ba, hp.lam]
  refine congrArg (fun z => logDecay (Ideal.logistic (z + L.ba d)) (L.lam d)) ?_
  exact (headsA_apply _ _ _ _ _ _ _ _ _ _ _ _ _ ⟨d.val / 256, by omega⟩ i _).trans (headDot_eq hp he p.wa L.wa hp.wa i _ _)

/-- A tile's decays are the layer's. -/
theorem decays_apply (hp : p.Holds L) (he : Reads L b n e) (i : Fin 256) (d : Fin 1024) :
    p.decays (rows5 e) (rows6 e) (rows7 e) (rows8 e) (ix2 i d) = L.A b d (256 * n.val + i.val) := by
  unfold Params.decays
  rw [pay26_apply, logs_apply hp he]
  rfl

/-- A tile's inputs to the recurrence are the layer's. -/
theorem inputs_apply (hp : p.Holds L) (he : Reads L b n e) (i : Fin 256) (d : Fin 1024) :
    p.inputs (rows5 e) (rows6 e) (rows7 e) (rows8 e) n (ix2 i d) = L.B b d (256 * n.val + i.val) := by
  unfold Params.inputs
  rw [pay27_apply, logs_apply hp he, scale_eq (L.logA_nonpos b d _), pay13_apply, hp.bi, xc_apply hp he]
  have hf : (i.val = 0 ∧ n.val = 0) ↔ 256 * n.val + i.val = 0 := by omega
  unfold Layer.B inScale
  rw [if_congr hf rfl rfl]
  refine congrArg (fun z : EReal => (if 256 * n.val + i.val = 0 then (1 : EReal)
      else Ideal.sqrt (-(Ideal.exp (Ideal.ofBits .f32 0x40000000#32 * L.logA b d (256 * n.val + i.val)) - 1)))
    * (Ideal.logistic (z + L.bi d) * L.xc b (256 * n.val + i.val) d)) ?_
  exact (headsI_apply _ _ _ _ _ _ _ _ _ _ _ _ _ ⟨d.val / 256, by omega⟩ i _).trans (headDot_eq hp he p.wi L.wi hp.wi i _ _)

/-- The states of a block, from the state before it. -/
theorem states_apply (hp : p.Holds L) (he : Reads L b n e) (h : Vec Ideal S1x1024 .f32)
    (hh : ∀ d, h (ix2 0 d) = L.state b d (256 * n.val)) (i : Fin 256) (d : Fin 1024) :
    p.states (rows5 e) (rows6 e) (rows7 e) (rows8 e) n h (ix2 i d) = L.state b d (256 * n.val + i.val + 1) := by
  have hA : ∀ k < 256, col (p.decays (rows5 e) (rows6 e) (rows7 e) (rows8 e)) d k = L.A b d (256 * n.val + k) := fun k hk => by
    unfold col; rw [dif_pos hk, decays_apply hp he]
  have hB : ∀ k < 256, col (p.inputs (rows5 e) (rows6 e) (rows7 e) (rows8 e) n) d k = L.B b d (256 * n.val + k) := fun k hk => by
    unfold col; rw [dif_pos hk, inputs_apply hp he]
  refine (hidden_apply h (fun k hk => ?_) (fun k hk => ?_) i).trans ?_
  · rw [hA k hk]; exact L.A_nonneg b d _
  · rw [hA k hk]; exact L.A_ne_top b d _
  · have hi := i.isLt
    rw [hh, Nat.add_assoc]
    unfold Layer.state
    rw [seg_add (L.A b d)]
    refine seg_congr _ (fun k hk => ?_) (fun k hk => ?_)
    · rw [Nat.zero_add, Nat.zero_add, hA k (by omega)]
    · rw [Nat.zero_add, Nat.zero_add, hB k (by omega)]

end Cert.RgIdeal.Block
end
-- ==== Proof.RgKernel.lean ====
module
public import proofs.«01_k».proof.Proof.RgPoint
public import proofs.«01_k».proof.Proof.RgRead
public import Idealize.ShloMosaic.Lib.Pipeline.ValueKit
public import Idealize.ShloMosaic.Lib.StableHlo.RunRead
@[expose] public section

/-! The recurrence: what every grid point reads. -/

set_option maxRecDepth 16384
noncomputable section
namespace Cert.RgIdeal.Block
open Cert.RgIdeal Cert.RgIdeal.Gen Idealize.ShloMosaic Idealize.ShloMosaic.TcCoe Idealize.SL.Sem Cert.Rows Cert.Recur

/-- The block indices. -/
theorem idx (t : Fin cfg0.N) : win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0, 0] ∧ win0_7.index t = ![0, 0]
    ∧ win0_8.index t = ![0, 0, 0] ∧ win0_9.index t = ![0, 0] ∧ win0_10.index t = ![0, 0] ∧ win0_11.index t = ![0, 0]
    ∧ win0_12.index t = ![t.val, 0] ∧ win0_13.index t = ![t.val / 17, 0, 0] ∧ win0_14.index t = ![t.val / 17, 0, 0] :=
  (by decide +kernel : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0, 0] ∧ win0_7.index t = ![0, 0]
    ∧ win0_8.index t = ![0, 0, 0] ∧ win0_9.index t = ![0, 0] ∧ win0_10.index t = ![0, 0] ∧ win0_11.index t = ![0, 0]
    ∧ win0_12.index t = ![t.val, 0] ∧ win0_13.index t = ![t.val / 17, 0, 0] ∧ win0_14.index t = ![t.val / 17, 0, 0]) t

/-- There are 68 tiles. -/
theorem count (t : Fin cfg0.N) : t.val < 68 := t.isLt

/-- The sequence of a grid point. -/
def seqOf (t : Fin cfg0.N) : Fin 4 := ⟨t.val / 17, by have := count t; omega⟩

/-- The place of a point's block in its sequence. -/
def placeOf (t : Fin cfg0.N) : Fin 17 := ⟨t.val % 17, Nat.mod_lt _ (by norm_num)⟩

/-- A tile's second coordinate is its place in its sequence. -/
theorem coords_eq (t : Fin cfg0.N) : grid0.coords t 1 = placeOf t :=
  Fin.ext ((by decide +kernel : ∀ t : Fin grid0.N, (grid0.coords t 1).val = t.val % 17) t)

variable (m : (ℓ : Loc nD τ sig) → Buf (Elt Ideal) ℓ) (c : Dev nD)

/-- The layer's inputs, read from the arguments. -/
def layer : Layer where
  h i k := m ((c : Thread nD τ).loc main_arg0) (ix2 i k)
  gPre k := m ((c : Thread nD τ).loc main_arg1) (ix1 k)
  gPost k := m ((c : Thread nD τ).loc main_arg2) (ix1 k)
  wGate k j := m ((c : Thread nD τ).loc main_arg3) (ix2 k j)
  wX k j := m ((c : Thread nD τ).loc main_arg4) (ix2 k j)
  cw k j := m ((c : Thread nD τ).loc main_arg5) (ix2 k j)
  cb k := m ((c : Thread nD τ).loc main_arg6) (ix1 k)
  wa q k j := m ((c : Thread nD τ).loc main_arg7) (ix3 q k j)
  ba d := m ((c : Thread nD τ).loc main_arg8) (ix2 ⟨d.val / 256, by omega⟩ ⟨d.val % 256, by omega⟩)
  wi q k j := m ((c : Thread nD τ).loc main_arg9) (ix3 q k j)
  bi d := m ((c : Thread nD τ).loc main_arg10) (ix2 ⟨d.val / 256, by omega⟩ ⟨d.val % 256, by omega⟩)
  lam k := m ((c : Thread nD τ).loc main_arg11) (ix1 k)
  wOut k j := m ((c : Thread nD τ).loc main_arg12) (ix2 k j)

/-- The staged parameters are the layer's. -/
theorem params_hold (t : Fin cfg0.N) : (params m c t).Holds (layer m c) where
  cw k d := by show iblk m c 4 t (ix2 k d) = m ((c : Thread nD τ).loc main_arg5) (ix2 k d); blk_point [iblk, V, idx t]
  cb d := by show iblk m c 5 t (ix2 0 d) = m ((c : Thread nD τ).loc main_arg6) (ix1 d); blk_point [iblk, V, idx t]
  wa q k j := by show iblk m c 6 t (ix3 q k j) = m ((c : Thread nD τ).loc main_arg7) (ix3 q k j); blk_point [iblk, V, idx t]
  ba d := by show iblk m c 7 t (ix2 0 d) = m ((c : Thread nD τ).loc main_arg8) (ix2 ⟨d.val / 256, by omega⟩ ⟨d.val % 256, by omega⟩); blk_point [iblk, V, idx t]
  wi q k j := by show iblk m c 8 t (ix3 q k j) = m ((c : Thread nD τ).loc main_arg9) (ix3 q k j); blk_point [iblk, V, idx t]
  bi d := by show iblk m c 9 t (ix2 0 d) = m ((c : Thread nD τ).loc main_arg10) (ix2 ⟨d.val / 256, by omega⟩ ⟨d.val % 256, by omega⟩); blk_point [iblk, V, idx t]
  lam d := by show iblk m c 10 t (ix2 0 d) = m ((c : Thread nD τ).loc main_arg11) (ix1 d); blk_point [iblk, V, idx t]

/-- A step of a point's block. -/
def stepOf (t : Fin cfg0.N) (i : Fin 256) : Fin 4352 := ⟨256 * (placeOf t).val + i.val, by have := (placeOf t).isLt; omega⟩

/-- A tile's rows of the input. -/
theorem rowsIn_apply (t : Fin cfg0.N) (i : Fin 256) (k : Fin 1024) :
    iblk m c 0 t (ix2 i k) = (layer m c).h (Layer.row (seqOf t) (stepOf t i)) k := by
  have e : Layer.row (seqOf t) (stepOf t i) = ⟨t.val * 256 + i.val, by have := count t; omega⟩ :=
    Fin.ext (by show 4352 * (t.val / 17) + (256 * (t.val % 17) + i.val) = t.val * 256 + i.val; omega)
  rw [e]
  show _ = m ((c : Thread nD τ).loc main_arg0) (ix2 _ k)
  blk_point [iblk, V, idx t]

/-- The staged gain of the first norm. -/
theorem gain_apply (t : Fin cfg0.N) (k : Fin 1024) : iblk m c 1 t (ix2 0 k) = (layer m c).gPre k := by
  show _ = m ((c : Thread nD τ).loc main_arg1) (ix1 k)
  blk_point [iblk, V, idx t]

/-- The staged gain of the last norm. -/
theorem outGain_apply (t : Fin cfg0.N) (k : Fin 1024) : outGain m c t (ix2 0 k) = (layer m c).gPost k := by
  show iblk m c 2 t (ix2 0 k) = m ((c : Thread nD τ).loc main_arg2) (ix1 k)
  blk_point [iblk, V, idx t]

/-- The staged output weights. -/
theorem outWeights_apply (t : Fin cfg0.N) (k j : Fin 1024) : outWeights m c t (ix2 k j) = (layer m c).wOut k j := by
  show iblk m c 11 t (ix2 k j) = m ((c : Thread nD τ).loc main_arg12) (ix2 k j)
  blk_point [iblk, V, idx t]

/-- The joined branch weights are staged whole. -/
theorem weights_read (t : Fin cfg0.N) (k : Fin 1024) (j : Fin 2048) : iblk m c 3 t (ix2 k j) = V m c main_v3 (ix2 k j) := by
  blk_point [iblk, idx t]

/-- The joined branch weights: the gate's columns, then the branch's. -/
theorem weights_apply (k : Fin 1024) (j : Fin 2048) : (V m c main_v3 : Vec Ideal S1024x2048 .bf16) (ix2 k j)
    = if h : j.val < 1024 then m ((c : Thread nD τ).loc main_arg3) (ix2 k ⟨j.val, h⟩)
      else m ((c : Thread nD τ).loc main_arg4) (ix2 k ⟨j.val - 1024, by omega⟩) := by
  unfold V
  after_reads_simp
  pointwise
  rfl

/-- The branch's weights. -/
theorem wX_apply (t : Fin cfg0.N) (k j : Fin 1024) : iblk m c 3 t (ix2 k ⟨1024 + j.val, by omega⟩) = (layer m c).wX k j := by
  refine (weights_read m c t k _).trans ((weights_apply m c k _).trans ?_)
  rw [dif_neg (by show ¬1024 + j.val < 1024; omega)]
  exact congrArg (fun z => m ((c : Thread nD τ).loc main_arg4) (ix2 k z)) (Fin.ext (by show 1024 + j.val - 1024 = j.val; omega))

/-- The gate's weights. -/
theorem wGate_apply (t : Fin cfg0.N) (k j : Fin 1024) : iblk m c 3 t (ix2 k ⟨j.val, by omega⟩) = (layer m c).wGate k j := by
  refine (weights_read m c t k _).trans ((weights_apply m c k _).trans ?_)
  rw [dif_pos (by show j.val < 1024; omega)]
  rfl

end Cert.RgIdeal.Block
end
-- ==== Proof.RgArrays.lean ====
module
public import proofs.«01_k».proof.Proof.RgKernel
@[expose] public section

/-! The recurrence: what every grid point leaves, and the three arrays after the run. -/

set_option maxRecDepth 16384
noncomputable section
namespace Cert.RgIdeal.Block
open Cert.RgIdeal Cert.RgIdeal.Gen Idealize.ShloMosaic Idealize.ShloMosaic.TcCoe Idealize.SL.Sem Cert.Rows Cert.Recur

variable (m : (ℓ : Loc nD τ sig) → Buf (Elt Ideal) ℓ) (c : Dev nD)

/-- The normed row of a step. -/
theorem normed_eq (t : Fin cfg0.N) (i : Fin 256) :
    rms (fun k => iblk m c 0 t (ix2 i k)) (fun k => iblk m c 1 t (ix2 0 k))
      = rms ((layer m c).h (Layer.row (seqOf t) (stepOf t i))) (layer m c).gPre :=
  congrArg₂ rms (funext fun k => rowsIn_apply m c t i k) (funext fun k => gain_apply m c t k)

/-- A tile's branch rows are the layer's. -/
theorem branch_apply (t : Fin cfg0.N) (i : Fin 256) (j : Fin 1024) :
    branch m c t (ix2 i j) = (layer m c).xb (seqOf t) (256 * (placeOf t).val + i.val) j := by
  unfold branch
  refine (pay9_apply _ _ _ i j).trans ?_
  unfold Layer.xb
  rw [dif_pos (show 256 * (placeOf t).val + i.val < 4352 from (stepOf t i).isLt)]
  refine (congrArg (fun u => dot u _ _) (normed_eq m c t i)).trans ?_
  unfold Layer.branch dot
  exact Finset.sum_congr rfl fun k _ => congrArg _ (wX_apply m c t k j)

/-- A tile's gate rows are the layer's gate: the Gaussian error unit of its branch. -/
theorem gates_apply (t : Fin cfg0.N) (i : Fin 256) (j : Fin 1024) :
    gates m c t (ix2 i j) = gelu ((layer m c).branch (layer m c).wGate (seqOf t) (stepOf t i) j) := by
  unfold gates
  refine (pay8_apply _ _ _ i j).trans (congrArg gelu ?_)
  refine (congrArg (fun u => dot u _ _) (normed_eq m c t i)).trans ?_
  unfold Layer.branch dot
  exact Finset.sum_congr rfl fun k _ => congrArg _ (wGate_apply m c t k j)

/-- What a point leaves, in the layer's terms. -/
structure Done (t : Fin cfg0.N) : Prop where
  out : ∀ (i : Fin 256) (j : Fin 1024), (outsAt0 m c t.val t.isLt).1 (ix2 i j) = (layer m c).out (seqOf t) (stepOf t i) j
  kept : ∀ (i : Fin 8) (j : Fin 1024), (outsAt0 m c t.val t.isLt).2.2.2.1 (ix2 ⟨i.val, by omega⟩ j)
    = (layer m c).xb (seqOf t) (256 * (placeOf t).val + (248 + i.val)) j
  last : ∀ j : Fin 1024, (outsAt0 m c t.val t.isLt).2.2.2.2 (ix2 0 j) = (layer m c).state (seqOf t) j (256 * (placeOf t).val + 256)

/-- The decays of a point whose convolution reads `e`. -/
abbrev decaysOf (t : Fin cfg0.N) (e : Vec Ideal S264x1024 .f32) : FVec Ideal S256x1024 .f32 :=
  (params m c t).decays (rows5 e) (rows6 e) (rows7 e) (rows8 e)
/-- The inputs of a point whose convolution reads `e`. -/
abbrev inputsOf (t : Fin cfg0.N) (e : Vec Ideal S264x1024 .f32) : FVec Ideal S256x1024 .f32 :=
  (params m c t).inputs (rows5 e) (rows6 e) (rows7 e) (rows8 e) (grid0.coords t 1)

/-- A tile's states are the layer's, when its rows read the layer and it starts from the state before the tile. -/
theorem hidden_at (t : Fin cfg0.N) {e : Vec Ideal S264x1024 .f32} (he : Reads (layer m c) (seqOf t) (placeOf t) e) {h : Vec Ideal S1x1024 .f32}
    (hh : ∀ d, h (ix2 0 d) = (layer m c).state (seqOf t) d (256 * (placeOf t).val)) (i : Fin 256) (d : Fin 1024) :
    hidden (decaysOf m c t e) (inputsOf m c t e) h (ix2 i d) = (layer m c).state (seqOf t) d (256 * (placeOf t).val + i.val + 1) := by
  unfold inputsOf
  rw [coords_eq]
  exact states_apply (params_hold m c t) he h hh i d

/-- A tile that starts rightly leaves the right rows: results, branch and states. -/
theorem done_of (t : Fin cfg0.N) {e : Vec Ideal S264x1024 .f32} (he : Reads (layer m c) (seqOf t) (placeOf t) e) {h : Vec Ideal S1x1024 .f32}
    (hh : ∀ d, h (ix2 0 d) = (layer m c).state (seqOf t) d (256 * (placeOf t).val))
    (hl : Leaves m c t (branch m c t) (decaysOf m c t e) (inputsOf m c t e) h) : Done m c t where
  out i j := by
    refine (hl.out i j).trans ?_
    unfold Layer.out
    refine congrArg₂ (fun a b : EReal => a + b) (rowsIn_apply m c t i j) ?_
    refine congrArg₂ (fun u g => rms u g j) (funext fun k => ?_) (funext fun k => outGain_apply m c t k)
    unfold dot
    refine Finset.sum_congr rfl fun l _ => ?_
    beta_reduce
    rw [hidden_at m c t he hh, gates_apply, outWeights_apply]
    rfl
  kept i j := (hl.kept i j).trans (branch_apply m c t _ j)
  last j := (hl.last j).trans (hidden_at m c t he hh _ j)

/-- The rows before a block with the block's own. -/
theorem reads_ext (t : Fin cfg0.N) (xs : Vec Ideal S264x1024 .f32)
    (hx : ∀ (r : Fin 264) (_ : 5 ≤ r.val) (_ : r.val < 8) (d : Fin 1024), xs (ix2 r d)
      = past ((layer m c).xb (seqOf t)) (256 * (placeOf t).val + (r.val - 5)) d) :
    Reads (layer m c) (seqOf t) (placeOf t) (ext xs (branch m c t)) := by
  intro r h d
  unfold ext
  by_cases h8 : 8 ≤ r.val
  · rw [dif_pos (show 8 ≤ ((ix2 r d : S264x1024.Idx) 0).val from h8)]
    refine (branch_apply m c t ⟨r.val - 8, by omega⟩ d).trans ?_
    unfold past
    rw [if_pos (by omega)]
    exact congrArg (fun z => (layer m c).xb (seqOf t) z d) (by show _ + (r.val - 8) = _; omega)
  · rw [dif_neg (show ¬8 ≤ ((ix2 r d : S264x1024.Idx) 0).val from h8)]
    exact hx r h (by omega) d

/-- The rows a sequence's first block reads. -/
theorem reads_first (t : Fin cfg0.N) (h0 : t.val % 17 = 0) : Reads (layer m c) (seqOf t) (placeOf t) (ext noRows (branch m c t)) := by
  refine reads_ext m c t noRows fun r h h8 d => ?_
  unfold past noRows
  rw [if_neg (by show ¬3 ≤ 256 * (t.val % 17) + (r.val - 5); omega)]

/-- Reads of the extended rows see the kept rows first and the tile's rows after. -/
theorem windows_ext (xs : Vec Ideal S264x1024 .f32) (w : FVec Ideal S256x1024 .f32) :
    Windows xs w (rows5 (ext xs w)) (rows6 (ext xs w)) (rows7 (ext xs w)) (rows8 (ext xs w)) :=
  have h := kept_rows (Memref.isWhole_whole cc0_scratch0) xs w
  ⟨congrArg rows5 h, congrArg rows6 h, congrArg rows7 h, own_rows xs w []⟩

/-- The point before one that is not a sequence's first. -/
def before (t : Fin cfg0.N) : Fin cfg0.N := ⟨t.val - 1, by have := t.isLt; omega⟩

/-- A tile after the first of its sequence reads the rows the tile before it kept. -/
theorem reads_next (t : Fin cfg0.N) (h0 : ¬t.val % 17 = 0) (hd : Done m c (before t)) :
    Reads (layer m c) (seqOf t) (placeOf t) (ext (outsAt0 m c (t.val - 1) (by have := t.isLt; omega)).2.2.2.1 (branch m c t)) := by
  refine reads_ext m c t _ fun r h h8 d => ?_
  refine (hd.kept ⟨r.val, h8⟩ d).trans ?_
  have hs : seqOf (before t) = seqOf t := Fin.ext (by show (t.val - 1) / 17 = t.val / 17; omega)
  have hp : (placeOf (before t)).val + 1 = (placeOf t).val := by show (t.val - 1) % 17 + 1 = t.val % 17; omega
  unfold past
  rw [if_pos (by omega), hs]
  exact congrArg (fun z => (layer m c).xb (seqOf t) z d) (by show _ + (248 + r.val) = _; omega)

/-- A tile after the first of its sequence starts from the state the tile before it left. -/
theorem state_next (t : Fin cfg0.N) (h0 : ¬t.val % 17 = 0) (hd : Done m c (before t)) (d : Fin 1024) :
    (outsAt0 m c (t.val - 1) (by have := t.isLt; omega)).2.2.2.2 (ix2 0 d) = (layer m c).state (seqOf t) d (256 * (placeOf t).val) := by
  refine (hd.last d).trans ?_
  have hs : seqOf (before t) = seqOf t := Fin.ext (by show (t.val - 1) / 17 = t.val / 17; omega)
  have hp : (placeOf (before t)).val + 1 = (placeOf t).val := by show (t.val - 1) % 17 + 1 = t.val % 17; omega
  rw [hs]
  exact congrArg _ (by omega)

/-- The carried state, read whole. -/
theorem read_state (h : Vec Ideal S1x1024 .f32) :
    View.read (Elt Ideal) (View.whole cc0_scratch1) ((Memref.isWhole_whole cc0_scratch1).unread h) = h :=
  (Memref.isWhole_whole cc0_scratch1).read_unread h

/-- A sequence starts from the zero state. -/
theorem pay6_apply (d : Fin 1024) : (k0_pay6 : FVec Ideal S1x1024 .f32) (ix2 0 d) = 0 := by pointwise [k0_pay6]

/-- Every point leaves the layer's values. -/
theorem done (n : ℕ) (hn : n < cfg0.N) : Done m c ⟨n, hn⟩ := by
  induction n using Nat.strong_induction_on with
  | _ n ih =>
    by_cases h0 : n % 17 = 0
    · refine done_of m c ⟨n, hn⟩ (reads_first m c ⟨n, hn⟩ h0) (h := (k0_pay6 : FVec Ideal S1x1024 .f32)) (fun d => ?_) ?_
      · rw [pay6_apply]
        show 0 = (layer m c).state _ d (256 * (n % 17))
        rw [h0]
        rfl
      · exact at_A m c ⟨n, hn⟩ h0 (by show ¬n % 17 = 16; omega) _ _ _ _ _ _ _ rfl
          ⟨first_rows _ _, first_rows _ _, first_rows _ _, first_rows _ _⟩ rfl (Params.decaysMoved_eq _ _ _ _ _) rfl
    · have hd : Done m c (before ⟨n, hn⟩) := ih (n - 1) (by omega) _
      refine done_of m c ⟨n, hn⟩ (reads_next m c ⟨n, hn⟩ h0 hd) (state_next m c ⟨n, hn⟩ h0 hd) ?_
      by_cases h1 : n % 17 = 16
      · exact at_C m c ⟨n, hn⟩ h0 h1 _ _ rfl (read_state _) _ _ _ _ _ _ _ rfl (windows_ext _ _) rfl (Params.decaysMoved_eq _ _ _ _ _) rfl
      · exact at_B m c ⟨n, hn⟩ h0 h1 _ _ rfl (read_state _) _ _ _ _ _ _ _ rfl (windows_ext _ _) rfl (Params.decaysMoved_eq _ _ _ _ _) rfl

/-- The rows written back at a sequence's last block. -/
theorem tails (t : Fin cfg0.N) (h1 : t.val % 17 = 16) :
    (∀ (i : Fin 8) (j : Fin 1024), (outsAt0 m c t.val t.isLt).2.1 (ix3 0 i j) = (layer m c).xb (seqOf t) (4104 + i.val) j) ∧
    ∀ (i : Fin 8) (j : Fin 1024), (outsAt0 m c t.val t.isLt).2.2.1 (ix3 0 i j) = (layer m c).state (seqOf t) j (4104 + i.val + 1) := by
  have h0 : ¬t.val % 17 = 0 := by omega
  have hd : Done m c (before t) := done m c (t.val - 1) _
  have hp : (placeOf t).val = 16 := h1
  have e := tails_C m c t h0 h1 _ _ rfl (read_state _) (branch m c t) _ _ _ _ _ _ rfl (windows_ext _ _) rfl (Params.decaysMoved_eq _ _ _ _ _) rfl
  constructor
  · intro i j
    refine (e.1 i j).trans ((branch_apply m c t _ j).trans ?_)
    rw [hp]
    exact congrArg (fun z => (layer m c).xb (seqOf t) z j) (by show 256 * 16 + (8 + i.val) = _; omega)
  · intro i j
    refine (e.2 i j).trans ((hidden_at m c t (reads_next m c t h0 hd) (state_next m c t h0 hd) _ j).trans ?_)
    rw [hp]
    exact congrArg _ (by show 256 * 16 + (8 + i.val) + 1 = _; omega)

/-- The layer's results. -/
def results : Vec Ideal S17408x1024 .f32 := fun y =>
  (layer m c).out ⟨(y 0).val / 4352, by have : (y 0).val < 17408 := (y 0).isLt; omega⟩ ⟨(y 0).val % 4352, by omega⟩ (y 1)

/-- The last rows of the branch in each sequence. -/
def branchTails : Vec Ideal S4x8x1024 .f32 := fun y => (layer m c).xb (y 0) (4104 + (y 1).val) (y 2)

/-- The last states of each sequence. -/
def stateTails : Vec Ideal S4x8x1024 .f32 := fun y => (layer m c).state (y 0) (y 2) (4104 + (y 1).val + 1)

/-- The first result holds the layer's rows. -/
theorem results_eq : (dats m 0 c).arrAt 12 cfg0.N = results m c := by
  refine (dats m 0 c).arrAt_eq_of_covers 12 _ (by decide +kernel) fun t hf y => ?_
  blk_simp
  rw [after0_12]
  idx_vars y
  refine ((done m c t.val t.isLt).out _ _).trans ?_
  unfold results
  have := count t
  congr 1
  · refine Fin.ext ?_
    blk_simp [idx t]
    show t.val / 17 = (t.val * 256 + y0.val) / 4352
    omega
  · refine Fin.ext ?_
    blk_simp [idx t]
    show 256 * (t.val % 17) + y0.val = (t.val * 256 + y0.val) % 4352
    omega
  · refine Fin.ext ?_
    blk_simp [idx t]

/-- The second result holds the last rows of the branch. -/
theorem branchTails_eq : (dats m 0 c).arrAt 13 cfg0.N = branchTails m c := by
  refine (dats m 0 c).arrAt_eq_of_covers 13 _ (by decide +kernel) fun t hf y => ?_
  have h1 : t.val % 17 = 16 := (by decide +kernel : ∀ t : Fin cfg0.N, (cfg0.win 13).flush t = true → t.val % 17 = 16) t hf
  blk_simp
  rw [after0_13]
  idx_vars y
  obtain rfl : y0 = 0 := Fin.ext (by omega)
  refine ((tails m c t h1).1 _ _).trans ?_
  unfold branchTails
  refine congr (congr (congrArg (layer m c).xb (Fin.ext ?_)) ?_) (Fin.ext ?_) <;> blk_simp [idx t] <;> rfl

/-- The third result holds the last states. -/
theorem stateTails_eq : (dats m 0 c).arrAt 14 cfg0.N = stateTails m c := by
  refine (dats m 0 c).arrAt_eq_of_covers 14 _ (by decide +kernel) fun t hf y => ?_
  have h1 : t.val % 17 = 16 := (by decide +kernel : ∀ t : Fin cfg0.N, (cfg0.win 14).flush t = true → t.val % 17 = 16) t hf
  blk_simp
  rw [after0_14]
  idx_vars y
  obtain rfl : y0 = 0 := Fin.ext (by omega)
  refine ((tails m c t h1).2 _ _).trans ?_
  unfold stateTails
  refine congr (congr (congrArg (layer m c).state (Fin.ext ?_)) (Fin.ext ?_)) ?_ <;> blk_simp [idx t] <;> rfl

end Cert.RgIdeal.Block
end
-- ==== Proof.RgEntry.lean ====
module
public import proofs.«01_k».proof.Proof.Gen.RgRefIdeal.Run
public import proofs.«01_k».proof.Proof.Gen.RgRefIdeal.Step
@[expose] public section

/-! What the reference's operations before its loop leave, for any float values. -/

noncomputable section
namespace Cert.RgRefIdeal.Loop
open Idealize.ShloMosaic Idealize.ShloMosaic.TcCoe Idealize.SL.Sem Idealize.ShloMosaic.StableHlo
open Cert.RgRefIdeal Cert.RgRefIdeal.Gen Cert.RgRefIdeal.Value Cert.RgRefIdeal.Step

variable {F : FTy → Type} [FloatOps F]

set_option maxRecDepth 65536 in
set_option maxHeartbeats 600000 in
/-- The state before the loop. -/
theorem entry (m : (ℓ : Loc nD τ sig) → Buf (Elt F) ℓ) (c : Dev nD) :
    entryContents preI m c (Proc.devRef .tc main_v96_3) = K_main_v92 (F := F) := by
  simp only [entryContents, afterL_cons, afterL_nil]; after_reads_simp <;> rfl

set_option maxRecDepth 65536 in
set_option maxHeartbeats 600000 in
/-- The first trip's number. -/
theorem entry_number (m : (ℓ : Loc nD τ sig) → Buf (Elt F) ℓ) (c : Dev nD) :
    entryContents preI m c (Proc.devRef .tc main_v96_2) = constantI S_ 32 (BitVec.ofNat 32 0) := by
  simp only [entryContents, afterL_cons, afterL_nil]; after_reads_simp <;> rfl

set_option maxRecDepth 65536 in
set_option maxHeartbeats 600000 in
/-- The decays before the loop. -/
theorem entry_decays (m : (ℓ : Loc nD τ sig) → Buf (Elt F) ℓ) (c : Dev nD) :
    entryContents preI m c (Proc.devRef .tc main_v96_0) = A_main_v93 (F := F) (m ((c.tc : Thread nD τ).loc main_arg0))
      (m ((c.tc : Thread nD τ).loc main_arg1)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) := by
  simp only [entryContents, afterL_cons, afterL_nil]; after_reads_simp <;> rfl

set_option maxRecDepth 65536 in
set_option maxHeartbeats 600000 in
/-- The inputs before the loop. -/
theorem entry_inputs (m : (ℓ : Loc nD τ sig) → Buf (Elt F) ℓ) (c : Dev nD) :
    entryContents preI m c (Proc.devRef .tc main_v96_1) = A_main_v94 (F := F) (m ((c.tc : Thread nD τ).loc main_arg0))
      (m ((c.tc : Thread nD τ).loc main_arg1)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) := by
  simp only [entryContents, afterL_cons, afterL_nil]; after_reads_simp <;> rfl

end Cert.RgRefIdeal.Loop
end
-- ==== Proof.RgRun.lean ====
module
public import proofs.«01_k».proof.Proof.Gen.RgRefIdeal.Run
public import proofs.«01_k».proof.Proof.Gen.RgRefIdeal.Step
public import proofs.«01_k».proof.Proof.RgEntry
public import proofs.«01_k».proof.Proof.RgSpec
public import Idealize.ShloMosaic.Lib.Pointwise
public import Idealize.ShloMosaic.Lib.DynamicIndex
@[expose] public section

/-! The reference's loop: what its buffers hold before each trip. -/

set_option maxRecDepth 16384
noncomputable section
namespace Cert.RgRefIdeal.Loop
open Cert.Recur
open Idealize.ShloMosaic Idealize.ShloMosaic.TcCoe Idealize.SL.Sem Idealize.ShloMosaic.StableHlo
open Cert.RgRefIdeal Cert.RgRefIdeal.Gen Cert.RgRefIdeal.Value Cert.RgRefIdeal.Step

/-- A slice of one row at a given row. -/
theorem slice_apply (x : Vec Ideal S4352x4x1024 .f32) (start : Fin 3 → Int) (j : Fin 4352) (h0 : start 0 = j.val) (h1 : start 1 = 0)
    (h2 : start 2 = 0) (b : Fin 4) (d : Fin 1024) :
    Host.dynamicSlice S1x4x1024 x start sliceFits_S4352x4x1024_S1x4x1024 (ix3 0 b d) = x (ix3 j b d) := by
  have hs : S4352x4x1024.Slices ![j.val, 0, 0] S1x4x1024 := ⟨rfl, fun a => by
    fin_cases a
    · show j.val + 1 ≤ 4352
      omega
    · show 0 + 4 ≤ 4
      omega
    · show 0 + 1024 ≤ 1024
      omega⟩
  rw [Host.dynamicSlice_eq_extractStridedSlice S1x4x1024 x start ![j.val, 0, 0] sliceFits_S4352x4x1024_S1x4x1024 hs (fun a => by
    fin_cases a
    · exact h0
    · exact h1
    · exact h2)]
  pointwise []

/-- An array after one row was written over: that row is the new one, the others are kept. -/
theorem update_apply (x : Vec Ideal S4352x4x1024 .f32) (u : Vec Ideal S1x4x1024 .f32) (start : Fin 3 → Int) (j : Fin 4352)
    (h0 : start 0 = j.val) (h1 : start 1 = 0) (h2 : start 2 = 0) (t : Fin 4352) (b : Fin 4) (d : Fin 1024) :
    Host.dynamicUpdateSlice x u start updateFits_S4352x4x1024_S1x4x1024 (ix3 t b d)
      = if t = j then u (ix3 0 b d) else x (ix3 t b d) := by
  have c0 : Host.clampedStart S4352x4x1024 S1x4x1024 rfl start 0 = j.val :=
    Host.clampedStart_of_le (s := S4352x4x1024) (t := S1x4x1024) rfl start 0 j.val h0 (by show j.val + 1 ≤ 4352; omega)
  have c1 : Host.clampedStart S4352x4x1024 S1x4x1024 rfl start 1 = 0 :=
    Host.clampedStart_of_le (s := S4352x4x1024) (t := S1x4x1024) rfl start 1 0 h1 (by show 0 + 4 ≤ 4; omega)
  have c2 : Host.clampedStart S4352x4x1024 S1x4x1024 rfl start 2 = 0 :=
    Host.clampedStart_of_le (s := S4352x4x1024) (t := S1x4x1024) rfl start 2 0 h2 (by show 0 + 1024 ≤ 1024; omega)
  rw [Host.dynamicUpdateSlice_apply]
  by_cases h : t = j
  · subst h
    rw [if_pos rfl, dif_pos (fun a => by
      fin_cases a
      · exact ⟨le_of_eq c0, by show t.val < Host.clampedStart S4352x4x1024 S1x4x1024 rfl start 0 + 1; omega⟩
      · exact ⟨by show Host.clampedStart S4352x4x1024 S1x4x1024 rfl start 1 ≤ b.val; omega,
          by show b.val < Host.clampedStart S4352x4x1024 S1x4x1024 rfl start 1 + 4; omega⟩
      · exact ⟨by show Host.clampedStart S4352x4x1024 S1x4x1024 rfl start 2 ≤ d.val; omega,
          by show d.val < Host.clampedStart S4352x4x1024 S1x4x1024 rfl start 2 + 1024; omega⟩)]
    refine congrArg u ?_
    funext a
    fin_cases a
    · exact Fin.ext (by show t.val - Host.clampedStart S4352x4x1024 S1x4x1024 rfl start 0 = 0; omega)
    · exact Fin.ext (by show b.val - Host.clampedStart S4352x4x1024 S1x4x1024 rfl start 1 = b.val; omega)
    · exact Fin.ext (by show d.val - Host.clampedStart S4352x4x1024 S1x4x1024 rfl start 2 = d.val; omega)
  · rw [if_neg h, dif_neg]
    intro hin
    have := hin 0
    have h' : Host.clampedStart S4352x4x1024 S1x4x1024 rfl start 0 ≤ t.val ∧ t.val < Host.clampedStart S4352x4x1024 S1x4x1024 rfl start 0 + 1 := this
    exact h (Fin.ext (by omega))

/-- One trip of the loop on the state. -/
theorem b9_apply (j : Fin 4352) (s : State Ideal) (b : Fin 4) (d : Fin 1024) :
    b9 j.val s (ix2 b d) = s.main_v96_0 (ix3 j b d) * s.main_v96_3 (ix2 b d) + s.main_v96_1 (ix3 j b d) := by
  have ej : (BitVec.ofNat 32 j.val).toInt = (j.val : Int) := toInt_ofNat_of_lt (by omega)
  have e2 : b2 j.val s (ix3 0 b d) = s.main_v96_0 (ix3 j b d) := by
    unfold b2
    exact slice_apply _ _ j ej rfl rfl b d
  have e6 : b6 j.val s (ix3 0 b d) = s.main_v96_1 (ix3 j b d) := by
    unfold b6
    exact slice_apply _ _ j ej rfl rfl b d
  pointwise [b9, b8, b7, b3, e2, e6]

/-- One trip of the loop on the stacked states. -/
theorem b13_apply (j : Fin 4352) (s : State Ideal) (t : Fin 4352) (b : Fin 4) (d : Fin 1024) :
    b13 j.val s (ix3 t b d) = if t = j then b9 j.val s (ix2 b d) else s.main_v96_4 (ix3 t b d) := by
  have ej : (BitVec.ofNat 32 j.val).toInt = (j.val : Int) := toInt_ofNat_of_lt (by omega)
  have e10 : b10 j.val s (ix3 0 b d) = b9 j.val s (ix2 b d) := by pointwise [b10]
  unfold b13
  rw [← e10]
  exact update_apply _ _ _ j ej rfl rfl t b d

/-- A trip writes the stepped state and the stack with it. -/
theorem stepped (V : Valuation τ sig (Elt Ideal)) (j : ℕ) (s : State Ideal)
    (hn : V (Proc.devRef .tc main_v96_2) = constantI S_ 32 (BitVec.ofNat 32 j))
    (h0 : V (Proc.devRef .tc main_v96_0) = s.main_v96_0) (h1 : V (Proc.devRef .tc main_v96_1) = s.main_v96_1)
    (h3 : V (Proc.devRef .tc main_v96_3) = s.main_v96_3) (h4 : V (Proc.devRef .tc main_v96_4) = s.main_v96_4) :
    Value.step_main_v96_3 V = b9 j s ∧ Value.step_main_v96_4 V = b13 j s := by
  have e : res_main_while0b_v163 V = b9 j s := by
    unfold res_main_while0b_v163
    rw [h0, h1, h3, hn]
    rfl
  constructor
  · exact e
  · unfold Value.step_main_v96_4
    rw [e, h4, hn]
    rfl

/-- Before trip `j` the loop holds: the trip's number, the decays `A`, the inputs `B`, the state after `j` steps, and the
    stacked states of the first `j` steps. -/
structure Before (A B : Vec Ideal S4352x4x1024 .f32) (α β : Fin 4 → Fin 1024 → ℕ → EReal) (V : Valuation τ sig (Elt Ideal)) (j : ℕ) : Prop where
  number : V (Proc.devRef .tc main_v96_2) = constantI S_ 32 (BitVec.ofNat 32 j)
  decays : V (Proc.devRef .tc main_v96_0) = A
  inputs : V (Proc.devRef .tc main_v96_1) = B
  state : ∀ (b : Fin 4) (d : Fin 1024), (V (Proc.devRef .tc main_v96_3) : Vec Ideal S4x1024 .f32) (ix2 b d) = seg (α b d) (β b d) 0 j 0
  stack : ∀ (t : Fin 4352) (b : Fin 4) (d : Fin 1024), t.val < j →
    (V (Proc.devRef .tc main_v96_4) : Vec Ideal S4352x4x1024 .f32) (ix3 t b d) = seg (α b d) (β b d) 0 (t.val + 1) 0

/-- A trip takes the loop from one step's contents to the next's. -/
theorem Before.next {A B : Vec Ideal S4352x4x1024 .f32} {α β : Fin 4 → Fin 1024 → ℕ → EReal} {V : Valuation τ sig (Elt Ideal)}
    (hA : ∀ (t : Fin 4352) b d, A (ix3 t b d) = α b d t.val) (hB : ∀ (t : Fin 4352) b d, B (ix3 t b d) = β b d t.val)
    {j : ℕ} (hj : j < 4352) (h : Before A B α β V j) : Before A B α β (STEP V) (j + 1) := by
  obtain ⟨e3, e4⟩ := stepped V j ⟨V (Proc.devRef .tc main_v96_3), V (Proc.devRef .tc main_v96_4), V (Proc.devRef .tc main_v96_0),
    V (Proc.devRef .tc main_v96_1)⟩ h.number rfl rfl rfl rfl
  have hs : ∀ (b : Fin 4) (d : Fin 1024), (b9 j ⟨V (Proc.devRef .tc main_v96_3), V (Proc.devRef .tc main_v96_4),
      V (Proc.devRef .tc main_v96_0), V (Proc.devRef .tc main_v96_1)⟩ : Vec Ideal S4x1024 .f32) (ix2 b d)
      = seg (α b d) (β b d) 0 (j + 1) 0 := fun b d => by
    refine (b9_apply ⟨j, hj⟩ _ b d).trans ?_
    have e0 := (congrFun h.decays (ix3 ⟨j, hj⟩ b d)).trans (hA ⟨j, hj⟩ b d)
    have e1 := (congrFun h.inputs (ix3 ⟨j, hj⟩ b d)).trans (hB ⟨j, hj⟩ b d)
    have e : ∀ {x y z x' y' z' : EReal}, x = x' → y = y' → z = z' → x * y + z = x' * y' + z' := by
      intro x y z x' y' z' h1 h2 h3
      rw [h1, h2, h3]
    exact (e e0 (h.state b d) e1).trans (by rw [seg, Nat.zero_add])
  refine ⟨?_, (STEP_main_v96_0 V).trans h.decays, (STEP_main_v96_1 V).trans h.inputs, fun b d => ?_, fun t b d ht => ?_⟩
  · refine (STEP_main_v96_2 V).trans ?_
    unfold Value.step_main_v96_2
    rw [h.number]
    funext i
    show BitVec.ofNat 32 j + 1#32 = BitVec.ofNat 32 (j + 1)
    simp only [BitVec.ofNat_add]
  · rw [STEP_main_v96_3 V, e3]
    exact hs b d
  · rw [STEP_main_v96_4 V, e4]
    refine (b13_apply ⟨j, hj⟩ _ t b d).trans ?_
    by_cases e : t = ⟨j, hj⟩
    · rw [if_pos e]
      subst e
      exact hs b d
    · rw [if_neg e]
      exact h.stack t b d (by have : t.val ≠ j := fun h' => e (Fin.ext h'); omega)

/-- The contents before each trip, from the contents before the first. -/
theorem Before.iterate {A B : Vec Ideal S4352x4x1024 .f32} {α β : Fin 4 → Fin 1024 → ℕ → EReal} {V : Valuation τ sig (Elt Ideal)}
    (hA : ∀ (t : Fin 4352) b d, A (ix3 t b d) = α b d t.val) (hB : ∀ (t : Fin 4352) b d, B (ix3 t b d) = β b d t.val)
    (h : Before A B α β V 0) : ∀ j ≤ 4352, Before A B α β (STEP^[j] V) j
  | 0, _ => h
  | j + 1, hj => by
    rw [Function.iterate_succ_apply']
    exact (Before.iterate hA hB h j (by omega)).next hA hB (by omega)

end Cert.RgRefIdeal.Loop
end
-- ==== Proof.RgRefRead.lean ====
module
public import proofs.«01_k».proof.Proof.Gen.RgRefIdeal.Step
public import proofs.«01_k».proof.Proof.RgLayer
public import Idealize.ShloMosaic.Lib.Pointwise
public import Idealize.ShloMosaic.Lib.WordCmp
@[expose] public section

/-! The reference's values before its loop, read at one step and one feature. -/

set_option maxRecDepth 16384
noncomputable section
namespace Cert.RgRefIdeal.AtIndex
open Cert.RgRefIdeal Cert.RgRefIdeal.Gen Cert.RgRefIdeal.Step Idealize.ShloMosaic Cert.Rows Cert.Recur

variable (x0 : Vec Ideal S17408x1024 .f32) (x1 x2 : Vec Ideal S1024 .f32) (x3 x4 : Vec Ideal S1024x1024 .f32) (x5 : Vec Ideal S4x1024 .f32)
  (x6 : Vec Ideal S1024 .f32) (x7 : Vec Ideal S4x256x256 .f32) (x8 : Vec Ideal S4x256 .f32) (x9 : Vec Ideal S4x256x256 .f32)
  (x10 : Vec Ideal S4x256 .f32) (x11 : Vec Ideal S1024 .f32) (x12 : Vec Ideal S1024x1024 .f32)

/-- The layer's inputs, from the reference's arguments. -/
def layer : Layer where
  h i k := x0 (ix2 i k)
  gPre k := x1 (ix1 k)
  gPost k := x2 (ix1 k)
  wGate k j := x3 (ix2 k j)
  wX k j := x4 (ix2 k j)
  cw k j := x5 (ix2 k j)
  cb k := x6 (ix1 k)
  wa q k j := x7 (ix3 q k j)
  ba d := x8 (ix2 ⟨d.val / 256, by omega⟩ ⟨d.val % 256, by omega⟩)
  wi q k j := x9 (ix3 q k j)
  bi d := x10 (ix2 ⟨d.val / 256, by omega⟩ ⟨d.val % 256, by omega⟩)
  lam k := x11 (ix1 k)
  wOut k j := x12 (ix2 k j)

/-- The normed row. -/
theorem normed_apply (i : Fin 17408) (k : Fin 1024) :
    A_main_v13 (F := Ideal) x0 x1 x4 x5 x6 x7 x8 x9 x10 x11 (ix2 i k) = rms (fun k => x0 (ix2 i k)) (fun k => x1 (ix1 k)) k := by
  pointwise [A_main_v13, A_main_v12, A_main_v11, A_main_v10, A_main_v9, A_main_v8, A_main_v7, A_main_v5, A_main_v3, A_main_v2, A_main_v1,
    K_main_v4, K_main_v6, K_main_cst_0, K_main_cst_1, K_main_cst_2]
  rfl

/-- The branch: the normed row times its weights. -/
theorem branch_apply (b : Fin 4) (t : Fin 4352) (d : Fin 1024) :
    A_main_v15 (F := Ideal) x0 x1 x4 x5 x6 x7 x8 x9 x10 x11 (ix3 b t d)
      = (layer x0 x1 x2 x3 x4 x5 x6 x7 x8 x9 x10 x11 x12).branch (fun k j => x4 (ix2 k j)) b t d := by
  pointwise [A_main_v15, A_main_v14, normed_apply]
  have e : (⟨b.val * 4352 + t.val, by omega⟩ : Fin 17408) = Layer.row b t := Fin.ext (by show b.val * 4352 + t.val = 4352 * b.val + t.val; omega)
  exact congrArg (fun R : Fin 17408 => dot (rms (fun k => x0 (ix2 R k)) (fun k => x1 (ix1 k))) (fun k j => x4 (ix2 k j)) d) e

/-- The branch with the three rows of zeros before it. -/
theorem past_apply (b : Fin 4) (t : Fin 4355) (d : Fin 1024) :
    A_main_v16 (F := Ideal) x0 x1 x4 x5 x6 x7 x8 x9 x10 x11 (ix3 b t d)
      = past ((layer x0 x1 x2 x3 x4 x5 x6 x7 x8 x9 x10 x11 x12).xb b) t.val d := by
  pointwise [A_main_v16, branch_apply x0 x1 x2 x3 x4 x5 x6 x7 x8 x9 x10 x11 x12, K_main_v0, K_main_cst]
  unfold past Layer.xb
  by_cases h : t.val < 3
  · rw [dif_pos h, if_neg (by omega)]
  · rw [dif_neg h, if_pos (show 3 ≤ t.val by omega), dif_pos (show t.val - 3 < 4352 by omega)]
    rfl

/-- The convolution. -/
theorem conv_apply (b : Fin 4) (t : Fin 4352) (d : Fin 1024) :
    A_main_v46 (F := Ideal) x0 x1 x4 x5 x6 x7 x8 x9 x10 x11 (ix3 b t d)
      = (layer x0 x1 x2 x3 x4 x5 x6 x7 x8 x9 x10 x11 x12).xc b t.val d := by
  pointwise [A_main_v46, A_main_v45, A_main_v44, A_main_v43, A_main_v42, A_main_v41, A_main_v40, A_main_v39, A_main_v38, A_main_v37, A_main_v36,
    A_main_v35, A_main_v34, A_main_v33, A_main_v32, A_main_v31, A_main_v30, A_main_v29, A_main_v28, A_main_v27, A_main_v26, A_main_v25, A_main_v24,
    A_main_v23, A_main_v22, A_main_v21, A_main_v20, A_main_v19, A_main_v18, A_main_v17, past_apply x0 x1 x2 x3 x4 x5 x6 x7 x8 x9 x10 x11 x12]
  rw [Nat.add_comm 1 t.val, Nat.add_comm 2 t.val, Nat.add_comm 3 t.val]
  rfl

/-- One head's product for the recurrence gate. -/
theorem headA_apply (b : Fin 4) (t : Fin 4352) (q : Fin 4) (j : Fin 256) :
    A_main_v49 (F := Ideal) x0 x1 x4 x5 x6 x7 x8 x9 x10 x11 (ix4 b t q j)
      = ∑ k : Fin 256, (layer x0 x1 x2 x3 x4 x5 x6 x7 x8 x9 x10 x11 x12).xc b t.val ⟨q.val * 256 + k.val, by omega⟩ * x7 (ix3 q k j) := by
  pointwise [A_main_v49, A_main_v48, A_main_v47, conv_apply x0 x1 x2 x3 x4 x5 x6 x7 x8 x9 x10 x11 x12]
  exact Finset.sum_congr rfl fun k _ => mul_comm _ _

/-- One head's product for the input gate. -/
theorem headI_apply (b : Fin 4) (t : Fin 4352) (q : Fin 4) (j : Fin 256) :
    A_main_v61 (F := Ideal) x0 x1 x4 x5 x6 x7 x8 x9 x10 x11 (ix4 b t q j)
      = ∑ k : Fin 256, (layer x0 x1 x2 x3 x4 x5 x6 x7 x8 x9 x10 x11 x12).xc b t.val ⟨q.val * 256 + k.val, by omega⟩ * x9 (ix3 q k j) := by
  pointwise [A_main_v61, A_main_v60, A_main_v47, conv_apply x0 x1 x2 x3 x4 x5 x6 x7 x8 x9 x10 x11 x12]
  exact Finset.sum_congr rfl fun k _ => mul_comm _ _

/-- The recurrence gate. -/
theorem gateA_apply (b : Fin 4) (t : Fin 4352) (d : Fin 1024) :
    A_main_v59 (F := Ideal) x0 x1 x4 x5 x6 x7 x8 x9 x10 x11 (ix3 b t d)
      = gate ((layer x0 x1 x2 x3 x4 x5 x6 x7 x8 x9 x10 x11 x12).xc b t.val) (layer x0 x1 x2 x3 x4 x5 x6 x7 x8 x9 x10 x11 x12).wa
          (layer x0 x1 x2 x3 x4 x5 x6 x7 x8 x9 x10 x11 x12).ba d := by
  pointwise [A_main_v59, A_main_v58, A_main_v56, A_main_v54, A_main_v53, A_main_v52, A_main_v51, A_main_v50, K_main_v55, K_main_v57, K_main_cst_3,
    K_main_cst_4, headA_apply x0 x1 x2 x3 x4 x5 x6 x7 x8 x9 x10 x11 x12]
  rfl

/-- The softplus of the negated decay parameter. -/
theorem softplus_apply (d : Fin 1024) :
    A_main_v75 (F := Ideal) x0 x1 x4 x5 x6 x7 x8 x9 x10 x11 (ix1 d) = AttnMath.sp (-(x11 (ix1 d))) := by
  pointwise [A_main_v75, A_main_call0_v11, A_main_call0_v10, A_main_call0_v9, A_main_call0_v8, A_main_call0_v7, A_main_call0_v6, A_main_call0_v4,
    A_main_call0_v3, A_main_call0_v1, A_main_v74, K_main_call0_v0, K_main_call0_v2, K_main_call0_v5, K_main_call0_cst]
  rw [if_neg (fun h => h rfl)]
  rfl

/-- The input gate. -/
theorem gateI_apply (b : Fin 4) (t : Fin 4352) (d : Fin 1024) :
    A_main_v71 (F := Ideal) x0 x1 x4 x5 x6 x7 x8 x9 x10 x11 (ix3 b t d)
      = gate ((layer x0 x1 x2 x3 x4 x5 x6 x7 x8 x9 x10 x11 x12).xc b t.val) (layer x0 x1 x2 x3 x4 x5 x6 x7 x8 x9 x10 x11 x12).wi
          (layer x0 x1 x2 x3 x4 x5 x6 x7 x8 x9 x10 x11 x12).bi d := by
  pointwise [A_main_v71, A_main_v70, A_main_v68, A_main_v66, A_main_v65, A_main_v64, A_main_v63, A_main_v62, K_main_v67, K_main_v69, K_main_cst_5,
    K_main_cst_6, headI_apply x0 x1 x2 x3 x4 x5 x6 x7 x8 x9 x10 x11 x12]
  rfl

/-- The logarithm of the decays. -/
theorem log_apply (b : Fin 4) (t : Fin 4352) (d : Fin 1024) :
    A_main_v78 (F := Ideal) x0 x1 x4 x5 x6 x7 x8 x9 x10 x11 (ix3 b t d)
      = (layer x0 x1 x2 x3 x4 x5 x6 x7 x8 x9 x10 x11 x12).logA b d t.val := by
  pointwise [A_main_v78, A_main_v77, A_main_v76, A_main_v73, K_main_v72, K_main_cst_7, softplus_apply, gateA_apply x0 x1 x2 x3 x4 x5 x6 x7 x8 x9 x10 x11 x12]
  rfl

/-- The decays, step by step. -/
theorem decays_apply (t : Fin 4352) (b : Fin 4) (d : Fin 1024) :
    A_main_v93 (F := Ideal) x0 x1 x4 x5 x6 x7 x8 x9 x10 x11 (ix3 t b d)
      = (layer x0 x1 x2 x3 x4 x5 x6 x7 x8 x9 x10 x11 x12).A b d t.val := by
  pointwise [A_main_v93, A_main_v79, log_apply x0 x1 x2 x3 x4 x5 x6 x7 x8 x9 x10 x11 x12]
  rfl

/-- A selection by the bit of a proposition. -/
theorem select_ite {α : Type} (p : Prop) [Decidable p] (a b : α) : Scalar.select (if p then 1#1 else 0#1) a b = if p then a else b := by
  by_cases h : p <;> simp [h, Scalar.select]

/-- The inputs, step by step. -/
theorem inputs_apply (t : Fin 4352) (b : Fin 4) (d : Fin 1024) :
    A_main_v94 (F := Ideal) x0 x1 x4 x5 x6 x7 x8 x9 x10 x11 (ix3 t b d)
      = (layer x0 x1 x2 x3 x4 x5 x6 x7 x8 x9 x10 x11 x12).B b d t.val := by
  pointwise [A_main_v94, A_main_v91, A_main_v90, A_main_v89, A_main_v84, A_main_v83, A_main_v82, A_main_v81, K_main_v80, K_main_cst_8,
    K_main_call1_v1, K_main_call1_v2, K_main_call1_v0, K_main_cst_9, K_main_v88, K_main_v87, K_main_v86, K_main_v85, K_main_c,
    log_apply x0 x1 x2 x3 x4 x5 x6 x7 x8 x9 x10 x11 x12, gateI_apply x0 x1 x2 x3 x4 x5 x6 x7 x8 x9 x10 x11 x12, conv_apply x0 x1 x2 x3 x4 x5 x6 x7 x8 x9 x10 x11 x12]
  rw [mul_assoc, WordCmp.cmpi_eq_ofNat (w := 32) (b := 0) (by omega) (by omega), WordCmp.ofBool_decide_eq_ite, select_ite]
  unfold Layer.B inScale
  refine congrArg (· * _) (if_congr Iff.rfl ?_ rfl)
  exact Ideal.ofBits_one_f32

/-- The loop's first state. -/
theorem first_apply (b : Fin 4) (d : Fin 1024) : K_main_v92 (F := Ideal) (ix2 b d) = 0 := by
  pointwise [K_main_v92, K_main_cst_10]

/-- The half of the gated unit may be taken last. -/
theorem gelu_mul (v : EReal) : v * (Ideal.ofBits .f32 0x3F000000#32 * (1 + Ideal.tanh (Ideal.ofBits .f32 0x3F4C422A#32 *
    (v + Ideal.ofBits .f32 0x3D372713#32 * (v * v * v))))) = gelu v := by
  unfold gelu
  rw [← mul_assoc, mul_comm v]

/-- The layer's result, from the stacked states. -/
theorem result_apply (s : State Ideal) (hs : ∀ (t : Fin 4352) (b : Fin 4) (d : Fin 1024), s.main_v96_4 (ix3 t b d) = (layer x0 x1 x2 x3 x4 x5 x6 x7 x8 x9 x10 x11 x12).state b d (t.val + 1))
    (b : Fin 4) (t : Fin 4352) (d : Fin 1024) :
    R_main_v142 (F := Ideal) s x0 x1 x2 x3 x12 (ix2 (Layer.row b t) d) = (layer x0 x1 x2 x3 x4 x5 x6 x7 x8 x9 x10 x11 x12).out b t d := by
  pointwise [R_main_v142]
  have hb : ∀ l : Fin 1024, (∑ x : Fin 1024, x0 (ix2 (Layer.row b t) x) * Ideal.rsqrt (Ideal.div
      (∑ y : Fin 1024, x0 (ix2 (Layer.row b t) y) * x0 (ix2 (Layer.row b t) y)) (Ideal.ofBits .f32 0x44800000#32)
        + Ideal.ofBits .f32 0x358637BD#32) * x1 (ix1 x) * x3 (ix2 x l)) = (layer x0 x1 x2 x3 x4 x5 x6 x7 x8 x9 x10 x11 x12).branch (layer x0 x1 x2 x3 x4 x5 x6 x7 x8 x9 x10 x11 x12).wGate b t l := fun _ => rfl
  have ht : (⟨(Layer.row b t).val % 4352, Nat.mod_lt _ (by omega)⟩ : Fin 4352) = t :=
    Fin.ext (by show (4352 * b.val + t.val) % 4352 = t.val; omega)
  have hd : (⟨(Layer.row b t).val / 4352, by have := (Layer.row b t).isLt; omega⟩ : Fin 4) = b :=
    Fin.ext (by show (4352 * b.val + t.val) / 4352 = b.val; omega)
  have hl : ∀ l : Fin 1024, s.main_v96_4 (ix3 ⟨(Layer.row b t).val % 4352, Nat.mod_lt _ (by omega)⟩
      ⟨(Layer.row b t).val / 4352, by have := (Layer.row b t).isLt; omega⟩ l) = (layer x0 x1 x2 x3 x4 x5 x6 x7 x8 x9 x10 x11 x12).state b l (t.val + 1) := fun l => by
    rw [ht, hd, hs]
  simp only [hb, hl, gelu_mul]
  rfl

/-- The last rows of the branch. -/
theorem branchTail_apply (s : State Ideal) (b : Fin 4) (r : Fin 8) (d : Fin 1024) :
    R_main_v158 (F := Ideal) s x0 x1 x4 (ix3 b r d) = (layer x0 x1 x2 x3 x4 x5 x6 x7 x8 x9 x10 x11 x12).xb b (4104 + r.val) d := by
  pointwise [R_main_v158]
  have e : (⟨b.val * 4352 + (4104 + r.val), by omega⟩ : Fin 17408) = Layer.row b ⟨4104 + r.val, by omega⟩ :=
    Fin.ext (by show b.val * 4352 + (4104 + r.val) = 4352 * b.val + (4104 + r.val); omega)
  unfold Layer.xb
  rw [dif_pos (by omega)]
  exact congrArg (fun R : Fin 17408 => dot (rms (fun k => x0 (ix2 R k)) (fun k => x1 (ix1 k))) (fun k j => x4 (ix2 k j)) d) e

/-- The last states. -/
theorem stateTail_apply (s : State Ideal) (hs : ∀ (t : Fin 4352) (b : Fin 4) (d : Fin 1024), s.main_v96_4 (ix3 t b d) = (layer x0 x1 x2 x3 x4 x5 x6 x7 x8 x9 x10 x11 x12).state b d (t.val + 1))
    (b : Fin 4) (r : Fin 8) (d : Fin 1024) :
    R_main_v159 (F := Ideal) s (ix3 b r d) = (layer x0 x1 x2 x3 x4 x5 x6 x7 x8 x9 x10 x11 x12).state b d (4104 + r.val + 1) := by
  pointwise [R_main_v159, hs]

end Cert.RgRefIdeal.AtIndex
end
-- ==== Proof.RgResults.lean ====
module
public import proofs.«01_k».proof.Proof.RgRun
public import proofs.«01_k».proof.Proof.RgRefRead
@[expose] public section

/-! The reference's results: its loop computes the layer's states, and what follows reads them. -/

set_option maxRecDepth 16384
noncomputable section
namespace Cert.RgRefIdeal.Loop
open Cert.Recur
open Idealize.ShloMosaic Idealize.ShloMosaic.TcCoe Idealize.SL.Sem Idealize.ShloMosaic.StableHlo
open Cert.RgRefIdeal Cert.RgRefIdeal.Gen Cert.RgRefIdeal.Value Cert.RgRefIdeal.Step

variable (m : (ℓ : Loc nD τ sig) → Buf (Elt Ideal) ℓ) (c : Dev nD)

/-- The layer's inputs, read from the arguments. -/
def layer : Layer :=
  AtIndex.layer
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11)) (m ((c.tc : Thread nD τ).loc main_arg12))

variable (n : ℕ)

/-- The contents after `n` trips of the loop. -/
abbrev last : Valuation τ sig (Elt Ideal) := STEP^[n] (entryContents preI m c)

/-- The loop's carried values after `n` trips. -/
def lastState : State Ideal :=
  ⟨last m c n (Proc.devRef .tc main_v96_3), last m c n (Proc.devRef .tc main_v96_4), last m c n (Proc.devRef .tc main_v96_0),
    last m c n (Proc.devRef .tc main_v96_1)⟩

/-- The loop's contents before the first trip. -/
theorem before_first : Before (entryContents preI m c (Proc.devRef .tc main_v96_0)) (entryContents preI m c (Proc.devRef .tc main_v96_1))
    (layer m c).A (layer m c).B (entryContents preI m c) 0 := by
  refine ⟨entry_number m c, rfl, rfl, fun b d => ?_, fun t b d h => absurd h (Nat.not_lt_zero _)⟩
  exact (congrFun (entry m c) (ix2 b d)).trans (AtIndex.first_apply b d)

/-- The stacked states are the layer's states. -/
theorem last_stack (hn : n = 4352) (t : Fin 4352) (b : Fin 4) (d : Fin 1024) :
    (lastState m c n).main_v96_4 (ix3 t b d) = (layer m c).state b d (t.val + 1) :=
  ((before_first m c).iterate
    (fun t b d => (congrFun (entry_decays m c) (ix3 t b d)).trans (AtIndex.decays_apply _ _ _ _ _ _ _ _ _ _ _ _ _ t b d))
    (fun t b d => (congrFun (entry_inputs m c) (ix3 t b d)).trans (AtIndex.inputs_apply _ _ _ _ _ _ _ _ _ _ _ _ _ t b d))
    n (le_of_eq hn)).stack t b d (by omega)

/-- The layer's result. -/
theorem result_apply (hn : n = 4352) (b : Fin 4) (t : Fin 4352) (d : Fin 1024) :
    (out_main_v142 (last m c n) : Vec Ideal S17408x1024 .f32) (ix2 (Layer.row b t) d) = (layer m c).out b t d := by
  have e : out_main_v142 (last m c n) = R_main_v142 (lastState m c n) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg12)) := by
    unfold out_main_v142 R_main_v142 last
    rw [iter_main_arg0 m c n, iter_main_arg1 m c n, iter_main_arg2 m c n, iter_main_arg3 m c n, iter_main_arg12 m c n]
    rfl
  exact (congrFun e _).trans (AtIndex.result_apply
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11)) (m ((c.tc : Thread nD τ).loc main_arg12))
    (lastState m c n) (last_stack m c n hn) b t d)

/-- The branch's last rows. -/
theorem branchTail_apply (b : Fin 4) (r : Fin 8) (d : Fin 1024) :
    (out_main_v158 (last m c n) : Vec Ideal S4x8x1024 .f32) (ix3 b r d) = (layer m c).xb b (4104 + r.val) d := by
  have e : out_main_v158 (last m c n) = R_main_v158 (lastState m c n) (m ((c.tc : Thread nD τ).loc main_arg0)) (m ((c.tc : Thread nD τ).loc main_arg1)) (m ((c.tc : Thread nD τ).loc main_arg4)) := by
    unfold out_main_v158 R_main_v158 last
    rw [iter_main_arg0 m c n, iter_main_arg1 m c n, iter_main_arg4 m c n]
  exact (congrFun e _).trans (AtIndex.branchTail_apply
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11)) (m ((c.tc : Thread nD τ).loc main_arg12))
    (lastState m c n) b r d)

/-- The last states. -/
theorem stateTail_apply (hn : n = 4352) (b : Fin 4) (r : Fin 8) (d : Fin 1024) :
    (out_main_v159 (last m c n) : Vec Ideal S4x8x1024 .f32) (ix3 b r d) = (layer m c).state b d (4104 + r.val + 1) := by
  have e : out_main_v159 (last m c n) = R_main_v159 (lastState m c n) := by
    unfold out_main_v159 R_main_v159
    rfl
  exact (congrFun e _).trans (AtIndex.stateTail_apply
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11)) (m ((c.tc : Thread nD τ).loc main_arg12))
    (lastState m c n) (last_stack m c n hn) b r d)

end Cert.RgRefIdeal.Loop
end
-- ==== Proof.RgClaim.lean ====
module
public import proofs.«01_k».proof.Defs
public import proofs.«01_k».proof.Proof.RgArrays
public import proofs.«01_k».proof.Proof.RgResults
@[expose] public section

/-! The recurrent layer's kernel leaves the arrays its reference leaves. -/

set_option maxRecDepth 16384
noncomputable section
namespace Cert.Proof
open Idealize.ShloMosaic Idealize.ShloMosaic.TcCoe Idealize.SL.Sem

/-- Over the extended reals, the kernel computes the layer's result, the last rows of its branch and its last states. -/
theorem rg_algebraic : algebraic_RgIdeal_RgRefIdeal (hRgIdeal := Cert.RgIdeal.Gen.facts)
    (hRgRefIdeal := Cert.RgRefIdeal.Gen.facts) := by
  intro m g m' g' _ hagree
  refine ⟨fun c => Cert.RgIdeal.Block.results m c, fun c => Cert.RgIdeal.Block.branchTails m c,
    fun c => Cert.RgIdeal.Block.stateTails m c, ?_, ?_⟩
  · exact (θ_run _ _ _).mono (fun r h c => ⟨(h c).1.trans (Cert.RgIdeal.Block.results_eq m c),
      (h c).2.1.trans (Cert.RgIdeal.Block.branchTails_eq m c), (h c).2.2.1.trans (Cert.RgIdeal.Block.stateTails_eq m c), (h c).2.2.2⟩)
      (Cert.RgIdeal.Value.run_blocks m g)
  · have hl : ∀ c, Cert.RgRefIdeal.Loop.layer m' c = Cert.RgIdeal.Block.layer m c := fun c => by
      obtain ⟨h0, h1, h2, h3, h4, h5, h6, h7, h8, h9, h10, h11, h12⟩ := hagree c
      unfold Cert.RgRefIdeal.Loop.layer
      rw [h0, h1, h2, h3, h4, h5, h6, h7, h8, h9, h10, h11, h12]
      rfl
    refine (θ_run _ _ _).mono (fun r h c => ⟨(h c).1.trans ?_, (h c).2.1.trans ?_, (h c).2.2.1.trans ?_, (h c).2.2.2⟩)
      (Cert.RgRefIdeal.Value.run m' g')
    · funext y
      have hy : y = ix2 (Cert.Recur.Layer.row ⟨(y 0).val / 4352, by have : (y 0).val < 17408 := (y 0).isLt; omega⟩
          ⟨(y 0).val % 4352, Nat.mod_lt _ (by omega)⟩) (y 1) := by
        rw [eq_ix2 y]
        refine congrArg (fun i => ix2 i _) (Fin.ext ?_)
        show (y 0).val = 4352 * ((y 0).val / 4352) + (y 0).val % 4352
        omega
      rw [hy]
      refine (Cert.RgRefIdeal.Loop.result_apply m' c 4352 rfl _ _ _).trans ?_
      rw [hl c, ← hy]
      rfl
    · funext y
      rw [eq_ix3 y]
      refine (Cert.RgRefIdeal.Loop.branchTail_apply m' c 4352 _ _ _).trans ?_
      rw [hl c]
      rfl
    · funext y
      rw [eq_ix3 y]
      refine (Cert.RgRefIdeal.Loop.stateTail_apply m' c 4352 rfl _ _ _).trans ?_
      rw [hl c]
      rfl

end Cert.Proof
end
-- ==== Proof.lean ====
module

public import proofs.«01_k».proof.Defs
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Attn
public import proofs.«01_k».proof.Proof.Gen.Attn.Frame
public import proofs.«01_k».proof.Proof.Gen.Attn.Loops
public import proofs.«01_k».proof.Proof.Gen.AttnIdeal
public import proofs.«01_k».proof.Proof.Gen.AttnIdeal.Frame
public import proofs.«01_k».proof.Proof.Gen.AttnIdeal.Loops
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Rg
public import proofs.«01_k».proof.Proof.Gen.Rg.Frame
public import proofs.«01_k».proof.Proof.Gen.RgIdeal
public import proofs.«01_k».proof.Proof.Gen.RgIdeal.Frame
public import proofs.«01_k».proof.Proof.Gen.RgIdeal.Value
public import proofs.«01_k».proof.Proof.Gen.RgRefIdeal
public import proofs.«01_k».proof.Proof.Gen.RgRefIdeal.Run
public import proofs.«01_k».proof.Proof.Gen.RgRefIdeal.Step
public import proofs.«01_k».proof.Proof.MlpClaim
public import proofs.«01_k».proof.Proof.ProjClaim
public import proofs.«01_k».proof.Proof.QkvClaim
public import proofs.«01_k».proof.Proof.AttnClaim
public import proofs.«01_k».proof.Proof.RgClaim
public import proofs.«01_k».proof.Proof.AttnBitsRun

@[expose] public section

noncomputable section

namespace Cert.Proof

open Idealize.ShloMosaic Idealize.SL.Sem

theorem claim : Cert.Claim :=
  ⟨Cert.Mlp.Gen.facts, Cert.MlpIdeal.Gen.facts, Cert.MlpRefIdeal.Gen.facts,
    Cert.Proj.Gen.facts, Cert.ProjIdeal.Gen.facts, Cert.ProjRefIdeal.Gen.facts,
    Cert.Qkv.Gen.facts, Cert.QkvIdeal.Gen.facts, Cert.QkvRefIdeal.Gen.facts,
    Cert.Attn.Gen.facts, Cert.AttnIdeal.Gen.facts, Cert.AttnRefIdeal.Gen.facts,
    Cert.Rg.Gen.facts, Cert.RgIdeal.Gen.facts, Cert.RgRefIdeal.Gen.facts,
    fun m ρ _ => Cert.Mlp.Gen.frame m ρ, fun m ρ _ => Cert.MlpIdeal.Gen.frame m ρ,
    fun m ρ _ => (θ_run _ _ _).mono (fun r h => ⟨fun c => (h c).2, sem_eq_zero_of_no_sems (by decide) r.2⟩)
      (Cert.MlpRefIdeal.Value.run m ρ),
    fun m ρ _ => Cert.Proj.Gen.frame m ρ, fun m ρ _ => Cert.ProjIdeal.Gen.frame m ρ,
    fun m ρ _ => (θ_run _ _ _).mono (fun r h => ⟨fun c => (h c).2, sem_eq_zero_of_no_sems (by decide) r.2⟩)
      (Cert.ProjRefIdeal.Value.run m ρ),
    fun m ρ _ => Cert.Qkv.Gen.frame m ρ, fun m ρ _ => Cert.QkvIdeal.Gen.frame m ρ,
    fun m ρ _ => (θ_run _ _ _).mono (fun r h => ⟨fun c => (h c).2.2, sem_eq_zero_of_no_sems (by decide) r.2⟩)
      (Cert.QkvRefIdeal.Value.run m ρ),
    fun m ρ _ => Cert.AttnBits.frame_attn m ρ, fun m ρ _ => Cert.AttnLoop.frame_attn m ρ,
    fun m ρ _ => (θ_run _ _ _).mono (fun r h => ⟨fun c => (h c).2, sem_eq_zero_of_no_sems (by decide) r.2⟩)
      (Cert.AttnRefIdeal.Value.run m ρ),
    fun m ρ _ => Cert.Rg.Gen.frame m ρ, fun m ρ _ => Cert.RgIdeal.Gen.frame m ρ,
    fun m ρ _ => (θ_run _ _ _).mono (fun r h => ⟨fun c => (h c).2.2.2, sem_eq_zero_of_no_sems (by decide) r.2⟩)
      (Cert.RgRefIdeal.Value.run m ρ),
    trivial, mlp_algebraic, trivial, proj_algebraic, trivial, qkv_algebraic,
    IdealRules.named_const.statement Cert.AttnIdeal.κ "log2e" .f32 0x3FB8AA3B#32 _ rfl, attn_algebraic,
    trivial, rg_algebraic⟩

end Cert.Proof

end
